-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_parts [hPre_finite_parts : Cert.Pre_finite_parts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_parts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_parts [hPre_finite_parts : Cert.Pre_finite_parts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_parts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel40Ideal_finite_gradient [hPre_finite_gradient : Cert.Pre_finite_gradient.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_finite_gradient.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))) = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_finite_gradient [hPre_finite_gradient : Cert.Pre_finite_gradient.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_finite_gradient.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_parts [hKernel2Ideal : Cert.Kernel2Ideal.Facts] [hPre_finite_parts : Cert.Pre_finite_parts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_parts m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_parts [hReference2Ideal : Cert.Reference2Ideal.Facts] [hPre_finite_parts : Cert.Pre_finite_parts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_parts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Kernel40Ideal_pre_finite_gradient [hKernel40Ideal : Cert.Kernel40Ideal.Facts] [hPre_finite_gradient : Cert.Pre_finite_gradient.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal_finite_gradient m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Reference40Ideal_pre_finite_gradient [hReference40Ideal : Cert.Reference40Ideal.Facts] [hPre_finite_gradient : Cert.Pre_finite_gradient.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_finite_gradient m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def preserves_Kernel_KernelIdeal : Prop :=
  True

def preserves_Kernel2_Kernel2Ideal : Prop :=
  True

def algebraic_Kernel2Ideal_Reference2Ideal_pre_finite_parts [hKernel2Ideal : Cert.Kernel2Ideal.Facts] [hReference2Ideal : Cert.Reference2Ideal.Facts] [hPre_finite_parts : Cert.Pre_finite_parts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_parts m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_gate_blocks [hKernel6Ideal : Cert.Kernel6Ideal.Facts] [hReference6Ideal : Cert.Reference6Ideal.Facts] [hOn_gate_blocks : Cert.On_gate_blocks.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨3, ![8, 1024, 704]⟩ : Shape).Idx, (Cert.On_gate_blocks.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Kernel6Ideal.nD Cert.Kernel6Ideal.τ).loc Cert.Kernel6Ideal.main_v0) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨3, ![8, 1024, 704]⟩ : Shape).Idx, (Cert.On_gate_blocks.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Reference6Ideal.nD Cert.Reference6Ideal.τ).loc Cert.Reference6Ideal.main_v12) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v18) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v13) = v2 c
          ∧ r.2.mem ((c.tc : Thread Cert.Reference22Ideal.nD Cert.Reference22Ideal.τ).loc Cert.Reference22Ideal.main_v19) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg3) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg3) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg3) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg3) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_v13) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_v10) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v37) = v0 c
          ∧ r.2.mem ((c.tc : Thread Cert.Reference35Ideal.nD Cert.Reference35Ideal.τ).loc Cert.Reference35Ideal.main_v39) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v47) = v0 c
          ∧ r.2.mem ((c.tc : Thread Cert.Reference36Ideal.nD Cert.Reference36Ideal.τ).loc Cert.Reference36Ideal.main_v52) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v8) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v7) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal_pre_finite_gradient [hKernel40Ideal : Cert.Kernel40Ideal.Facts] [hReference40Ideal : Cert.Reference40Ideal.Facts] [hPre_finite_gradient : Cert.Pre_finite_gradient.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal_finite_gradient m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v53) = v0 c
          ∧ r.2.mem ((c.tc : Thread Cert.Reference40Ideal.nD Cert.Reference40Ideal.τ).loc Cert.Reference40Ideal.main_v29) = v1 c
          ∧ r.2.mem ((c.tc : Thread Cert.Reference40Ideal.nD Cert.Reference40Ideal.τ).loc Cert.Reference40Ideal.main_v26) = v2 c
          ∧ r.2.mem ((c.tc : Thread Cert.Reference40Ideal.nD Cert.Reference40Ideal.τ).loc Cert.Reference40Ideal.main_v55) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite_parts : Cert.Pre_finite_parts.Facts) (hPre_finite_gradient : Cert.Pre_finite_gradient.Facts) (hOn_gate_blocks : Cert.On_gate_blocks.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite_parts (hKernel2Ideal := hKernel2Ideal) (hPre_finite_parts := hPre_finite_parts)
    ∧ quiescent_Reference2Ideal (hReference2Ideal := hReference2Ideal)
    ∧ quiescent_Reference2Ideal_pre_finite_parts (hReference2Ideal := hReference2Ideal) (hPre_finite_parts := hPre_finite_parts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Kernel40Ideal_pre_finite_gradient (hKernel40Ideal := hKernel40Ideal) (hPre_finite_gradient := hPre_finite_gradient)
    ∧ quiescent_Reference40Ideal (hReference40Ideal := hReference40Ideal)
    ∧ quiescent_Reference40Ideal_pre_finite_gradient (hReference40Ideal := hReference40Ideal) (hPre_finite_gradient := hPre_finite_gradient)
    ∧ preserves_Kernel_KernelIdeal
    ∧ preserves_Kernel2_Kernel2Ideal
    ∧ algebraic_Kernel2Ideal_Reference2Ideal_pre_finite_parts (hKernel2Ideal := hKernel2Ideal) (hReference2Ideal := hReference2Ideal) (hPre_finite_parts := hPre_finite_parts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_gate_blocks (hKernel6Ideal := hKernel6Ideal) (hReference6Ideal := hReference6Ideal) (hOn_gate_blocks := hOn_gate_blocks)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal_pre_finite_gradient (hKernel40Ideal := hKernel40Ideal) (hReference40Ideal := hReference40Ideal) (hPre_finite_gradient := hPre_finite_gradient)
-- ==== On_gate_blocks.lean ====
abbrev S8192x1024 : Shape := ⟨2, ![8192, 1024]⟩
abbrev S4x8192x704 : Shape := ⟨3, ![4, 8192, 704]⟩
abbrev S8 : Shape := ⟨1, ![8]⟩
abbrev S8x1x1 : Shape := ⟨3, ![8, 1, 1]⟩
abbrev S_ : Shape := ⟨0, ![]⟩
abbrev S8x1024x704 : Shape := ⟨3, ![8, 1024, 704]⟩

class Facts : Prop where
  bcast_S8_S8x1x1_0 : S8.BroadcastsInDim S8x1x1 (![0] : Fin 1 → Fin S8x1x1.rank)
  bcast_S_S8x1024x704 : S_.BroadcastsInDim S8x1024x704 (![] : Fin 0 → Fin S8x1024x704.rank)
  bcast_S8x1x1_S8x1024x704_0_1_2 : S8x1x1.BroadcastsInDim S8x1024x704 (![0, 1, 2] : Fin 3 → Fin S8x1024x704.rank)

variable [Facts]

def fn {F : FTy → Type} [FloatOps F] (main_arg0 : FVec F S8192x1024 .bf16) (main_arg1 : FVec F S4x8192x704 .bf16) : IVec S8x1024x704 1 :=
  let main_v0 : IVec S8 32 := iotaInDim S8 32 0
  let main_v1 : IVec S8x1x1 32 := broadcastInDim S8x1x1 ![0] bcast_S8_S8x1x1_0 main_v0
  let main_c : IVec S_ 32 := constantI S_ 32 4#32
  let main_v2 : IVec S8x1024x704 32 := broadcastInDim S8x1024x704 ![] bcast_S_S8x1024x704 main_c
  let main_v3 : IVec S8x1024x704 32 := id main_v2
  let main_v4 : IVec S8x1024x704 32 := broadcastInDim S8x1024x704 ![0, 1, 2] bcast_S8x1x1_S8x1024x704_0_1_2 main_v1
  let main_v5 : IVec S8x1024x704 1 := cmpi .slt main_v4 main_v3
  main_v5
-- ==== Pre_finite_gradient.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Pre_finite_parts.lean ====
abbrev S8192x1024 : Shape := ⟨2, ![8192, 1024]⟩
abbrev S4x704x1024 : Shape := ⟨3, ![4, 704, 1024]⟩
abbrev S4x8192x704 : Shape := ⟨3, ![4, 8192, 704]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_
  bcast_S_S4x8192x704 : S_.BroadcastsInDim S4x8192x704 (![] : Fin 0 → Fin S4x8192x704.rank)
  reducesTo_S4x8192x704_S_d0_1_2 : S4x8192x704.ReducesTo [0, 1, 2] S_

variable [Facts]

def fn {F : FTy → Type} [FloatOps F] (main_arg0 : FVec F S8192x1024 .bf16) (main_arg1 : FVec F S4x704x1024 .bf16) (main_arg2 : FVec F S4x8192x704 .bf16) (main_arg3 : FVec F S4x8192x704 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4x704x1024 .f32 := (extf .f32 · bitsLt_bf16_f32) main_arg1
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  let main_v10 : IVec S_ 1 := andi main_v4 main_v9
  let main_v11 : FVec F S4x8192x704 .f32 := (extf .f32 · bitsLt_bf16_f32) main_arg3
  let main_v12 : FVec F S4x8192x704 .f32 := Host.absf main_v11
  let main_cst_2 : FVec F S_ .f32 := constant S_ .f32 0x7F800000#32
  let main_v13 : FVec F S4x8192x704 .f32 := broadcastInDim S4x8192x704 ![] bcast_S_S4x8192x704 main_cst_2
  let main_v14 : IVec S4x8192x704 1 := cmpf .olt main_v12 main_v13
  let main_c_3 : IVec S_ 1 := constantI S_ 1 1#1
  let main_v15 : IVec S_ 1 := (fun x v => Host.reduce IntOp.andi x v reducesTo_S4x8192x704_S_d0_1_2 h_S_) main_v14 main_c_3
  let main_v16 : IVec S_ 1 := andi main_v10 main_v15
  main_v16
-- ==== Kernel.lean ====
abbrev S3x8192x1024 : Shape := ⟨3, ![3, 8192, 1024]⟩
abbrev S8x2x8192 : Shape := ⟨3, ![8, 2, 8192]⟩
abbrev S8192x1024 : Shape := ⟨2, ![8192, 1024]⟩
abbrev S8x8192x2 : Shape := ⟨3, ![8, 8192, 2]⟩
abbrev S1x4096x128 : Shape := ⟨3, ![1, 4096, 128]⟩
abbrev S1x2x4096 : Shape := ⟨3, ![1, 2, 4096]⟩
abbrev S4096x128 : Shape := ⟨2, ![4096, 128]⟩
abbrev S1x4096x2 : Shape := ⟨3, ![1, 4096, 2]⟩
abbrev S3x4096x128 : Shape := ⟨3, ![3, 4096, 128]⟩
abbrev S128x4096 : Shape := ⟨2, ![128, 4096]⟩
abbrev S1x128 : Shape := ⟨2, ![1, 128]⟩
abbrev S256x256 : Shape := ⟨2, ![256, 256]⟩
abbrev S2x4096 : Shape := ⟨2, ![2, 4096]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S1x256x1 : Shape := ⟨3, ![1, 256, 1]⟩
abbrev S1x1x256 : Shape := ⟨3, ![1, 1, 256]⟩
abbrev S1x256 : Shape := ⟨2, ![1, 256]⟩

abbrev nBuf : Space → Nat
  | .hbm => 8
  | .vmem => 22
  | .smem => 0
  | _ => 0

abbrev bufTy : (tb : Table) → Fin (tcTables nBuf tb) → BufTy
  | .hbm, ⟨0, _⟩ => ⟨S3x8192x1024, .bf16⟩
  | .hbm, ⟨1, _⟩ => ⟨S8x2x8192, .f32⟩
  | .hbm, ⟨2, _⟩ => ⟨S8192x1024, .f32⟩
  | .hbm, ⟨3, _⟩ => ⟨S8192x1024, .f32⟩
  | .hbm, ⟨4, _⟩ => ⟨S8x8192x2, .f32⟩
  | .hbm, ⟨5, _⟩ => ⟨S3x8192x1024, .bf16⟩
  | .hbm, ⟨6, _⟩ => ⟨S8x2x8192, .f32⟩
  | .hbm, ⟨7, _⟩ => ⟨S8x8192x2, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x4096, .f32⟩
  | .local _ .vmem, ⟨7, _⟩ => ⟨S1x2x4096, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1x4096x2, .f32⟩
  | .local _ .vmem, ⟨13, _⟩ => ⟨S1x4096x2, .f32⟩
  | .local _ .vmem, ⟨14, _⟩ => ⟨S3x4096x128, .bf16⟩
  | .local _ .vmem, ⟨15, _⟩ => ⟨S3x4096x128, .bf16⟩
  | .local _ .vmem, ⟨16, _⟩ => ⟨S1x2x4096, .f32⟩
  | .local _ .vmem, ⟨17, _⟩ => ⟨S1x2x4096, .f32⟩
  | .local _ .vmem, ⟨18, _⟩ => ⟨S1x4096x2, .f32⟩
  | .local _ .vmem, ⟨19, _⟩ => ⟨S1x4096x2, .f32⟩
  | .local _ .vmem, ⟨20, _⟩ => ⟨S128x4096, .f32⟩
  | .local _ .vmem, ⟨21, _⟩ => ⟨S128x4096, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  v210
def k0_off1 (k0_t1 : Fin k0_t1_loop.trips) : Fin 3 → Nat :=
  let c0_152 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v212 : Index := Scalar.indexCast v211
  let c0_153 : Index := 0#32
  ![0, v212.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v224 : Index := Scalar.indexCast v211
  let c0_156 : Index := 0#32
  ![v224.toNat, 0]
def k0_off3 (k0_t1 : Fin k0_t1_loop.trips) : Fin 3 → Nat :=
  let c0_163 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v261 : Index := Scalar.indexCast v211
  let c0_164 : Index := 0#32
  ![0, v261.toNat, 0]
def k0_off4 (k0_t1 : Fin k0_t1_loop.trips) : Fin 3 → Nat :=
  let c0_165 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v264 : Index := Scalar.indexCast v211
  let c1_166 : Index := 1#32
  ![0, v264.toNat, 1]
@[reducible] def k0_t2_loop (k0_t1 : Fin k0_t1_loop.trips) : Scf.Loop 32 :=
  let c0_i32_177 : BitVec 32 := 0#32
  let c0_i32 : BitVec 32 := 0#32
  let c1_i32 : BitVec 32 := 1#32
  let arg14 : BitVec 32 := Scf.iv c0_i32 c1_i32 k0_t1
  let c0_i32_169 : BitVec 32 := 0#32
  let v270 : BitVec 1 := Scalar.cmpi .sgt arg14 c0_i32_169
  let v271 : BitVec 32 := Scalar.extui v270
  let c0_i32_170 : BitVec 32 := 0#32
  let v272 : BitVec 1 := Scalar.cmpi .slt arg14 c0_i32_170
  let v273 : BitVec 32 := Scalar.extui v272
  let v274 : BitVec 32 := Scalar.subi v271 v273
  let c4_i32 : BitVec 32 := 4#32
  let c0_i32_171 : BitVec 32 := 0#32
  let v275 : BitVec 1 := Scalar.cmpi .sgt c4_i32 c0_i32_171
  let v276 : BitVec 32 := Scalar.extui v275
  let c0_i32_172 : BitVec 32 := 0#32
  let v277 : BitVec 1 := Scalar.cmpi .slt c4_i32 c0_i32_172
  let v278 : BitVec 32 := Scalar.extui v277
  let v279 : BitVec 32 := Scalar.subi v276 v278
  let v280 : BitVec 1 := Scalar.cmpi .ne v274 v279
  let v281 : BitVec 32 := Scalar.remsi arg14 c4_i32
  let c0_i32_173 : BitVec 32 := 0#32
  let v282 : BitVec 1 := Scalar.cmpi .ne v281 c0_i32_173
  let v283 : BitVec 1 := Scalar.andi v280 v282
  let v269 : BitVec 32 := Scalar.divsi arg14 c4_i32
  let c1_i32_174 : BitVec 32 := 1#32
  let v284 : BitVec 32 := Scalar.subi v269 c1_i32_174
  let v285 : BitVec 32 := Scalar.select v283 v284 v269
  let v287 : BitVec 32 := Scalar.subi v285 c0_i32_177
  let c1_i32_178 : BitVec 32 := 1#32
  let v289 : BitVec 32 := Scalar.divsi v287 c1_i32_178
  let v290 : BitVec 32 := Scalar.muli v289 c1_i32_178
  let v291 : BitVec 32 := Scalar.addi c0_i32_177 v290
  let c1_i32_179 : BitVec 32 := 1#32
  ⟨c0_i32_177, v291, c1_i32_179⟩
def k0_mult2 (arg16 : BitVec 32) : BitVec 32 :=
  let c0_i32_195 : BitVec 32 := 0#32
  let v323 : BitVec 32 := Scalar.addi arg16 c0_i32_195
  let c256_i32_196 : BitVec 32 := 256#32
  let v324 : BitVec 32 := Scalar.muli v323 c256_i32_196
  v324

def k0_off5 (arg16 : BitVec 32) (c0_i32_195 : BitVec 32) : Fin 3 → Nat :=
  let c0_197 : Index := 0#32
  let v323 : BitVec 32 := Scalar.addi arg16 c0_i32_195
  let c256_i32_196 : BitVec 32 := 256#32
  let v324 : BitVec 32 := Scalar.muli v323 c256_i32_196
  let v325 : BitVec 32 := v324
  let v326 : Index := Scalar.indexCast v325
  let c0_198 : Index := 0#32
  ![0, v326.toNat, 0]
def k0_off6 (arg16 : BitVec 32) (c0_i32_195 : BitVec 32) : Fin 3 → Nat :=
  let c0_204 : Index := 0#32
  let c0_205 : Index := 0#32
  let v323 : BitVec 32 := Scalar.addi arg16 c0_i32_195
  let c256_i32_196 : BitVec 32 := 256#32
  let v324 : BitVec 32 := Scalar.muli v323 c256_i32_196
  let v325 : BitVec 32 := v324
  let v335 : Index := Scalar.indexCast v325
  ![0, 0, v335.toNat]
def k0_off7 (arg16 : BitVec 32) (c0_i32_195 : BitVec 32) : Fin 3 → Nat :=
  let c0_217 : Index := 0#32
  let c1_218 : Index := 1#32
  let v323 : BitVec 32 := Scalar.addi arg16 c0_i32_195
  let c256_i32_196 : BitVec 32 := 256#32
  let v324 : BitVec 32 := Scalar.muli v323 c256_i32_196
  let v325 : BitVec 32 := v324
  let v368 : Index := Scalar.indexCast v325
  ![0, 1, v368.toNat]
def k0_off8 (arg16 : BitVec 32) (c0_i32_195 : BitVec 32) : Fin 2 → Nat :=
  let c0_229 : Index := 0#32
  let v323 : BitVec 32 := Scalar.addi arg16 c0_i32_195
  let c256_i32_196 : BitVec 32 := 256#32
  let v324 : BitVec 32 := Scalar.muli v323 c256_i32_196
  let v325 : BitVec 32 := v324
  let v400 : Index := Scalar.indexCast v325
  ![0, v400.toNat]
def k0_mult3 (arg16 : BitVec 32) : BitVec 32 :=
  let c1_i32_233 : BitVec 32 := 1#32
  let v418 : BitVec 32 := Scalar.addi arg16 c1_i32_233
  let c256_i32_234 : BitVec 32 := 256#32
  let v419 : BitVec 32 := Scalar.muli v418 c256_i32_234
  v419
def k0_mult4 (arg16 : BitVec 32) : BitVec 32 :=
  let c2_i32_271 : BitVec 32 := 2#32
  let v513 : BitVec 32 := Scalar.addi arg16 c2_i32_271
  let c256_i32_272 : BitVec 32 := 256#32
  let v514 : BitVec 32 := Scalar.muli v513 c256_i32_272
  v514
def k0_mult5 (arg16 : BitVec 32) : BitVec 32 :=
  let c3_i32 : BitVec 32 := 3#32
  let v608 : BitVec 32 := Scalar.addi arg16 c3_i32
  let c256_i32_309 : BitVec 32 := 256#32
  let v609 : BitVec 32 := Scalar.muli v608 c256_i32_309
  v609

def k0_chk1 (k0_t1 : Fin k0_t1_loop.trips) (k0_t2 : Fin (k0_t2_loop k0_t1).trips) (arg16 : BitVec 32) : Prop :=
  (256 ∣ (k0_mult2 arg16).toNat) ∧
  (∀ (r : Fin 4), ∀ a, (k0_off5 arg16 (BitVec.ofNat 32 r.val)) a + S1x256x128.size a ≤ S1x4096x128.size a) ∧
  (∀ (r : Fin 4), ∀ a, (k0_off6 arg16 (BitVec.ofNat 32 r.val)) a + S1x1x256.size a ≤ S1x2x4096.size a) ∧
  (∀ (r : Fin 4), ∀ a, (k0_off7 arg16 (BitVec.ofNat 32 r.val)) a + S1x1x256.size a ≤ S1x2x4096.size a) ∧
  (∀ (r : Fin 4), ∀ a, (k0_off8 arg16 (BitVec.ofNat 32 r.val)) a + S128x256.size a ≤ S128x4096.size a) ∧
  (256 ∣ (k0_mult3 arg16).toNat) ∧
  (256 ∣ (k0_mult4 arg16).toNat) ∧
  (256 ∣ (k0_mult5 arg16).toNat)
theorem k0_mult2_dvd : ∀ (k0_t1 : Fin k0_t1_loop.trips) (k0_t2 : Fin (k0_t2_loop k0_t1).trips) (arg16 : BitVec 32) (k0_hw1 : k0_chk1 k0_t1 k0_t2 arg16), 256 ∣ (k0_mult2 arg16).toNat := fun k0_t1 k0_t2 arg16 k0_hw1 => k0_hw1.1
theorem k0_off5_inb : ∀ (k0_t1 : Fin k0_t1_loop.trips) (k0_t2 : Fin (k0_t2_loop k0_t1).trips) (arg16 : BitVec 32) (k0_hw1 : k0_chk1 k0_t1 k0_t2 arg16), ∀ (r : Fin 4), ∀ a, (k0_off5 arg16 (BitVec.ofNat 32 r.val)) a + S1x256x128.size a ≤ S1x4096x128.size a := fun k0_t1 k0_t2 arg16 k0_hw1 r => k0_hw1.2.1 r
theorem k0_off6_inb : ∀ (k0_t1 : Fin k0_t1_loop.trips) (k0_t2 : Fin (k0_t2_loop k0_t1).trips) (arg16 : BitVec 32) (k0_hw1 : k0_chk1 k0_t1 k0_t2 arg16), ∀ (r : Fin 4), ∀ a, (k0_off6 arg16 (BitVec.ofNat 32 r.val)) a + S1x1x256.size a ≤ S1x2x4096.size a := fun k0_t1 k0_t2 arg16 k0_hw1 r => k0_hw1.2.2.1 r
theorem k0_off7_inb : ∀ (k0_t1 : Fin k0_t1_loop.trips) (k0_t2 : Fin (k0_t2_loop k0_t1).trips) (arg16 : BitVec 32) (k0_hw1 : k0_chk1 k0_t1 k0_t2 arg16), ∀ (r : Fin 4), ∀ a, (k0_off7 arg16 (BitVec.ofNat 32 r.val)) a + S1x1x256.size a ≤ S1x2x4096.size a := fun k0_t1 k0_t2 arg16 k0_hw1 r => k0_hw1.2.2.2.1 r
theorem k0_off8_inb : ∀ (k0_t1 : Fin k0_t1_loop.trips) (k0_t2 : Fin (k0_t2_loop k0_t1).trips) (arg16 : BitVec 32) (k0_hw1 : k0_chk1 k0_t1 k0_t2 arg16), ∀ (r : Fin 4), ∀ a, (k0_off8 arg16 (BitVec.ofNat 32 r.val)) a + S128x256.size a ≤ S128x4096.size a := fun k0_t1 k0_t2 arg16 k0_hw1 r => k0_hw1.2.2.2.2.1 r
theorem k0_mult3_dvd : ∀ (k0_t1 : Fin k0_t1_loop.trips) (k0_t2 : Fin (k0_t2_loop k0_t1).trips) (arg16 : BitVec 32) (k0_hw1 : k0_chk1 k0_t1 k0_t2 arg16), 256 ∣ (k0_mult3 arg16).toNat := fun k0_t1 k0_t2 arg16 k0_hw1 => k0_hw1.2.2.2.2.2.1
theorem k0_mult4_dvd : ∀ (k0_t1 : Fin k0_t1_loop.trips) (k0_t2 : Fin (k0_t2_loop k0_t1).trips) (arg16 : BitVec 32) (k0_hw1 : k0_chk1 k0_t1 k0_t2 arg16), 256 ∣ (k0_mult4 arg16).toNat := fun k0_t1 k0_t2 arg16 k0_hw1 => k0_hw1.2.2.2.2.2.2.1
theorem k0_mult5_dvd : ∀ (k0_t1 : Fin k0_t1_loop.trips) (k0_t2 : Fin (k0_t2_loop k0_t1).trips) (arg16 : BitVec 32) (k0_hw1 : k0_chk1 k0_t1 k0_t2 arg16), 256 ∣ (k0_mult5 arg16).toNat := fun k0_t1 k0_t2 arg16 k0_hw1 => k0_hw1.2.2.2.2.2.2.2

@[reducible] def k0_t3_loop (k0_t1 : Fin k0_t1_loop.trips) : Scf.Loop 32 :=
  let c0_i32_177 : BitVec 32 := 0#32
  let c0_i32 : BitVec 32 := 0#32
  let c1_i32 : BitVec 32 := 1#32
  let arg14 : BitVec 32 := Scf.iv c0_i32 c1_i32 k0_t1
  let c0_i32_169 : BitVec 32 := 0#32
  let v270 : BitVec 1 := Scalar.cmpi .sgt arg14 c0_i32_169
  let v271 : BitVec 32 := Scalar.extui v270
  let c0_i32_170 : BitVec 32 := 0#32
  let v272 : BitVec 1 := Scalar.cmpi .slt arg14 c0_i32_170
  let v273 : BitVec 32 := Scalar.extui v272
  let v274 : BitVec 32 := Scalar.subi v271 v273
  let c4_i32 : BitVec 32 := 4#32
  let c0_i32_171 : BitVec 32 := 0#32
  let v275 : BitVec 1 := Scalar.cmpi .sgt c4_i32 c0_i32_171
  let v276 : BitVec 32 := Scalar.extui v275
  let c0_i32_172 : BitVec 32 := 0#32
  let v277 : BitVec 1 := Scalar.cmpi .slt c4_i32 c0_i32_172
  let v278 : BitVec 32 := Scalar.extui v277
  let v279 : BitVec 32 := Scalar.subi v276 v278
  let v280 : BitVec 1 := Scalar.cmpi .ne v274 v279
  let v281 : BitVec 32 := Scalar.remsi arg14 c4_i32
  let c0_i32_173 : BitVec 32 := 0#32
  let v282 : BitVec 1 := Scalar.cmpi .ne v281 c0_i32_173
  let v283 : BitVec 1 := Scalar.andi v280 v282
  let v269 : BitVec 32 := Scalar.divsi arg14 c4_i32
  let c1_i32_174 : BitVec 32 := 1#32
  let v284 : BitVec 32 := Scalar.subi v269 c1_i32_174
  let v285 : BitVec 32 := Scalar.select v283 v284 v269
  let v287 : BitVec 32 := Scalar.subi v285 c0_i32_177
  let c1_i32_178 : BitVec 32 := 1#32
  let v289 : BitVec 32 := Scalar.divsi v287 c1_i32_178
  let v290 : BitVec 32 := Scalar.muli v289 c1_i32_178
  let v291 : BitVec 32 := Scalar.addi c0_i32_177 v290
  let v288 : BitVec 32 := Scalar.addi c0_i32_177 v287
  let c1_i32_180 : BitVec 32 := 1#32
  ⟨v291, v288, c1_i32_180⟩
def k0_mult6 (arg16 : BitVec 32) : BitVec 32 :=
  let c0_i32_195 : BitVec 32 := 0#32
  let v323 : BitVec 32 := Scalar.addi arg16 c0_i32_195
  let c256_i32_196 : BitVec 32 := 256#32
  let v324 : BitVec 32 := Scalar.muli v323 c256_i32_196
  v324

def k0_off9 (arg16 : BitVec 32) (c0_i32_195 : BitVec 32) : Fin 3 → Nat :=
  let c0_197 : Index := 0#32
  let v323 : BitVec 32 := Scalar.addi arg16 c0_i32_195
  let c256_i32_196 : BitVec 32 := 256#32
  let v324 : BitVec 32 := Scalar.muli v323 c256_i32_196
  let v325 : BitVec 32 := v324
  let v326 : Index := Scalar.indexCast v325
  let c0_198 : Index := 0#32
  ![0, v326.toNat, 0]
def k0_off10 (arg16 : BitVec 32) (c0_i32_195 : BitVec 32) : Fin 3 → Nat :=
  let c0_204 : Index := 0#32
  let c0_205 : Index := 0#32
  let v323 : BitVec 32 := Scalar.addi arg16 c0_i32_195
  let c256_i32_196 : BitVec 32 := 256#32
  let v324 : BitVec 32 := Scalar.muli v323 c256_i32_196
  let v325 : BitVec 32 := v324
  let v335 : Index := Scalar.indexCast v325
  ![0, 0, v335.toNat]
def k0_off11 (arg16 : BitVec 32) (c0_i32_195 : BitVec 32) : Fin 3 → Nat :=
  let c0_217 : Index := 0#32
  let c1_218 : Index := 1#32
  let v323 : BitVec 32 := Scalar.addi arg16 c0_i32_195
  let c256_i32_196 : BitVec 32 := 256#32
  let v324 : BitVec 32 := Scalar.muli v323 c256_i32_196
  let v325 : BitVec 32 := v324
  let v368 : Index := Scalar.indexCast v325
  ![0, 1, v368.toNat]
def k0_off12 (arg16 : BitVec 32) (c0_i32_195 : BitVec 32) : Fin 2 → Nat :=
  let c0_229 : Index := 0#32
  let v323 : BitVec 32 := Scalar.addi arg16 c0_i32_195
  let c256_i32_196 : BitVec 32 := 256#32
  let v324 : BitVec 32 := Scalar.muli v323 c256_i32_196
  let v325 : BitVec 32 := v324
  let v400 : Index := Scalar.indexCast v325
  ![0, v400.toNat]
def k0_mult7 (arg16 : BitVec 32) : BitVec 32 :=
  let c1_i32_233 : BitVec 32 := 1#32
  let v418 : BitVec 32 := Scalar.addi arg16 c1_i32_233
  let c256_i32_234 : BitVec 32 := 256#32
  let v419 : BitVec 32 := Scalar.muli v418 c256_i32_234
  v419
def k0_mult8 (arg16 : BitVec 32) : BitVec 32 :=
  let c2_i32_271 : BitVec 32 := 2#32
  let v513 : BitVec 32 := Scalar.addi arg16 c2_i32_271
  let c256_i32_272 : BitVec 32 := 256#32
  let v514 : BitVec 32 := Scalar.muli v513 c256_i32_272
  v514
def k0_mult9 (arg16 : BitVec 32) : BitVec 32 :=
  let c3_i32 : BitVec 32 := 3#32
  let v608 : BitVec 32 := Scalar.addi arg16 c3_i32
  let c256_i32_309 : BitVec 32 := 256#32
  let v609 : BitVec 32 := Scalar.muli v608 c256_i32_309
  v609

def k0_chk2 (k0_t1 : Fin k0_t1_loop.trips) (k0_t3 : Fin (k0_t3_loop k0_t1).trips) (arg16 : BitVec 32) : Prop :=
  (256 ∣ (k0_mult6 arg16).toNat) ∧
  (∀ (r : Fin 4), ∀ a, (k0_off9 arg16 (BitVec.ofNat 32 r.val)) a + S1x256x128.size a ≤ S1x4096x128.size a) ∧
  (∀ (r : Fin 4), ∀ a, (k0_off10 arg16 (BitVec.ofNat 32 r.val)) a + S1x1x256.size a ≤ S1x2x4096.size a) ∧
  (∀ (r : Fin 4), ∀ a, (k0_off11 arg16 (BitVec.ofNat 32 r.val)) a + S1x1x256.size a ≤ S1x2x4096.size a) ∧
  (∀ (r : Fin 4), ∀ a, (k0_off12 arg16 (BitVec.ofNat 32 r.val)) a + S128x256.size a ≤ S128x4096.size a) ∧
  (256 ∣ (k0_mult7 arg16).toNat) ∧
  (256 ∣ (k0_mult8 arg16).toNat) ∧
  (256 ∣ (k0_mult9 arg16).toNat)
theorem k0_mult6_dvd : ∀ (k0_t1 : Fin k0_t1_loop.trips) (k0_t3 : Fin (k0_t3_loop k0_t1).trips) (arg16 : BitVec 32) (k0_hw2 : k0_chk2 k0_t1 k0_t3 arg16), 256 ∣ (k0_mult6 arg16).toNat := fun k0_t1 k0_t3 arg16 k0_hw2 => k0_hw2.1
theorem k0_off9_inb : ∀ (k0_t1 : Fin k0_t1_loop.trips) (k0_t3 : Fin (k0_t3_loop k0_t1).trips) (arg16 : BitVec 32) (k0_hw2 : k0_chk2 k0_t1 k0_t3 arg16), ∀ (r : Fin 4), ∀ a, (k0_off9 arg16 (BitVec.ofNat 32 r.val)) a + S1x256x128.size a ≤ S1x4096x128.size a := fun k0_t1 k0_t3 arg16 k0_hw2 r => k0_hw2.2.1 r
theorem k0_off10_inb : ∀ (k0_t1 : Fin k0_t1_loop.trips) (k0_t3 : Fin (k0_t3_loop k0_t1).trips) (arg16 : BitVec 32) (k0_hw2 : k0_chk2 k0_t1 k0_t3 arg16), ∀ (r : Fin 4), ∀ a, (k0_off10 arg16 (BitVec.ofNat 32 r.val)) a + S1x1x256.size a ≤ S1x2x4096.size a := fun k0_t1 k0_t3 arg16 k0_hw2 r => k0_hw2.2.2.1 r
theorem k0_off11_inb : ∀ (k0_t1 : Fin k0_t1_loop.trips) (k0_t3 : Fin (k0_t3_loop k0_t1).trips) (arg16 : BitVec 32) (k0_hw2 : k0_chk2 k0_t1 k0_t3 arg16), ∀ (r : Fin 4), ∀ a, (k0_off11 arg16 (BitVec.ofNat 32 r.val)) a + S1x1x256.size a ≤ S1x2x4096.size a := fun k0_t1 k0_t3 arg16 k0_hw2 r => k0_hw2.2.2.2.1 r
theorem k0_off12_inb : ∀ (k0_t1 : Fin k0_t1_loop.trips) (k0_t3 : Fin (k0_t3_loop k0_t1).trips) (arg16 : BitVec 32) (k0_hw2 : k0_chk2 k0_t1 k0_t3 arg16), ∀ (r : Fin 4), ∀ a, (k0_off12 arg16 (BitVec.ofNat 32 r.val)) a + S128x256.size a ≤ S128x4096.size a := fun k0_t1 k0_t3 arg16 k0_hw2 r => k0_hw2.2.2.2.2.1 r
theorem k0_mult7_dvd : ∀ (k0_t1 : Fin k0_t1_loop.trips) (k0_t3 : Fin (k0_t3_loop k0_t1).trips) (arg16 : BitVec 32) (k0_hw2 : k0_chk2 k0_t1 k0_t3 arg16), 256 ∣ (k0_mult7 arg16).toNat := fun k0_t1 k0_t3 arg16 k0_hw2 => k0_hw2.2.2.2.2.2.1
theorem k0_mult8_dvd : ∀ (k0_t1 : Fin k0_t1_loop.trips) (k0_t3 : Fin (k0_t3_loop k0_t1).trips) (arg16 : BitVec 32) (k0_hw2 : k0_chk2 k0_t1 k0_t3 arg16), 256 ∣ (k0_mult8 arg16).toNat := fun k0_t1 k0_t3 arg16 k0_hw2 => k0_hw2.2.2.2.2.2.2.1
theorem k0_mult9_dvd : ∀ (k0_t1 : Fin k0_t1_loop.trips) (k0_t3 : Fin (k0_t3_loop k0_t1).trips) (arg16 : BitVec 32) (k0_hw2 : k0_chk2 k0_t1 k0_t3 arg16), 256 ∣ (k0_mult9 arg16).toNat := fun k0_t1 k0_t3 arg16 k0_hw2 => k0_hw2.2.2.2.2.2.2.2

def k0_cond1 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_181 : BitVec 32 := 4#32
  let c0_i32_182 : BitVec 32 := 0#32
  let v294 : BitVec 1 := Scalar.cmpi .eq c4_i32_181 c0_i32_182
  let c1_i32_183 : BitVec 32 := 1#32
  let v295 : BitVec 32 := Scalar.select v294 c1_i32_183 c4_i32_181
  let v296 : BitVec 32 := Scalar.remsi arg14 v295
  let c0_i32_185 : BitVec 32 := 0#32
  let v298 : BitVec 1 := Scalar.cmpi .slt v296 c0_i32_185
  let c0_i32_186 : BitVec 32 := 0#32
  let v299 : BitVec 1 := Scalar.cmpi .slt v295 c0_i32_186
  let v300 : BitVec 1 := Scalar.xori v298 v299
  let c0_i32_184 : BitVec 32 := 0#32
  let v297 : BitVec 1 := Scalar.cmpi .ne v296 c0_i32_184
  let v301 : BitVec 1 := Scalar.andi v300 v297
  let v302 : BitVec 32 := Scalar.addi v296 v295
  let v303 : BitVec 32 := Scalar.select v301 v302 v296
  let c2_i32 : BitVec 32 := 2#32
  let v304 : BitVec 1 := Scalar.cmpi .slt v303 c2_i32
  let v305 : BitVec 32 := Scalar.extui v304
  let c0_i32_187 : BitVec 32 := 0#32
  let v306 : BitVec 1 := Scalar.cmpi .ne v305 c0_i32_187
  v306

def k0_cond2 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_181 : BitVec 32 := 4#32
  let c0_i32_182 : BitVec 32 := 0#32
  let v294 : BitVec 1 := Scalar.cmpi .eq c4_i32_181 c0_i32_182
  let c1_i32_183 : BitVec 32 := 1#32
  let v295 : BitVec 32 := Scalar.select v294 c1_i32_183 c4_i32_181
  let v296 : BitVec 32 := Scalar.remsi arg14 v295
  let c0_i32_185 : BitVec 32 := 0#32
  let v298 : BitVec 1 := Scalar.cmpi .slt v296 c0_i32_185
  let c0_i32_186 : BitVec 32 := 0#32
  let v299 : BitVec 1 := Scalar.cmpi .slt v295 c0_i32_186
  let v300 : BitVec 1 := Scalar.xori v298 v299
  let c0_i32_184 : BitVec 32 := 0#32
  let v297 : BitVec 1 := Scalar.cmpi .ne v296 c0_i32_184
  let v301 : BitVec 1 := Scalar.andi v300 v297
  let v302 : BitVec 32 := Scalar.addi v296 v295
  let v303 : BitVec 32 := Scalar.select v301 v302 v296
  let c1_i32_195 : BitVec 32 := 1#32
  let v323 : BitVec 1 := Scalar.cmpi .slt v303 c1_i32_195
  let v324 : BitVec 32 := Scalar.extui v323
  let c0_i32_196 : BitVec 32 := 0#32
  let v325 : BitVec 1 := Scalar.cmpi .ne v324 c0_i32_196
  v325

def k0_mult10 (v293_0 : BitVec 32) : BitVec 32 :=
  let c0_i32_197 : BitVec 32 := 0#32
  let v327 : BitVec 32 := Scalar.addi v293_0 c0_i32_197
  let c256_i32_198 : BitVec 32 := 256#32
  let v328 : BitVec 32 := Scalar.muli v327 c256_i32_198
  v328

def k0_off13 (v293_0 : BitVec 32) : Fin 3 → Nat :=
  let c0_199 : Index := 0#32
  let c0_i32_197 : BitVec 32 := 0#32
  let v327 : BitVec 32 := Scalar.addi v293_0 c0_i32_197
  let c256_i32_198 : BitVec 32 := 256#32
  let v328 : BitVec 32 := Scalar.muli v327 c256_i32_198
  let v329 : BitVec 32 := v328
  let v330 : Index := Scalar.indexCast v329
  let c0_200 : Index := 0#32
  ![0, v330.toNat, 0]
def k0_off14 (v293_0 : BitVec 32) : Fin 3 → Nat :=
  let c0_206 : Index := 0#32
  let c0_207 : Index := 0#32
  let c0_i32_197 : BitVec 32 := 0#32
  let v327 : BitVec 32 := Scalar.addi v293_0 c0_i32_197
  let c256_i32_198 : BitVec 32 := 256#32
  let v328 : BitVec 32 := Scalar.muli v327 c256_i32_198
  let v329 : BitVec 32 := v328
  let v339 : Index := Scalar.indexCast v329
  ![0, 0, v339.toNat]
def k0_off15 (v293_0 : BitVec 32) : Fin 3 → Nat :=
  let c0_220 : Index := 0#32
  let c1_221 : Index := 1#32
  let c0_i32_197 : BitVec 32 := 0#32
  let v327 : BitVec 32 := Scalar.addi v293_0 c0_i32_197
  let c256_i32_198 : BitVec 32 := 256#32
  let v328 : BitVec 32 := Scalar.muli v327 c256_i32_198
  let v329 : BitVec 32 := v328
  let v375 : Index := Scalar.indexCast v329
  ![0, 1, v375.toNat]
def k0_off16 (v293_0 : BitVec 32) : Fin 2 → Nat :=
  let c0_233 : Index := 0#32
  let c0_i32_197 : BitVec 32 := 0#32
  let v327 : BitVec 32 := Scalar.addi v293_0 c0_i32_197
  let c256_i32_198 : BitVec 32 := 256#32
  let v328 : BitVec 32 := Scalar.muli v327 c256_i32_198
  let v329 : BitVec 32 := v328
  let v410 : Index := Scalar.indexCast v329
  ![0, v410.toNat]
def k0_mult11 (v293_0 : BitVec 32) : BitVec 32 :=
  let c0_i32_197 : BitVec 32 := 0#32
  let v327 : BitVec 32 := Scalar.addi v293_0 c0_i32_197
  let c256_i32_198 : BitVec 32 := 256#32
  let v328 : BitVec 32 := Scalar.muli v327 c256_i32_198
  v328
def k0_off17 (v293_0 : BitVec 32) (c0_i32_197 : BitVec 32) : Fin 3 → Nat :=
  let c0_199 : Index := 0#32
  let v327 : BitVec 32 := Scalar.addi v293_0 c0_i32_197
  let c256_i32_198 : BitVec 32 := 256#32
  let v328 : BitVec 32 := Scalar.muli v327 c256_i32_198
  let v329 : BitVec 32 := v328
  let v330 : Index := Scalar.indexCast v329
  let c0_200 : Index := 0#32
  ![0, v330.toNat, 0]
def k0_off18 (v293_0 : BitVec 32) (c0_i32_197 : BitVec 32) : Fin 3 → Nat :=
  let c0_206 : Index := 0#32
  let c0_207 : Index := 0#32
  let v327 : BitVec 32 := Scalar.addi v293_0 c0_i32_197
  let c256_i32_198 : BitVec 32 := 256#32
  let v328 : BitVec 32 := Scalar.muli v327 c256_i32_198
  let v329 : BitVec 32 := v328
  let v339 : Index := Scalar.indexCast v329
  ![0, 0, v339.toNat]
def k0_off19 (v293_0 : BitVec 32) (c0_i32_197 : BitVec 32) : Fin 3 → Nat :=
  let c0_219 : Index := 0#32
  let c1_220 : Index := 1#32
  let v327 : BitVec 32 := Scalar.addi v293_0 c0_i32_197
  let c256_i32_198 : BitVec 32 := 256#32
  let v328 : BitVec 32 := Scalar.muli v327 c256_i32_198
  let v329 : BitVec 32 := v328
  let v372 : Index := Scalar.indexCast v329
  ![0, 1, v372.toNat]
def k0_off20 (v293_0 : BitVec 32) (c0_i32_197 : BitVec 32) : Fin 2 → Nat :=
  let c0_231 : Index := 0#32
  let v327 : BitVec 32 := Scalar.addi v293_0 c0_i32_197
  let c256_i32_198 : BitVec 32 := 256#32
  let v328 : BitVec 32 := Scalar.muli v327 c256_i32_198
  let v329 : BitVec 32 := v328
  let v404 : Index := Scalar.indexCast v329
  ![0, v404.toNat]
def k0_mult12 (v293_0 : BitVec 32) : BitVec 32 :=
  let c1_i32_235 : BitVec 32 := 1#32
  let v422 : BitVec 32 := Scalar.addi v293_0 c1_i32_235
  let c256_i32_236 : BitVec 32 := 256#32
  let v423 : BitVec 32 := Scalar.muli v422 c256_i32_236
  v423
def k0_cond3 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_181 : BitVec 32 := 4#32
  let c0_i32_182 : BitVec 32 := 0#32
  let v294 : BitVec 1 := Scalar.cmpi .eq c4_i32_181 c0_i32_182
  let c1_i32_183 : BitVec 32 := 1#32
  let v295 : BitVec 32 := Scalar.select v294 c1_i32_183 c4_i32_181
  let v296 : BitVec 32 := Scalar.remsi arg14 v295
  let c0_i32_185 : BitVec 32 := 0#32
  let v298 : BitVec 1 := Scalar.cmpi .slt v296 c0_i32_185
  let c0_i32_186 : BitVec 32 := 0#32
  let v299 : BitVec 1 := Scalar.cmpi .slt v295 c0_i32_186
  let v300 : BitVec 1 := Scalar.xori v298 v299
  let c0_i32_184 : BitVec 32 := 0#32
  let v297 : BitVec 1 := Scalar.cmpi .ne v296 c0_i32_184
  let v301 : BitVec 1 := Scalar.andi v300 v297
  let v302 : BitVec 32 := Scalar.addi v296 v295
  let v303 : BitVec 32 := Scalar.select v301 v302 v296
  let c2_i32_195 : BitVec 32 := 2#32
  let v323 : BitVec 32 := Scalar.subi v303 c2_i32_195
  let c1_i32_196 : BitVec 32 := 1#32
  let v324 : BitVec 1 := Scalar.cmpi .slt v323 c1_i32_196
  let v325 : BitVec 32 := Scalar.extui v324
  let c0_i32_197 : BitVec 32 := 0#32
  let v326 : BitVec 1 := Scalar.cmpi .ne v325 c0_i32_197
  v326

def k0_mult13 (v293_0 : BitVec 32) : BitVec 32 :=
  let c0_i32_198 : BitVec 32 := 0#32
  let v328 : BitVec 32 := Scalar.addi v293_0 c0_i32_198
  let c256_i32_199 : BitVec 32 := 256#32
  let v329 : BitVec 32 := Scalar.muli v328 c256_i32_199
  v329
def k0_off21 (v293_0 : BitVec 32) (c0_i32_198 : BitVec 32) : Fin 3 → Nat :=
  let c0_200 : Index := 0#32
  let v328 : BitVec 32 := Scalar.addi v293_0 c0_i32_198
  let c256_i32_199 : BitVec 32 := 256#32
  let v329 : BitVec 32 := Scalar.muli v328 c256_i32_199
  let v330 : BitVec 32 := v329
  let v331 : Index := Scalar.indexCast v330
  let c0_201 : Index := 0#32
  ![0, v331.toNat, 0]
def k0_off22 (v293_0 : BitVec 32) (c0_i32_198 : BitVec 32) : Fin 3 → Nat :=
  let c0_207 : Index := 0#32
  let c0_208 : Index := 0#32
  let v328 : BitVec 32 := Scalar.addi v293_0 c0_i32_198
  let c256_i32_199 : BitVec 32 := 256#32
  let v329 : BitVec 32 := Scalar.muli v328 c256_i32_199
  let v330 : BitVec 32 := v329
  let v340 : Index := Scalar.indexCast v330
  ![0, 0, v340.toNat]
def k0_off23 (v293_0 : BitVec 32) (c0_i32_198 : BitVec 32) : Fin 3 → Nat :=
  let c0_220 : Index := 0#32
  let c1_221 : Index := 1#32
  let v328 : BitVec 32 := Scalar.addi v293_0 c0_i32_198
  let c256_i32_199 : BitVec 32 := 256#32
  let v329 : BitVec 32 := Scalar.muli v328 c256_i32_199
  let v330 : BitVec 32 := v329
  let v373 : Index := Scalar.indexCast v330
  ![0, 1, v373.toNat]
def k0_off24 (v293_0 : BitVec 32) (c0_i32_198 : BitVec 32) : Fin 2 → Nat :=
  let c0_232 : Index := 0#32
  let v328 : BitVec 32 := Scalar.addi v293_0 c0_i32_198
  let c256_i32_199 : BitVec 32 := 256#32
  let v329 : BitVec 32 := Scalar.muli v328 c256_i32_199
  let v330 : BitVec 32 := v329
  let v405 : Index := Scalar.indexCast v330
  ![0, v405.toNat]
def k0_mult14 (v293_0 : BitVec 32) : BitVec 32 :=
  let c1_i32_236 : BitVec 32 := 1#32
  let v423 : BitVec 32 := Scalar.addi v293_0 c1_i32_236
  let c256_i32_237 : BitVec 32 := 256#32
  let v424 : BitVec 32 := Scalar.muli v423 c256_i32_237
  v424
def k0_mult15 (v293_0 : BitVec 32) : BitVec 32 :=
  let c2_i32_274 : BitVec 32 := 2#32
  let v518 : BitVec 32 := Scalar.addi v293_0 c2_i32_274
  let c256_i32_275 : BitVec 32 := 256#32
  let v519 : BitVec 32 := Scalar.muli v518 c256_i32_275
  v519
def k0_mult16 (v293_0 : BitVec 32) : BitVec 32 :=
  let c0_i32_198 : BitVec 32 := 0#32
  let v328 : BitVec 32 := Scalar.addi v293_0 c0_i32_198
  let c256_i32_199 : BitVec 32 := 256#32
  let v329 : BitVec 32 := Scalar.muli v328 c256_i32_199
  v329
def k0_off25 (v293_0 : BitVec 32) (c0_i32_198 : BitVec 32) : Fin 3 → Nat :=
  let c0_200 : Index := 0#32
  let v328 : BitVec 32 := Scalar.addi v293_0 c0_i32_198
  let c256_i32_199 : BitVec 32 := 256#32
  let v329 : BitVec 32 := Scalar.muli v328 c256_i32_199
  let v330 : BitVec 32 := v329
  let v331 : Index := Scalar.indexCast v330
  let c0_201 : Index := 0#32
  ![0, v331.toNat, 0]
def k0_off26 (v293_0 : BitVec 32) (c0_i32_198 : BitVec 32) : Fin 3 → Nat :=
  let c0_207 : Index := 0#32
  let c0_208 : Index := 0#32
  let v328 : BitVec 32 := Scalar.addi v293_0 c0_i32_198
  let c256_i32_199 : BitVec 32 := 256#32
  let v329 : BitVec 32 := Scalar.muli v328 c256_i32_199
  let v330 : BitVec 32 := v329
  let v340 : Index := Scalar.indexCast v330
  ![0, 0, v340.toNat]
def k0_off27 (v293_0 : BitVec 32) (c0_i32_198 : BitVec 32) : Fin 3 → Nat :=
  let c0_220 : Index := 0#32
  let c1_221 : Index := 1#32
  let v328 : BitVec 32 := Scalar.addi v293_0 c0_i32_198
  let c256_i32_199 : BitVec 32 := 256#32
  let v329 : BitVec 32 := Scalar.muli v328 c256_i32_199
  let v330 : BitVec 32 := v329
  let v373 : Index := Scalar.indexCast v330
  ![0, 1, v373.toNat]
def k0_off28 (v293_0 : BitVec 32) (c0_i32_198 : BitVec 32) : Fin 2 → Nat :=
  let c0_232 : Index := 0#32
  let v328 : BitVec 32 := Scalar.addi v293_0 c0_i32_198
  let c256_i32_199 : BitVec 32 := 256#32
  let v329 : BitVec 32 := Scalar.muli v328 c256_i32_199
  let v330 : BitVec 32 := v329
  let v405 : Index := Scalar.indexCast v330
  ![0, v405.toNat]
def k0_mult17 (v293_0 : BitVec 32) : BitVec 32 :=
  let c1_i32_236 : BitVec 32 := 1#32
  let v423 : BitVec 32 := Scalar.addi v293_0 c1_i32_236
  let c256_i32_237 : BitVec 32 := 256#32
  let v424 : BitVec 32 := Scalar.muli v423 c256_i32_237
  v424
def k0_mult18 (v293_0 : BitVec 32) : BitVec 32 :=
  let c2_i32_274 : BitVec 32 := 2#32
  let v518 : BitVec 32 := Scalar.addi v293_0 c2_i32_274
  let c256_i32_275 : BitVec 32 := 256#32
  let v519 : BitVec 32 := Scalar.muli v518 c256_i32_275
  v519
def k0_mult19 (v293_0 : BitVec 32) : BitVec 32 :=
  let c3_i32 : BitVec 32 := 3#32
  let v613 : BitVec 32 := Scalar.addi v293_0 c3_i32
  let c256_i32_312 : BitVec 32 := 256#32
  let v614 : BitVec 32 := Scalar.muli v613 c256_i32_312
  v614

def k0_chk3 (k0_t1 : Fin k0_t1_loop.trips) (v293_0 : BitVec 32) : Prop :=
  (∀ (k0_h1 : k0_cond1 k0_t1 = 1#1), ∀ (k0_h2 : k0_cond2 k0_t1 = 1#1), 256 ∣ (k0_mult10 v293_0).toNat) ∧
  (∀ (k0_h1 : k0_cond1 k0_t1 = 1#1), ∀ (k0_h2 : k0_cond2 k0_t1 = 1#1), ∀ a, (k0_off13 v293_0) a + S1x256x128.size a ≤ S1x4096x128.size a) ∧
  (∀ (k0_h1 : k0_cond1 k0_t1 = 1#1), ∀ (k0_h2 : k0_cond2 k0_t1 = 1#1), ∀ a, (k0_off14 v293_0) a + S1x1x256.size a ≤ S1x2x4096.size a) ∧
  (∀ (k0_h1 : k0_cond1 k0_t1 = 1#1), ∀ (k0_h2 : k0_cond2 k0_t1 = 1#1), ∀ a, (k0_off15 v293_0) a + S1x1x256.size a ≤ S1x2x4096.size a) ∧
  (∀ (k0_h1 : k0_cond1 k0_t1 = 1#1), ∀ (k0_h2 : k0_cond2 k0_t1 = 1#1), ∀ a, (k0_off16 v293_0) a + S128x256.size a ≤ S128x4096.size a) ∧
  (∀ (k0_h1 : k0_cond1 k0_t1 = 1#1), ∀ (k0_h2 : ¬(k0_cond2 k0_t1 = 1#1)), 256 ∣ (k0_mult11 v293_0).toNat) ∧
  (∀ (k0_h1 : k0_cond1 k0_t1 = 1#1), ∀ (k0_h2 : ¬(k0_cond2 k0_t1 = 1#1)), ∀ (r : Fin 2), ∀ a, (k0_off17 v293_0 (BitVec.ofNat 32 r.val)) a + S1x256x128.size a ≤ S1x4096x128.size a) ∧
  (∀ (k0_h1 : k0_cond1 k0_t1 = 1#1), ∀ (k0_h2 : ¬(k0_cond2 k0_t1 = 1#1)), ∀ (r : Fin 2), ∀ a, (k0_off18 v293_0 (BitVec.ofNat 32 r.val)) a + S1x1x256.size a ≤ S1x2x4096.size a) ∧
  (∀ (k0_h1 : k0_cond1 k0_t1 = 1#1), ∀ (k0_h2 : ¬(k0_cond2 k0_t1 = 1#1)), ∀ (r : Fin 2), ∀ a, (k0_off19 v293_0 (BitVec.ofNat 32 r.val)) a + S1x1x256.size a ≤ S1x2x4096.size a) ∧
  (∀ (k0_h1 : k0_cond1 k0_t1 = 1#1), ∀ (k0_h2 : ¬(k0_cond2 k0_t1 = 1#1)), ∀ (r : Fin 2), ∀ a, (k0_off20 v293_0 (BitVec.ofNat 32 r.val)) a + S128x256.size a ≤ S128x4096.size a) ∧
  (∀ (k0_h1 : k0_cond1 k0_t1 = 1#1), ∀ (k0_h2 : ¬(k0_cond2 k0_t1 = 1#1)), 256 ∣ (k0_mult12 v293_0).toNat) ∧
  (∀ (k0_h1 : ¬(k0_cond1 k0_t1 = 1#1)), ∀ (k0_h3 : k0_cond3 k0_t1 = 1#1), 256 ∣ (k0_mult13 v293_0).toNat) ∧
  (∀ (k0_h1 : ¬(k0_cond1 k0_t1 = 1#1)), ∀ (k0_h3 : k0_cond3 k0_t1 = 1#1), ∀ (r : Fin 3), ∀ a, (k0_off21 v293_0 (BitVec.ofNat 32 r.val)) a + S1x256x128.size a ≤ S1x4096x128.size a) ∧
  (∀ (k0_h1 : ¬(k0_cond1 k0_t1 = 1#1)), ∀ (k0_h3 : k0_cond3 k0_t1 = 1#1), ∀ (r : Fin 3), ∀ a, (k0_off22 v293_0 (BitVec.ofNat 32 r.val)) a + S1x1x256.size a ≤ S1x2x4096.size a) ∧
  (∀ (k0_h1 : ¬(k0_cond1 k0_t1 = 1#1)), ∀ (k0_h3 : k0_cond3 k0_t1 = 1#1), ∀ (r : Fin 3), ∀ a, (k0_off23 v293_0 (BitVec.ofNat 32 r.val)) a + S1x1x256.size a ≤ S1x2x4096.size a) ∧
  (∀ (k0_h1 : ¬(k0_cond1 k0_t1 = 1#1)), ∀ (k0_h3 : k0_cond3 k0_t1 = 1#1), ∀ (r : Fin 3), ∀ a, (k0_off24 v293_0 (BitVec.ofNat 32 r.val)) a + S128x256.size a ≤ S128x4096.size a) ∧
  (∀ (k0_h1 : ¬(k0_cond1 k0_t1 = 1#1)), ∀ (k0_h3 : k0_cond3 k0_t1 = 1#1), 256 ∣ (k0_mult14 v293_0).toNat) ∧
  (∀ (k0_h1 : ¬(k0_cond1 k0_t1 = 1#1)), ∀ (k0_h3 : k0_cond3 k0_t1 = 1#1), 256 ∣ (k0_mult15 v293_0).toNat) ∧
  (∀ (k0_h1 : ¬(k0_cond1 k0_t1 = 1#1)), ∀ (k0_h3 : ¬(k0_cond3 k0_t1 = 1#1)), 256 ∣ (k0_mult16 v293_0).toNat) ∧
  (∀ (k0_h1 : ¬(k0_cond1 k0_t1 = 1#1)), ∀ (k0_h3 : ¬(k0_cond3 k0_t1 = 1#1)), ∀ (r : Fin 4), ∀ a, (k0_off25 v293_0 (BitVec.ofNat 32 r.val)) a + S1x256x128.size a ≤ S1x4096x128.size a) ∧
  (∀ (k0_h1 : ¬(k0_cond1 k0_t1 = 1#1)), ∀ (k0_h3 : ¬(k0_cond3 k0_t1 = 1#1)), ∀ (r : Fin 4), ∀ a, (k0_off26 v293_0 (BitVec.ofNat 32 r.val)) a + S1x1x256.size a ≤ S1x2x4096.size a) ∧
  (∀ (k0_h1 : ¬(k0_cond1 k0_t1 = 1#1)), ∀ (k0_h3 : ¬(k0_cond3 k0_t1 = 1#1)), ∀ (r : Fin 4), ∀ a, (k0_off27 v293_0 (BitVec.ofNat 32 r.val)) a + S1x1x256.size a ≤ S1x2x4096.size a) ∧
  (∀ (k0_h1 : ¬(k0_cond1 k0_t1 = 1#1)), ∀ (k0_h3 : ¬(k0_cond3 k0_t1 = 1#1)), ∀ (r : Fin 4), ∀ a, (k0_off28 v293_0 (BitVec.ofNat 32 r.val)) a + S128x256.size a ≤ S128x4096.size a) ∧
  (∀ (k0_h1 : ¬(k0_cond1 k0_t1 = 1#1)), ∀ (k0_h3 : ¬(k0_cond3 k0_t1 = 1#1)), 256 ∣ (k0_mult17 v293_0).toNat) ∧
  (∀ (k0_h1 : ¬(k0_cond1 k0_t1 = 1#1)), ∀ (k0_h3 : ¬(k0_cond3 k0_t1 = 1#1)), 256 ∣ (k0_mult18 v293_0).toNat) ∧
  (∀ (k0_h1 : ¬(k0_cond1 k0_t1 = 1#1)), ∀ (k0_h3 : ¬(k0_cond3 k0_t1 = 1#1)), 256 ∣ (k0_mult19 v293_0).toNat)
theorem k0_mult10_dvd : ∀ (k0_t1 : Fin k0_t1_loop.trips) (v293_0 : BitVec 32) (k0_hw3 : k0_chk3 k0_t1 v293_0), ∀ (k0_h1 : k0_cond1 k0_t1 = 1#1), ∀ (k0_h2 : k0_cond2 k0_t1 = 1#1), 256 ∣ (k0_mult10 v293_0).toNat := fun k0_t1 v293_0 k0_hw3 k0_h1 k0_h2 => k0_hw3.1 k0_h1 k0_h2
theorem k0_off13_inb : ∀ (k0_t1 : Fin k0_t1_loop.trips) (v293_0 : BitVec 32) (k0_hw3 : k0_chk3 k0_t1 v293_0), ∀ (k0_h1 : k0_cond1 k0_t1 = 1#1), ∀ (k0_h2 : k0_cond2 k0_t1 = 1#1), ∀ a, (k0_off13 v293_0) a + S1x256x128.size a ≤ S1x4096x128.size a := fun k0_t1 v293_0 k0_hw3 k0_h1 k0_h2 => k0_hw3.2.1 k0_h1 k0_h2
theorem k0_off14_inb : ∀ (k0_t1 : Fin k0_t1_loop.trips) (v293_0 : BitVec 32) (k0_hw3 : k0_chk3 k0_t1 v293_0), ∀ (k0_h1 : k0_cond1 k0_t1 = 1#1), ∀ (k0_h2 : k0_cond2 k0_t1 = 1#1), ∀ a, (k0_off14 v293_0) a + S1x1x256.size a ≤ S1x2x4096.size a := fun k0_t1 v293_0 k0_hw3 k0_h1 k0_h2 => k0_hw3.2.2.1 k0_h1 k0_h2
theorem k0_off15_inb : ∀ (k0_t1 : Fin k0_t1_loop.trips) (v293_0 : BitVec 32) (k0_hw3 : k0_chk3 k0_t1 v293_0), ∀ (k0_h1 : k0_cond1 k0_t1 = 1#1), ∀ (k0_h2 : k0_cond2 k0_t1 = 1#1), ∀ a, (k0_off15 v293_0) a + S1x1x256.size a ≤ S1x2x4096.size a := fun k0_t1 v293_0 k0_hw3 k0_h1 k0_h2 => k0_hw3.2.2.2.1 k0_h1 k0_h2
theorem k0_off16_inb : ∀ (k0_t1 : Fin k0_t1_loop.trips) (v293_0 : BitVec 32) (k0_hw3 : k0_chk3 k0_t1 v293_0), ∀ (k0_h1 : k0_cond1 k0_t1 = 1#1), ∀ (k0_h2 : k0_cond2 k0_t1 = 1#1), ∀ a, (k0_off16 v293_0) a + S128x256.size a ≤ S128x4096.size a := fun k0_t1 v293_0 k0_hw3 k0_h1 k0_h2 => k0_hw3.2.2.2.2.1 k0_h1 k0_h2
theorem k0_mult11_dvd : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), 256 ∣ (k0_mult11 v293_0).toNat := fun k0_t1 v293_0 k0_hw3 k0_h1 k0_h2 => k0_hw3.2.2.2.2.2.1 k0_h1 k0_h2
theorem k0_off17_inb : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), ∀ (r : Fin 2), ∀ a, (k0_off17 v293_0 (BitVec.ofNat 32 r.val)) a + S1x256x128.size a ≤ S1x4096x128.size a := fun k0_t1 v293_0 k0_hw3 k0_h1 k0_h2 r => k0_hw3.2.2.2.2.2.2.1 k0_h1 k0_h2 r
theorem k0_off18_inb : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), ∀ (r : Fin 2), ∀ a, (k0_off18 v293_0 (BitVec.ofNat 32 r.val)) a + S1x1x256.size a ≤ S1x2x4096.size a := fun k0_t1 v293_0 k0_hw3 k0_h1 k0_h2 r => k0_hw3.2.2.2.2.2.2.2.1 k0_h1 k0_h2 r
theorem k0_off19_inb : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), ∀ (r : Fin 2), ∀ a, (k0_off19 v293_0 (BitVec.ofNat 32 r.val)) a + S1x1x256.size a ≤ S1x2x4096.size a := fun k0_t1 v293_0 k0_hw3 k0_h1 k0_h2 r => k0_hw3.2.2.2.2.2.2.2.2.1 k0_h1 k0_h2 r
theorem k0_off20_inb : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), ∀ (r : Fin 2), ∀ a, (k0_off20 v293_0 (BitVec.ofNat 32 r.val)) a + S128x256.size a ≤ S128x4096.size a := fun k0_t1 v293_0 k0_hw3 k0_h1 k0_h2 r => k0_hw3.2.2.2.2.2.2.2.2.2.1 k0_h1 k0_h2 r
theorem k0_mult12_dvd : ∀ (k0_t1 : Fin k0_t1_loop.trips) (v293_0 : BitVec 32) (k0_hw3 : k0_chk3 k0_t1 v293_0), ∀ (k0_h1 : k0_cond1 k0_t1 = 1#1), ∀ (k0_h2 : ¬(k0_cond2 k0_t1 = 1#1)), 256 ∣ (k0_mult12 v293_0).toNat := fun k0_t1 v293_0 k0_hw3 k0_h1 k0_h2 => k0_hw3.2.2.2.2.2.2.2.2.2.2.1 k0_h1 k0_h2
theorem k0_mult13_dvd : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), 256 ∣ (k0_mult13 v293_0).toNat := fun k0_t1 v293_0 k0_hw3 k0_h1 k0_h3 => k0_hw3.2.2.2.2.2.2.2.2.2.2.2.1 k0_h1 k0_h3
theorem k0_off21_inb : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), ∀ (r : Fin 3), ∀ a, (k0_off21 v293_0 (BitVec.ofNat 32 r.val)) a + S1x256x128.size a ≤ S1x4096x128.size a := fun k0_t1 v293_0 k0_hw3 k0_h1 k0_h3 r => k0_hw3.2.2.2.2.2.2.2.2.2.2.2.2.1 k0_h1 k0_h3 r
theorem k0_off22_inb : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), ∀ (r : Fin 3), ∀ a, (k0_off22 v293_0 (BitVec.ofNat 32 r.val)) a + S1x1x256.size a ≤ S1x2x4096.size a := fun k0_t1 v293_0 k0_hw3 k0_h1 k0_h3 r => k0_hw3.2.2.2.2.2.2.2.2.2.2.2.2.2.1 k0_h1 k0_h3 r
theorem k0_off23_inb : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), ∀ (r : Fin 3), ∀ a, (k0_off23 v293_0 (BitVec.ofNat 32 r.val)) a + S1x1x256.size a ≤ S1x2x4096.size a := fun k0_t1 v293_0 k0_hw3 k0_h1 k0_h3 r => k0_hw3.2.2.2.2.2.2.2.2.2.2.2.2.2.2.1 k0_h1 k0_h3 r
theorem k0_off24_inb : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), ∀ (r : Fin 3), ∀ a, (k0_off24 v293_0 (BitVec.ofNat 32 r.val)) a + S128x256.size a ≤ S128x4096.size a := fun k0_t1 v293_0 k0_hw3 k0_h1 k0_h3 r => k0_hw3.2.2.2.2.2.2.2.2.2.2.2.2.2.2.2.1 k0_h1 k0_h3 r
theorem k0_mult14_dvd : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), 256 ∣ (k0_mult14 v293_0).toNat := fun k0_t1 v293_0 k0_hw3 k0_h1 k0_h3 => k0_hw3.2.2.2.2.2.2.2.2.2.2.2.2.2.2.2.2.1 k0_h1 k0_h3
theorem k0_mult15_dvd : ∀ (k0_t1 : Fin k0_t1_loop.trips) (v293_0 : BitVec 32) (k0_hw3 : k0_chk3 k0_t1 v293_0), ∀ (k0_h1 : ¬(k0_cond1 k0_t1 = 1#1)), ∀ (k0_h3 : k0_cond3 k0_t1 = 1#1), 256 ∣ (k0_mult15 v293_0).toNat := fun k0_t1 v293_0 k0_hw3 k0_h1 k0_h3 => k0_hw3.2.2.2.2.2.2.2.2.2.2.2.2.2.2.2.2.2.1 k0_h1 k0_h3
theorem k0_mult16_dvd : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), 256 ∣ (k0_mult16 v293_0).toNat := fun k0_t1 v293_0 k0_hw3 k0_h1 k0_h3 => k0_hw3.2.2.2.2.2.2.2.2.2.2.2.2.2.2.2.2.2.2.1 k0_h1 k0_h3
theorem k0_off25_inb : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), ∀ (r : Fin 4), ∀ a, (k0_off25 v293_0 (BitVec.ofNat 32 r.val)) a + S1x256x128.size a ≤ S1x4096x128.size a := fun k0_t1 v293_0 k0_hw3 k0_h1 k0_h3 r => k0_hw3.2.2.2.2.2.2.2.2.2.2.2.2.2.2.2.2.2.2.2.1 k0_h1 k0_h3 r
theorem k0_off26_inb : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), ∀ (r : Fin 4), ∀ a, (k0_off26 v293_0 (BitVec.ofNat 32 r.val)) a + S1x1x256.size a ≤ S1x2x4096.size a := fun k0_t1 v293_0 k0_hw3 k0_h1 k0_h3 r => k0_hw3.2.2.2.2.2.2.2.2.2.2.2.2.2.2.2.2.2.2.2.2.1 k0_h1 k0_h3 r
theorem k0_off27_inb : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), ∀ (r : Fin 4), ∀ a, (k0_off27 v293_0 (BitVec.ofNat 32 r.val)) a + S1x1x256.size a ≤ S1x2x4096.size a := fun k0_t1 v293_0 k0_hw3 k0_h1 k0_h3 r => k0_hw3.2.2.2.2.2.2.2.2.2.2.2.2.2.2.2.2.2.2.2.2.2.1 k0_h1 k0_h3 r
theorem k0_off28_inb : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), ∀ (r : Fin 4), ∀ a, (k0_off28 v293_0 (BitVec.ofNat 32 r.val)) a + S128x256.size a ≤ S128x4096.size a := fun k0_t1 v293_0 k0_hw3 k0_h1 k0_h3 r => k0_hw3.2.2.2.2.2.2.2.2.2.2.2.2.2.2.2.2.2.2.2.2.2.2.1 k0_h1 k0_h3 r
theorem k0_mult17_dvd : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), 256 ∣ (k0_mult17 v293_0).toNat := fun k0_t1 v293_0 k0_hw3 k0_h1 k0_h3 => k0_hw3.2.2.2.2.2.2.2.2.2.2.2.2.2.2.2.2.2.2.2.2.2.2.2.1 k0_h1 k0_h3
theorem k0_mult18_dvd : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), 256 ∣ (k0_mult18 v293_0).toNat := fun k0_t1 v293_0 k0_hw3 k0_h1 k0_h3 => k0_hw3.2.2.2.2.2.2.2.2.2.2.2.2.2.2.2.2.2.2.2.2.2.2.2.2.1 k0_h1 k0_h3
theorem k0_mult19_dvd : ∀ (k0_t1 : Fin k0_t1_loop.trips) (v293_0 : BitVec 32) (k0_hw3 : k0_chk3 k0_t1 v293_0), ∀ (k0_h1 : ¬(k0_cond1 k0_t1 = 1#1)), ∀ (k0_h3 : ¬(k0_cond3 k0_t1 = 1#1)), 256 ∣ (k0_mult19 v293_0).toNat := fun k0_t1 v293_0 k0_hw3 k0_h1 k0_h3 => k0_hw3.2.2.2.2.2.2.2.2.2.2.2.2.2.2.2.2.2.2.2.2.2.2.2.2.2 k0_h1 k0_h3

def k0_off29 (k0_t1 : Fin k0_t1_loop.trips) : Fin 3 → Nat :=
  let c0_189 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v311 : Index := Scalar.indexCast v211
  let c0_190 : Index := 0#32
  ![0, v311.toNat, 0]
def k0_off30 (k0_t1 : Fin k0_t1_loop.trips) : Fin 3 → Nat :=
  let c0_191 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v315 : Index := Scalar.indexCast v211
  let c0_192 : Index := 0#32
  ![0, v315.toNat, 0]
def k0_off31 (k0_t1 : Fin k0_t1_loop.trips) : Fin 3 → Nat :=
  let c0_193 : Index := 0#32
  let c0_i32 : BitVec 32 := 0#32
  let c1_i32 : BitVec 32 := 1#32
  let arg14 : BitVec 32 := Scf.iv c0_i32 c1_i32 k0_t1
  let c256_i32 : BitVec 32 := 256#32
  let v210 : BitVec 32 := Scalar.muli arg14 c256_i32
  let v211 : BitVec 32 := v210
  let v319 : Index := Scalar.indexCast v211
  let c1_194 : Index := 1#32
  ![0, v319.toNat, 1]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2.lean ====
abbrev S8192x1024 : Shape := ⟨2, ![8192, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S4x704x1024 : Shape := ⟨3, ![4, 704, 1024]⟩
abbrev S4x8192x704 : Shape := ⟨3, ![4, 8192, 704]⟩
abbrev S2816x1024 : Shape := ⟨2, ![2816, 1024]⟩
abbrev S8192x4x704 : Shape := ⟨3, ![8192, 4, 704]⟩
abbrev S8192x2816 : Shape := ⟨2, ![8192, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S4x8192x704, .bf16⟩
  | .hbm, ⟨3, _⟩ => ⟨S4x8192x704, .bf16⟩
  | .hbm, ⟨4, _⟩ => ⟨S2816x1024, .bf16⟩
  | .hbm, ⟨5, _⟩ => ⟨S2816x1024, .f32⟩
  | .hbm, ⟨6, _⟩ => ⟨S8192x4x704, .bf16⟩
  | .hbm, ⟨7, _⟩ => ⟨S8192x2816, .bf16⟩
  | .hbm, ⟨8, _⟩ => ⟨S8192x2816, .f32⟩
  | .hbm, ⟨9, _⟩ => ⟨S8192x4x704, .bf16⟩
  | .hbm, ⟨10, _⟩ => ⟨S8192x2816, .bf16⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x4x704, .f32⟩
  | .hbm, ⟨36, _⟩ => ⟨S4x8192x704, .f32⟩
  | .hbm, ⟨37, _⟩ => ⟨S4x8192x704, .bf16⟩
  | .hbm, ⟨38, _⟩ => ⟨S8192x4x704, .f32⟩
  | .hbm, ⟨39, _⟩ => ⟨S4x8192x704, .f32⟩
  | .hbm, ⟨40, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S4x8192x704 : Shape := ⟨3, ![4, 8192, 704]⟩
abbrev S1x8x1024x704 : Shape := ⟨4, ![1, 8, 1024, 704]⟩
abbrev S8192x1024 : Shape := ⟨2, ![8192, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x1024x704 : Shape := ⟨4, ![1, 1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S1x8x1024x704, .bf16⟩
  | .hbm, ⟨3, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S1x8x1024x704, .bf16⟩
  | .local _ .vmem, ⟨5, _⟩ => ⟨S512x1024, .f32⟩
  | .local _ .vmem, ⟨6, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x8192x704 : Shape := ⟨3, ![4, 8192, 704]⟩
abbrev S1x8x1024x704 : Shape := ⟨4, ![1, 8, 1024, 704]⟩
abbrev S8x1024x704 : Shape := ⟨3, ![8, 1024, 704]⟩
abbrev S1024x8x704 : Shape := ⟨3, ![1024, 8, 704]⟩
abbrev S1024x5632 : Shape := ⟨2, ![1024, 5632]⟩
abbrev S8192x4x704 : Shape := ⟨3, ![8192, 4, 704]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S1x8x1024x704, .bf16⟩
  | .hbm, ⟨3, _⟩ => ⟨S8x1024x704, .bf16⟩
  | .hbm, ⟨4, _⟩ => ⟨S1024x8x704, .bf16⟩
  | .hbm, ⟨5, _⟩ => ⟨S1024x5632, .bf16⟩
  | .hbm, ⟨6, _⟩ => ⟨S1024x5632, .f32⟩
  | .hbm, ⟨7, _⟩ => ⟨S8192x4x704, .bf16⟩
  | .hbm, ⟨8, _⟩ => ⟨S8192x2816, .bf16⟩
  | .hbm, ⟨9, _⟩ => ⟨S8192x4x704, .bf16⟩
  | .hbm, ⟨10, _⟩ => ⟨S8192x2816, .bf16⟩
  | .hbm, ⟨11, _⟩ => ⟨S8192x5632, .bf16⟩
  | .hbm, ⟨12, _⟩ => ⟨S8192x5632, .f32⟩
  | .hbm, ⟨13, _⟩ => ⟨S_, .f32⟩
  | .hbm, ⟨14, _⟩ => ⟨S8192x1024, .f32⟩
  | .hbm, ⟨15, _⟩ => ⟨S8192x5632, .f32⟩
  | .hbm, ⟨16, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S4x704x1024 : Shape := ⟨3, ![4, 704, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S704x1024 : Shape := ⟨2, ![704, 1024]⟩
abbrev S1x704x1024 : Shape := ⟨3, ![1, 704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .bf16⟩
  | .local _ .vmem, ⟨5, _⟩ => ⟨S4x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_38 : BitVec 32 := 0#32
  let v42 : BitVec 1 := Scalar.cmpi .ne v41 c0_i32_38
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S_, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x1024 : Shape := ⟨2, ![8192, 1024]⟩
abbrev S4x8192x704 : Shape := ⟨3, ![4, 8192, 704]⟩
abbrev S8x1024x704 : Shape := ⟨3, ![8, 1024, 704]⟩
abbrev S1024x1024 : Shape := ⟨2, ![1024, 1024]⟩
abbrev S4x1024x704 : Shape := ⟨3, ![4, 1024, 704]⟩
abbrev S1x1024x704 : Shape := ⟨3, ![1, 1024, 704]⟩
abbrev S1024x704 : Shape := ⟨2, ![1024, 704]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S8x1024x704, .bf16⟩
  | .hbm, ⟨3, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x1024x704, .bf16⟩
  | .local _ .vmem, ⟨5, _⟩ => ⟨S4x1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_38 : BitVec 32 := 0#32
  let v42 : BitVec 1 := Scalar.cmpi .ne v41 c0_i32_38
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S4x8192x704 : Shape := ⟨3, ![4, 8192, 704]⟩
abbrev S8x1024x704 : Shape := ⟨3, ![8, 1024, 704]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S8x1024x704, .bf16⟩
  | .hbm, ⟨3, _⟩ => ⟨S8192x1024, .f32⟩
  | .hbm, ⟨4, _⟩ => ⟨S8192x4x704, .bf16⟩
  | .hbm, ⟨5, _⟩ => ⟨S8192x2816, .bf16⟩
  | .hbm, ⟨6, _⟩ => ⟨S8192x2816, .f32⟩
  | .hbm, ⟨7, _⟩ => ⟨S_, .f32⟩
  | .hbm, ⟨8, _⟩ => ⟨S1024x2816, .f32⟩
  | .hbm, ⟨9, _⟩ => ⟨S8192x2816, .f32⟩
  | .hbm, ⟨10, _⟩ => ⟨S2816x1024, .f32⟩
  | .hbm, ⟨11, _⟩ => ⟨S1024x2816, .f32⟩
  | .hbm, ⟨12, _⟩ => ⟨S1024x4x704, .f32⟩
  | .hbm, ⟨13, _⟩ => ⟨S4x1024x704, .f32⟩
  | .hbm, ⟨14, _⟩ => ⟨S4x1024x704, .bf16⟩
  | .hbm, ⟨15, _⟩ => ⟨S4x1024x704, .bf16⟩
  | .hbm, ⟨16, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S8192x1024 : Shape := ⟨2, ![8192, 1024]⟩
abbrev S4x8192x704 : Shape := ⟨3, ![4, 8192, 704]⟩
abbrev S8x1024x704 : Shape := ⟨3, ![8, 1024, 704]⟩
abbrev S1024x1024 : Shape := ⟨2, ![1024, 1024]⟩
abbrev S4x1024x704 : Shape := ⟨3, ![4, 1024, 704]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x1024x704, .bf16⟩
  | .local _ .vmem, ⟨5, _⟩ => ⟨S4x1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_38 : BitVec 32 := 0#32
  let v42 : BitVec 1 := Scalar.cmpi .ne v41 c0_i32_38
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x1024 : Shape := ⟨2, ![8192, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S8x1024x704 : Shape := ⟨3, ![8, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S8192x1024, .f32⟩
  | .hbm, ⟨3, _⟩ => ⟨S8192x4x704, .bf16⟩
  | .hbm, ⟨4, _⟩ => ⟨S8192x2816, .bf16⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | .hbm, ⟨14, _⟩ => ⟨S_, .bf16⟩
  | .hbm, ⟨15, _⟩ => ⟨S4x1024x704, .bf16⟩
  | .hbm, ⟨16, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel7.lean ====
abbrev S8192x1024 : Shape := ⟨2, ![8192, 1024]⟩
abbrev S1x8x1024x704 : Shape := ⟨4, ![1, 8, 1024, 704]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x8x1024x704, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S1x8x1024x704 : Shape := ⟨4, ![1, 8, 1024, 704]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x8x1024x704, .bf16⟩
  | .hbm, ⟨2, _⟩ => ⟨S8x1024x704, .bf16⟩
  | .hbm, ⟨3, _⟩ => ⟨S1024x8x704, .bf16⟩
  | .hbm, ⟨4, _⟩ => ⟨S1024x5632, .bf16⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x4x704, .f32⟩
  | .hbm, ⟨21, _⟩ => ⟨S4x8192x704, .f32⟩
  | .hbm, ⟨22, _⟩ => ⟨S4x8192x704, .bf16⟩
  | .hbm, ⟨23, _⟩ => ⟨S8192x4x704, .f32⟩
  | .hbm, ⟨24, _⟩ => ⟨S4x8192x704, .f32⟩
  | .hbm, ⟨25, _⟩ => ⟨S4x8192x704, .bf16⟩
  | .hbm, ⟨26, _⟩ => ⟨S8192x4x704, .f32⟩
  | .hbm, ⟨27, _⟩ => ⟨S4x8192x704, .f32⟩
  | .hbm, ⟨28, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel8.lean ====
abbrev S4x8192x704 : Shape := ⟨3, ![4, 8192, 704]⟩
abbrev S4x704x1024 : Shape := ⟨3, ![4, 704, 1024]⟩
abbrev S8192x1024 : Shape := ⟨2, ![8192, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4x8192x704 : Shape := ⟨3, ![4, 8192, 704]⟩
abbrev S4x704x1024 : Shape := ⟨3, ![4, 704, 1024]⟩
abbrev S8192x4x704 : Shape := ⟨3, ![8192, 4, 704]⟩
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S2816x1024, .bf16⟩
  | .hbm, ⟨6, _⟩ => ⟨S2816x1024, .f32⟩
  | .hbm, ⟨7, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x3072 : Shape := ⟨2, ![1024, 3072]⟩
abbrev S3x8192x1024 : Shape := ⟨3, ![3, 8192, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S3x8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x3072 : Shape := ⟨2, ![1024, 3072]⟩
abbrev S8192x3072 : Shape := ⟨2, ![8192, 3072]⟩
abbrev S1x8192x1024 : Shape := ⟨3, ![1, 8192, 1024]⟩
abbrev S3x8192x1024 : Shape := ⟨3, ![3, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S3x8192x1024, .f32⟩
  | .hbm, ⟨12, _⟩ => ⟨S3x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel10.lean ====
abbrev S8192x1024 : Shape := ⟨2, ![8192, 1024]⟩
abbrev S3x8192x1024 : Shape := ⟨3, ![3, 8192, 1024]⟩
abbrev S1024x3072 : Shape := ⟨2, ![1024, 3072]⟩
abbrev S1024x1024 : Shape := ⟨2, ![1024, 1024]⟩
abbrev S3x1024x1024 : Shape := ⟨3, ![3, 1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S3x1024x1024, .bf16⟩
  | .local _ .vmem, ⟨3, _⟩ => ⟨S3x1024x1024, .bf16⟩
  | .local _ .vmem, ⟨4, _⟩ => ⟨S1024x3072, .bf16⟩
  | .local _ .vmem, ⟨5, _⟩ => ⟨S3x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_29 : BitVec 32 := 0#32
  let v33 : BitVec 1 := Scalar.cmpi .ne v32 c0_i32_29
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S8192x1024 : Shape := ⟨2, ![8192, 1024]⟩
abbrev S3x8192x1024 : Shape := ⟨3, ![3, 8192, 1024]⟩
abbrev S_ : Shape := ⟨0, ![]⟩
abbrev S1024x3072 : Shape := ⟨2, ![1024, 3072]⟩
abbrev S8192x3072 : Shape := ⟨2, ![8192, 3072]⟩
abbrev S1x8192x1024 : Shape := ⟨3, ![1, 8192, 1024]⟩
abbrev S3072x1024 : Shape := ⟨2, ![3072, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S3x8192x1024, .f32⟩
  | .hbm, ⟨10, _⟩ => ⟨S1x8192x1024, .f32⟩
  | .hbm, ⟨11, _⟩ => ⟨S8192x1024, .f32⟩
  | .hbm, ⟨12, _⟩ => ⟨S1x8192x1024, .f32⟩
  | .hbm, ⟨13, _⟩ => ⟨S8192x1024, .f32⟩
  | .hbm, ⟨14, _⟩ => ⟨S1x8192x1024, .f32⟩
  | .hbm, ⟨15, _⟩ => ⟨S8192x1024, .f32⟩
  | .hbm, ⟨16, _⟩ => ⟨S8192x3072, .f32⟩
  | .hbm, ⟨17, _⟩ => ⟨S3072x1024, .f32⟩
  | .hbm, ⟨18, _⟩ => ⟨S1024x3072, .f32⟩
  | .hbm, ⟨19, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel11.lean ====
abbrev S3x8192x1024 : Shape := ⟨3, ![3, 8192, 1024]⟩
abbrev S1024x3072 : Shape := ⟨2, ![1024, 3072]⟩
abbrev S8192x1024 : Shape := ⟨2, ![8192, 1024]⟩
abbrev S3x512x1024 : Shape := ⟨3, ![3, 512, 1024]⟩
abbrev S512x1024 : Shape := ⟨2, ![512, 1024]⟩
abbrev S1x512x1024 : Shape := ⟨3, ![1, 512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .bf16⟩
  | .hbm, ⟨2, _⟩ => ⟨S8192x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S3x8192x1024 : Shape := ⟨3, ![3, 8192, 1024]⟩
abbrev S1024x3072 : Shape := ⟨2, ![1024, 3072]⟩
abbrev S_ : Shape := ⟨0, ![]⟩
abbrev S8192x1024 : Shape := ⟨2, ![8192, 1024]⟩
abbrev S8192x3072 : Shape := ⟨2, ![8192, 3072]⟩
abbrev S1x8192x1024 : Shape := ⟨3, ![1, 8192, 1024]⟩

abbrev nBuf : Space → Nat
  | .hbm => 18
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .bf16⟩
  | .hbm, ⟨2, _⟩ => ⟨S1024x3072, .f32⟩
  | .hbm, ⟨3, _⟩ => ⟨S_, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S3x8192x1024, .f32⟩
  | .hbm, ⟨10, _⟩ => ⟨S1x8192x1024, .f32⟩
  | .hbm, ⟨11, _⟩ => ⟨S8192x1024, .f32⟩
  | .hbm, ⟨12, _⟩ => ⟨S1x8192x1024, .f32⟩
  | .hbm, ⟨13, _⟩ => ⟨S8192x1024, .f32⟩
  | .hbm, ⟨14, _⟩ => ⟨S1x8192x1024, .f32⟩
  | .hbm, ⟨15, _⟩ => ⟨S8192x1024, .f32⟩
  | .hbm, ⟨16, _⟩ => ⟨S8192x3072, .f32⟩
  | .hbm, ⟨17, _⟩ => ⟨S8192x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference14Ideal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference17Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1x8x1024x256 : Shape := ⟨4, ![1, 8, 1024, 256]⟩
abbrev S1x2048 : Shape := ⟨2, ![1, 2048]⟩
abbrev S8192x2048 : Shape := ⟨2, ![8192, 2048]⟩
abbrev S512x1024 : Shape := ⟨2, ![512, 1024]⟩
abbrev S512x2048 : Shape := ⟨2, ![512, 2048]⟩
abbrev S1x1x1024x256 : Shape := ⟨4, ![1, 1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x8x1024x256, .bf16⟩
  | .hbm, ⟨2, _⟩ => ⟨S1x2048, .f32⟩
  | .hbm, ⟨3, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x8x1024x256, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S8192x1024 : Shape := ⟨2, ![8192, 1024]⟩
abbrev S1x8x1024x256 : Shape := ⟨4, ![1, 8, 1024, 256]⟩
abbrev S1x2048 : Shape := ⟨2, ![1, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x8x1024x256, .bf16⟩
  | .hbm, ⟨2, _⟩ => ⟨S1x2048, .f32⟩
  | .hbm, ⟨3, _⟩ => ⟨S8x1024x256, .bf16⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S8192x1024 : Shape := ⟨2, ![8192, 1024]⟩
abbrev S8192x2048 : Shape := ⟨2, ![8192, 2048]⟩
abbrev S1x8x1024x256 : Shape := ⟨4, ![1, 8, 1024, 256]⟩
abbrev S1024x1024 : Shape := ⟨2, ![1024, 1024]⟩
abbrev S1024x2048 : Shape := ⟨2, ![1024, 2048]⟩
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x8x1024x256, .bf16⟩
  | .local _ .vmem, ⟨5, _⟩ => ⟨S8x1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_59 : BitVec 32 := 0#32
  let v70 : BitVec 1 := Scalar.cmpi .ne v69 c0_i32_59
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference19Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩
abbrev S1x8x1024x256 : Shape := ⟨4, ![1, 8, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | .hbm, ⟨12, _⟩ => ⟨S1x8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel20.lean ====
abbrev S8192x2048 : Shape := ⟨2, ![8192, 2048]⟩
abbrev S1x8x1024x256 : Shape := ⟨4, ![1, 8, 1024, 256]⟩
abbrev S8192x1024 : Shape := ⟨2, ![8192, 1024]⟩
abbrev S512x2048 : Shape := ⟨2, ![512, 2048]⟩
abbrev S512x1024 : Shape := ⟨2, ![512, 1024]⟩
abbrev S512x256 : Shape := ⟨2, ![512, 256]⟩
abbrev S1x1x1024x256 : Shape := ⟨4, ![1, 1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x8x1024x256, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1x8x1024x256, .bf16⟩
  | .local _ .vmem, ⟨3, _⟩ => ⟨S512x1024, .f32⟩
  | .local _ .vmem, ⟨4, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x2048 : Shape := ⟨2, ![8192, 2048]⟩
abbrev S1x8x1024x256 : Shape := ⟨4, ![1, 8, 1024, 256]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8x1024x256, .bf16⟩
  | .hbm, ⟨2, _⟩ => ⟨S8x1024x256, .bf16⟩
  | .hbm, ⟨3, _⟩ => ⟨S1024x8x256, .bf16⟩
  | .hbm, ⟨4, _⟩ => ⟨S1024x2048, .bf16⟩
  | .hbm, ⟨5, _⟩ => ⟨S1024x2048, .f32⟩
  | .hbm, ⟨6, _⟩ => ⟨S_, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S4096x704 : Shape := ⟨2, ![4096, 704]⟩
abbrev S8x1024x704 : Shape := ⟨3, ![8, 1024, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 11
  | .vmem => 22
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x1024x704, .bf16⟩
  | .hbm, ⟨4, _⟩ => ⟨S8x1024x704, .bf16⟩
  | .hbm, ⟨5, _⟩ => ⟨S8x1024x704, .bf16⟩
  | .hbm, ⟨6, _⟩ => ⟨S8x1024x704, .bf16⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S8x256x704, .bf16⟩
  | .local _ .vmem, ⟨9, _⟩ => ⟨S8x256x704, .bf16⟩
  | .local _ .vmem, ⟨10, _⟩ => ⟨S8x256x704, .bf16⟩
  | .local _ .vmem, ⟨11, _⟩ => ⟨S8x256x704, .bf16⟩
  | .local _ .vmem, ⟨12, _⟩ => ⟨S8x256x704, .bf16⟩
  | .local _ .vmem, ⟨13, _⟩ => ⟨S8x256x704, .bf16⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S4096x704 : Shape := ⟨2, ![4096, 704]⟩
abbrev S8x1024x704 : Shape := ⟨3, ![8, 1024, 704]⟩
abbrev S_ : Shape := ⟨0, ![]⟩
abbrev S1024x704 : Shape := ⟨2, ![1024, 704]⟩

abbrev nBuf : Space → Nat
  | .hbm => 53
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x1024x704, .bf16⟩
  | .hbm, ⟨4, _⟩ => ⟨S8x1024x704, .bf16⟩
  | .hbm, ⟨5, _⟩ => ⟨S8x1024x704, .bf16⟩
  | .hbm, ⟨6, _⟩ => ⟨S8x1024x704, .bf16⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S4096x704, .f32⟩
  | .hbm, ⟨20, _⟩ => ⟨S_, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S4096x704, .f32⟩
  | .hbm, ⟨35, _⟩ => ⟨S_, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | .hbm, ⟨49, _⟩ => ⟨S4096x704, .f32⟩
  | .hbm, ⟨50, _⟩ => ⟨S_, .f32⟩
  | .hbm, ⟨51, _⟩ => ⟨S4096x704, .f32⟩
  | .hbm, ⟨52, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel22.lean ====
abbrev S1408x1024 : Shape := ⟨2, ![1408, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x352x1024, .bf16⟩
  | .hbm, ⟨4, _⟩ => ⟨S8x352x1024, .bf16⟩
  | .hbm, ⟨5, _⟩ => ⟨S8x352x1024, .bf16⟩
  | .hbm, ⟨6, _⟩ => ⟨S8x352x1024, .bf16⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S8x32x1024, .bf16⟩
  | .local _ .vmem, ⟨11, _⟩ => ⟨S8x32x1024, .bf16⟩
  | .local _ .vmem, ⟨12, _⟩ => ⟨S8x32x1024, .bf16⟩
  | .local _ .vmem, ⟨13, _⟩ => ⟨S8x32x1024, .bf16⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S1408x1024 : Shape := ⟨2, ![1408, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x352x1024, .bf16⟩
  | .hbm, ⟨4, _⟩ => ⟨S8x352x1024, .bf16⟩
  | .hbm, ⟨5, _⟩ => ⟨S8x352x1024, .bf16⟩
  | .hbm, ⟨6, _⟩ => ⟨S8x352x1024, .bf16⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1408x1024, .f32⟩
  | .hbm, ⟨20, _⟩ => ⟨S_, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | .hbm, ⟨49, _⟩ => ⟨S1408x1024, .f32⟩
  | .hbm, ⟨50, _⟩ => ⟨S_, .f32⟩
  | .hbm, ⟨51, _⟩ => ⟨S1408x1024, .f32⟩
  | .hbm, ⟨52, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel23.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S128x1024 : Shape := ⟨2, ![128, 1024]⟩
abbrev S8x128x1024 : Shape := ⟨3, ![8, 128, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S1024x386 : Shape := ⟨2, ![1024, 386]⟩
abbrev S8x1024x386 : Shape := ⟨3, ![8, 1024, 386]⟩
abbrev S256x386 : Shape := ⟨2, ![256, 386]⟩
abbrev S8x256x386 : Shape := ⟨3, ![8, 256, 386]⟩
abbrev S1x256x386 : Shape := ⟨3, ![1, 256, 386]⟩

abbrev nBuf : Space → Nat
  | .hbm => 8
  | .vmem => 16
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S8x1024x386, .bf16⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S256x386, .f32⟩
  | .local _ .vmem, ⟨1, _⟩ => ⟨S256x386, .f32⟩
  | .local _ .vmem, ⟨2, _⟩ => ⟨S256x386, .f32⟩
  | .local _ .vmem, ⟨3, _⟩ => ⟨S256x386, .f32⟩
  | .local _ .vmem, ⟨4, _⟩ => ⟨S256x386, .f32⟩
  | .local _ .vmem, ⟨5, _⟩ => ⟨S256x386, .f32⟩
  | .local _ .vmem, ⟨6, _⟩ => ⟨S8x256x386, .bf16⟩
  | .local _ .vmem, ⟨7, _⟩ => ⟨S8x256x386, .bf16⟩
  | .local _ .vmem, ⟨8, _⟩ => ⟨S256x386, .f32⟩
  | .local _ .vmem, ⟨9, _⟩ => ⟨S256x386, .f32⟩
  | .local _ .vmem, ⟨10, _⟩ => ⟨S256x386, .f32⟩
  | .local _ .vmem, ⟨11, _⟩ => ⟨S256x386, .f32⟩
  | .local _ .vmem, ⟨12, _⟩ => ⟨S256x386, .f32⟩
  | .local _ .vmem, ⟨13, _⟩ => ⟨S256x386, .f32⟩
  | .local _ .vmem, ⟨14, _⟩ => ⟨S256x386, .f32⟩
  | .local _ .vmem, ⟨15, _⟩ => ⟨S256x386, .f32⟩
  | _, _ => ⟨S1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x386 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S1024x386 : Shape := ⟨2, ![1024, 386]⟩
abbrev S8x1024x386 : Shape := ⟨3, ![8, 1024, 386]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S8x1024x386, .bf16⟩
  | .hbm, ⟨4, _⟩ => ⟨S8x1024x386, .f32⟩
  | .hbm, ⟨5, _⟩ => ⟨S_, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S_, .f32⟩
  | .hbm, ⟨11, _⟩ => ⟨S1024x386, .f32⟩
  | .hbm, ⟨12, _⟩ => ⟨S1024x386, .f32⟩
  | .hbm, ⟨13, _⟩ => ⟨S1024x386, .f32⟩
  | .hbm, ⟨14, _⟩ => ⟨S_, .f32⟩
  | .hbm, ⟨15, _⟩ => ⟨S1024x386, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S_, .f32⟩
  | .hbm, ⟨26, _⟩ => ⟨S1024x386, .f32⟩
  | .hbm, ⟨27, _⟩ => ⟨S1024x386, .f32⟩
  | .hbm, ⟨28, _⟩ => ⟨S1024x386, .f32⟩
  | .hbm, ⟨29, _⟩ => ⟨S_, .f32⟩
  | .hbm, ⟨30, _⟩ => ⟨S1024x386, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | _, _ => ⟨S1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S1024x384 : Shape := ⟨2, ![1024, 384]⟩
abbrev S8x1024x384 : Shape := ⟨3, ![8, 1024, 384]⟩
abbrev S256x384 : Shape := ⟨2, ![256, 384]⟩
abbrev S8x256x384 : Shape := ⟨3, ![8, 256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S8x256x384, .bf16⟩
  | .local _ .vmem, ⟨7, _⟩ => ⟨S8x256x384, .bf16⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S1024x384 : Shape := ⟨2, ![1024, 384]⟩
abbrev S8x1024x384 : Shape := ⟨3, ![8, 1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S4096x768 : Shape := ⟨2, ![4096, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S152x1024 : Shape := ⟨2, ![152, 1024]⟩
abbrev S8x1024 : Shape := ⟨2, ![8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S152x1024, .f32⟩
  | .hbm, ⟨5, _⟩ => ⟨S152x1024, .f32⟩
  | .hbm, ⟨6, _⟩ => ⟨S152x1024, .f32⟩
  | .hbm, ⟨7, _⟩ => ⟨S152x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 19], ![false, false]⟩

def cc0_transform_0 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S152x1024 : Shape := ⟨2, ![152, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S_, .f32⟩
  | .hbm, ⟨5, _⟩ => ⟨S152x1024, .f32⟩
  | .hbm, ⟨6, _⟩ => ⟨S152x1024, .f32⟩
  | .hbm, ⟨7, _⟩ => ⟨S_, .f32⟩
  | .hbm, ⟨8, _⟩ => ⟨S152x1024, .f32⟩
  | .hbm, ⟨9, _⟩ => ⟨S152x1024, .f32⟩
  | .hbm, ⟨10, _⟩ => ⟨S152x1024, .f32⟩
  | .hbm, ⟨11, _⟩ => ⟨S_, .f32⟩
  | .hbm, ⟨12, _⟩ => ⟨S152x1024, .f32⟩
  | .hbm, ⟨13, _⟩ => ⟨S152x1024, .f32⟩
  | .hbm, ⟨14, _⟩ => ⟨S152x1024, .f32⟩
  | .hbm, ⟨15, _⟩ => ⟨S_, .f32⟩
  | .hbm, ⟨16, _⟩ => ⟨S152x1024, .f32⟩
  | .hbm, ⟨17, _⟩ => ⟨S152x1024, .f32⟩
  | .hbm, ⟨18, _⟩ => ⟨S152x1024, .f32⟩
  | .hbm, ⟨19, _⟩ => ⟨S_, .f32⟩
  | .hbm, ⟨20, _⟩ => ⟨S152x1024, .f32⟩
  | .hbm, ⟨21, _⟩ => ⟨S152x1024, .f32⟩
  | .hbm, ⟨22, _⟩ => ⟨S_, .f32⟩
  | .hbm, ⟨23, _⟩ => ⟨S152x1024, .f32⟩
  | .hbm, ⟨24, _⟩ => ⟨S152x1024, .f32⟩
  | .hbm, ⟨25, _⟩ => ⟨S152x1024, .f32⟩
  | .hbm, ⟨26, _⟩ => ⟨S_, .f32⟩
  | .hbm, ⟨27, _⟩ => ⟨S152x1024, .f32⟩
  | .hbm, ⟨28, _⟩ => ⟨S152x1024, .f32⟩
  | .hbm, ⟨29, _⟩ => ⟨S152x1024, .f32⟩
  | .hbm, ⟨30, _⟩ => ⟨S_, .f32⟩
  | .hbm, ⟨31, _⟩ => ⟨S152x1024, .f32⟩
  | .hbm, ⟨32, _⟩ => ⟨S152x1024, .f32⟩
  | .hbm, ⟨33, _⟩ => ⟨S152x1024, .f32⟩
  | .hbm, ⟨34, _⟩ => ⟨S_, .f32⟩
  | .hbm, ⟨35, _⟩ => ⟨S152x1024, .f32⟩
  | .hbm, ⟨36, _⟩ => ⟨S152x1024, .f32⟩
  | _, _ => ⟨S152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S40x128 : Shape := ⟨2, ![40, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S40x128 : Shape := ⟨2, ![40, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S_, .f32⟩
  | .hbm, ⟨5, _⟩ => ⟨S40x128, .f32⟩
  | .hbm, ⟨6, _⟩ => ⟨S40x128, .f32⟩
  | .hbm, ⟨7, _⟩ => ⟨S_, .f32⟩
  | .hbm, ⟨8, _⟩ => ⟨S40x128, .f32⟩
  | .hbm, ⟨9, _⟩ => ⟨S40x128, .f32⟩
  | .hbm, ⟨10, _⟩ => ⟨S40x128, .f32⟩
  | .hbm, ⟨11, _⟩ => ⟨S_, .f32⟩
  | .hbm, ⟨12, _⟩ => ⟨S40x128, .f32⟩
  | .hbm, ⟨13, _⟩ => ⟨S40x128, .f32⟩
  | .hbm, ⟨14, _⟩ => ⟨S40x128, .f32⟩
  | .hbm, ⟨15, _⟩ => ⟨S_, .f32⟩
  | .hbm, ⟨16, _⟩ => ⟨S40x128, .f32⟩
  | .hbm, ⟨17, _⟩ => ⟨S40x128, .f32⟩
  | .hbm, ⟨18, _⟩ => ⟨S40x128, .f32⟩
  | .hbm, ⟨19, _⟩ => ⟨S_, .f32⟩
  | .hbm, ⟨20, _⟩ => ⟨S40x128, .f32⟩
  | .hbm, ⟨21, _⟩ => ⟨S40x128, .f32⟩
  | .hbm, ⟨22, _⟩ => ⟨S_, .f32⟩
  | .hbm, ⟨23, _⟩ => ⟨S40x128, .f32⟩
  | .hbm, ⟨24, _⟩ => ⟨S40x128, .f32⟩
  | .hbm, ⟨25, _⟩ => ⟨S40x128, .f32⟩
  | .hbm, ⟨26, _⟩ => ⟨S_, .f32⟩
  | .hbm, ⟨27, _⟩ => ⟨S40x128, .f32⟩
  | .hbm, ⟨28, _⟩ => ⟨S40x128, .f32⟩
  | .hbm, ⟨29, _⟩ => ⟨S40x128, .f32⟩
  | .hbm, ⟨30, _⟩ => ⟨S_, .f32⟩
  | .hbm, ⟨31, _⟩ => ⟨S40x128, .f32⟩
  | .hbm, ⟨32, _⟩ => ⟨S40x128, .f32⟩
  | .hbm, ⟨33, _⟩ => ⟨S40x128, .f32⟩
  | .hbm, ⟨34, _⟩ => ⟨S_, .f32⟩
  | .hbm, ⟨35, _⟩ => ⟨S40x128, .f32⟩
  | .hbm, ⟨36, _⟩ => ⟨S40x128, .f32⟩
  | _, _ => ⟨S40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S4x768 : Shape := ⟨2, ![4, 768]⟩

abbrev nBuf : Space → Nat
  | .hbm => 8
  | .vmem => 8
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference30Ideal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8192x1024 : Shape := ⟨2, ![8192, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S2x1x1024, .f32⟩
  | .hbm, ⟨6, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S8192x1024 : Shape := ⟨2, ![8192, 1024]⟩
abbrev S2x1x1024 : Shape := ⟨3, ![2, 1, 1024]⟩
abbrev S2x4096x1024 : Shape := ⟨3, ![2, 4096, 1024]⟩
abbrev S_ : Shape := ⟨0, ![]⟩
abbrev S2x1024 : Shape := ⟨2, ![2, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2x1x1024, .f32⟩
  | .hbm, ⟨4, _⟩ => ⟨S2x4096x1024, .f32⟩
  | .hbm, ⟨5, _⟩ => ⟨S_, .f32⟩
  | .hbm, ⟨6, _⟩ => ⟨S2x1x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x1024, .f32⟩
  | .hbm, ⟨17, _⟩ => ⟨S2x1x1024, .f32⟩
  | .hbm, ⟨18, _⟩ => ⟨S2x4096x1024, .f32⟩
  | .hbm, ⟨19, _⟩ => ⟨S_, .f32⟩
  | .hbm, ⟨20, _⟩ => ⟨S2x1024, .f32⟩
  | .hbm, ⟨21, _⟩ => ⟨S2x1x1024, .f32⟩
  | .hbm, ⟨22, _⟩ => ⟨S2x4096x1024, .f32⟩
  | .hbm, ⟨23, _⟩ => ⟨S2x4096x1024, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel32.lean ====
abbrev S16x1024 : Shape := ⟨2, ![16, 1024]⟩
abbrev S4x16x768 : Shape := ⟨3, ![4, 16, 768]⟩
abbrev S4x16x6144 : Shape := ⟨3, ![4, 16, 6144]⟩
abbrev S4x1024x768 : Shape := ⟨3, ![4, 1024, 768]⟩
abbrev S4x1x6144 : Shape := ⟨3, ![4, 1, 6144]⟩
abbrev S1x16x768 : Shape := ⟨3, ![1, 16, 768]⟩
abbrev S1x16x6144 : Shape := ⟨3, ![1, 16, 6144]⟩
abbrev S1x1024x768 : Shape := ⟨3, ![1, 1024, 768]⟩
abbrev S1x1x6144 : Shape := ⟨3, ![1, 1, 6144]⟩
abbrev S16x768 : Shape := ⟨2, ![16, 768]⟩
abbrev S1024x768 : Shape := ⟨2, ![1024, 768]⟩
abbrev S16x6144 : Shape := ⟨2, ![16, 6144]⟩
abbrev S6144 : Shape := ⟨1, ![6144]⟩
abbrev S1x6144 : Shape := ⟨2, ![1, 6144]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x16x6144, .f32⟩
  | .hbm, ⟨3, _⟩ => ⟨S4x1024x768, .f32⟩
  | .hbm, ⟨4, _⟩ => ⟨S4x1x6144, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x16x6144, .f32⟩
  | .local _ .vmem, ⟨4, _⟩ => ⟨S1x16x6144, .f32⟩
  | .local _ .vmem, ⟨5, _⟩ => ⟨S1x1024x768, .f32⟩
  | .local _ .vmem, ⟨6, _⟩ => ⟨S1x1024x768, .f32⟩
  | .local _ .vmem, ⟨7, _⟩ => ⟨S1x1x6144, .f32⟩
  | .local _ .vmem, ⟨8, _⟩ => ⟨S1x1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S16x1024 : Shape := ⟨2, ![16, 1024]⟩
abbrev S4x16x768 : Shape := ⟨3, ![4, 16, 768]⟩
abbrev S4x16x6144 : Shape := ⟨3, ![4, 16, 6144]⟩
abbrev S_ : Shape := ⟨0, ![]⟩
abbrev S4x1024x768 : Shape := ⟨3, ![4, 1024, 768]⟩
abbrev S4x768x16 : Shape := ⟨3, ![4, 768, 16]⟩
abbrev S4x768x1024 : Shape := ⟨3, ![4, 768, 1024]⟩
abbrev S4x1x6144 : Shape := ⟨3, ![4, 1, 6144]⟩
abbrev S4x6144 : Shape := ⟨2, ![4, 6144]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x16x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S4x1024x768, .f32⟩
  | .hbm, ⟨14, _⟩ => ⟨S4x768x16, .f32⟩
  | .hbm, ⟨15, _⟩ => ⟨S4x16x768, .f32⟩
  | .hbm, ⟨16, _⟩ => ⟨S4x768x16, .f32⟩
  | .hbm, ⟨17, _⟩ => ⟨S4x768x1024, .f32⟩
  | .hbm, ⟨18, _⟩ => ⟨S4x1024x768, .f32⟩
  | .hbm, ⟨19, _⟩ => ⟨S_, .f32⟩
  | .hbm, ⟨20, _⟩ => ⟨S4x1x6144, .f32⟩
  | .hbm, ⟨21, _⟩ => ⟨S4x16x6144, .f32⟩
  | .hbm, ⟨22, _⟩ => ⟨S_, .f32⟩
  | .hbm, ⟨23, _⟩ => ⟨S4x6144, .f32⟩
  | .hbm, ⟨24, _⟩ => ⟨S4x1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Kernel33.lean ====
abbrev S8192x1024 : Shape := ⟨2, ![8192, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1x1024, .f32⟩
  | .hbm, ⟨2, _⟩ => ⟨S2x1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S8192x1024 : Shape := ⟨2, ![8192, 1024]⟩
abbrev S2x1x1024 : Shape := ⟨3, ![2, 1, 1024]⟩
abbrev S2x4096x1024 : Shape := ⟨3, ![2, 4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1x1024, .f32⟩
  | .hbm, ⟨2, _⟩ => ⟨S2x1x1024, .f32⟩
  | .hbm, ⟨3, _⟩ => ⟨S2x4096x1024, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S8192x1024, .f32⟩
  | .hbm, ⟨12, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel34.lean ====
abbrev S16x1024 : Shape := ⟨2, ![16, 1024]⟩
abbrev S4x1024x768 : Shape := ⟨3, ![4, 1024, 768]⟩
abbrev S4x1x768 : Shape := ⟨3, ![4, 1, 768]⟩
abbrev S4x16x768 : Shape := ⟨3, ![4, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S16x1024 : Shape := ⟨2, ![16, 1024]⟩
abbrev S4x1024x768 : Shape := ⟨3, ![4, 1024, 768]⟩
abbrev S4x1x768 : Shape := ⟨3, ![4, 1, 768]⟩
abbrev S_ : Shape := ⟨0, ![]⟩
abbrev S4x768x16 : Shape := ⟨3, ![4, 768, 16]⟩
abbrev S4x16x768 : Shape := ⟨3, ![4, 16, 768]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x768x16, .f32⟩
  | .hbm, ⟨13, _⟩ => ⟨S4x16x768, .f32⟩
  | .hbm, ⟨14, _⟩ => ⟨S4x16x768, .f32⟩
  | .hbm, ⟨15, _⟩ => ⟨S4x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel35.lean ====
abbrev S8192x1024 : Shape := ⟨2, ![8192, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference35Ideal.lean ====
abbrev S8192x1024 : Shape := ⟨2, ![8192, 1024]⟩
abbrev S2x1x1024 : Shape := ⟨3, ![2, 1, 1024]⟩
abbrev S1x1024 : Shape := ⟨2, ![1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x1024, .f32⟩
  | .hbm, ⟨38, _⟩ => ⟨S2x4096x1024, .f32⟩
  | .hbm, ⟨39, _⟩ => ⟨S1x1x1024, .f32⟩
  | .hbm, ⟨40, _⟩ => ⟨S2x4096x1024, .f32⟩
  | .hbm, ⟨41, _⟩ => ⟨S2x4096x1024, .f32⟩
  | .hbm, ⟨42, _⟩ => ⟨S1x1x1024, .f32⟩
  | .hbm, ⟨43, _⟩ => ⟨S2x4096x1024, .f32⟩
  | .hbm, ⟨44, _⟩ => ⟨S2x4096x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel36.lean ====
abbrev S8192x1024 : Shape := ⟨2, ![8192, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference36Ideal.lean ====
abbrev S8192x1024 : Shape := ⟨2, ![8192, 1024]⟩
abbrev S2x1x1024 : Shape := ⟨3, ![2, 1, 1024]⟩
abbrev S1x1024 : Shape := ⟨2, ![1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S2x4096x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S2x4096x1024, .f32⟩
  | .hbm, ⟨37, _⟩ => ⟨S2x4096x1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x4096x1024, .f32⟩
  | .hbm, ⟨49, _⟩ => ⟨S2x4096x1024, .f32⟩
  | .hbm, ⟨50, _⟩ => ⟨S_, .f32⟩
  | .hbm, ⟨51, _⟩ => ⟨S2x4096, .f32⟩
  | .hbm, ⟨52, _⟩ => ⟨S_, .f32⟩
  | .hbm, ⟨53, _⟩ => ⟨S2x4096, .f32⟩
  | .hbm, ⟨54, _⟩ => ⟨S2x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x4096, .f32⟩
  | .hbm, ⟨63, _⟩ => ⟨S_, .f32⟩
  | .hbm, ⟨64, _⟩ => ⟨S2x4096, .f32⟩
  | .hbm, ⟨65, _⟩ => ⟨S2x4096, .f32⟩
  | .hbm, ⟨66, _⟩ => ⟨S2x4096x1024, .f32⟩
  | .hbm, ⟨67, _⟩ => ⟨S2x4096x1024, .f32⟩
  | .hbm, ⟨68, _⟩ => ⟨S8192x1024, .f32⟩
  | .hbm, ⟨69, _⟩ => ⟨S2x4096x1024, .f32⟩
  | .hbm, ⟨70, _⟩ => ⟨S2x4096x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel37.lean ====
abbrev S16x1024 : Shape := ⟨2, ![16, 1024]⟩
abbrev S8192x1024 : Shape := ⟨2, ![8192, 1024]⟩
abbrev S16x8192 : Shape := ⟨2, ![16, 8192]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .bf16⟩
  | .hbm, ⟨1, _⟩ => ⟨S8192x1024, .bf16⟩
  | .hbm, ⟨2, _⟩ => ⟨S16x8192, .f32⟩
  | .local _ .vmem, ⟨0, _⟩ => ⟨S16x1024, .bf16⟩
  | .local _ .vmem, ⟨1, _⟩ => ⟨S1024x1024, .bf16⟩
  | .local _ .vmem, ⟨2, _⟩ => ⟨S1024x1024, .bf16⟩
  | .local _ .vmem, ⟨3, _⟩ => ⟨S16x1024, .f32⟩
  | .local _ .vmem, ⟨4, _⟩ => ⟨S16x1024, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference37Ideal.lean ====
abbrev S16x1024 : Shape := ⟨2, ![16, 1024]⟩
abbrev S8192x1024 : Shape := ⟨2, ![8192, 1024]⟩
abbrev S1024x16 : Shape := ⟨2, ![1024, 16]⟩
abbrev S8192x16 : Shape := ⟨2, ![8192, 16]⟩
abbrev S16x8192 : Shape := ⟨2, ![16, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S8192x1024, .bf16⟩
  | .hbm, ⟨2, _⟩ => ⟨S8192x1024, .f32⟩
  | .hbm, ⟨3, _⟩ => ⟨S1024x16, .bf16⟩
  | .hbm, ⟨4, _⟩ => ⟨S1024x16, .f32⟩
  | .hbm, ⟨5, _⟩ => ⟨S8192x16, .f32⟩
  | .hbm, ⟨6, _⟩ => ⟨S16x8192, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel38.lean ====
abbrev S16x8192 : Shape := ⟨2, ![16, 8192]⟩
abbrev S8192x1024 : Shape := ⟨2, ![8192, 1024]⟩
abbrev S16x1024 : Shape := ⟨2, ![16, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x8192, .f32⟩
  | .hbm, ⟨1, _⟩ => ⟨S8192x1024, .bf16⟩
  | .hbm, ⟨2, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x1024, .f32⟩
  | .local _ .vmem, ⟨5, _⟩ => ⟨S16x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference38Ideal.lean ====
abbrev S16x8192 : Shape := ⟨2, ![16, 8192]⟩
abbrev S8192x1024 : Shape := ⟨2, ![8192, 1024]⟩
abbrev S_ : Shape := ⟨0, ![]⟩
abbrev S16x1024 : Shape := ⟨2, ![16, 1024]⟩
abbrev S1024x16 : Shape := ⟨2, ![1024, 16]⟩
abbrev S8192x16 : Shape := ⟨2, ![8192, 16]⟩

abbrev nBuf : Space → Nat
  | .hbm => 12
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S16x1024, .f32⟩
  | .hbm, ⟨5, _⟩ => ⟨S1024x16, .f32⟩
  | .hbm, ⟨6, _⟩ => ⟨S8192x16, .f32⟩
  | .hbm, ⟨7, _⟩ => ⟨S16x8192, .f32⟩
  | .hbm, ⟨8, _⟩ => ⟨S8192x16, .f32⟩
  | .hbm, ⟨9, _⟩ => ⟨S16x1024, .f32⟩
  | .hbm, ⟨10, _⟩ => ⟨S1024x16, .f32⟩
  | .hbm, ⟨11, _⟩ => ⟨S16x1024, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel39.lean ====
abbrev S16x8192 : Shape := ⟨2, ![16, 8192]⟩
abbrev S16x1024 : Shape := ⟨2, ![16, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x8192, .f32⟩
  | .hbm, ⟨1, _⟩ => ⟨S16x1024, .bf16⟩
  | .hbm, ⟨2, _⟩ => ⟨S8192x1024, .f32⟩
  | .hbm, ⟨3, _⟩ => ⟨S8192x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference39Ideal.lean ====
abbrev S16x8192 : Shape := ⟨2, ![16, 8192]⟩
abbrev S16x1024 : Shape := ⟨2, ![16, 1024]⟩
abbrev S8192x1024 : Shape := ⟨2, ![8192, 1024]⟩
abbrev S1024x16 : Shape := ⟨2, ![1024, 16]⟩
abbrev S_ : Shape := ⟨0, ![]⟩
abbrev S8192x16 : Shape := ⟨2, ![8192, 16]⟩

abbrev nBuf : Space → Nat
  | .hbm => 12
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S16x1024, .bf16⟩
  | .hbm, ⟨2, _⟩ => ⟨S8192x1024, .f32⟩
  | .hbm, ⟨3, _⟩ => ⟨S1024x16, .bf16⟩
  | .hbm, ⟨4, _⟩ => ⟨S1024x16, .f32⟩
  | .hbm, ⟨5, _⟩ => ⟨S_, .f32⟩
  | .hbm, ⟨6, _⟩ => ⟨S8192x1024, .f32⟩
  | .hbm, ⟨7, _⟩ => ⟨S8192x16, .f32⟩
  | .hbm, ⟨8, _⟩ => ⟨S16x8192, .f32⟩
  | .hbm, ⟨9, _⟩ => ⟨S8192x16, .f32⟩
  | .hbm, ⟨10, _⟩ => ⟨S8192x1024, .f32⟩
  | .hbm, ⟨11, _⟩ => ⟨S8192x1024, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel40.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference40Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]
-- ==== Proof.FfnSum.lean ====
module

public import Idealize.ShloMosaic.Lib.Pointwise
public import Idealize.ShloMosaic.Lib.Pipeline.ValueKit
public import Idealize.ShloMosaic.Lib.Pipeline.ReadBack

/-! Sums over the hidden width of the feed-forward layer, cut into its four blocks of 704 columns. -/

@[expose] public section

namespace Cert.Proof.Ffn

/-- A sum over 2816 columns is the sum over four blocks of 704. -/
theorem sum_blocks (f : Fin 2816 → EReal) :
    ∑ k, f k = ∑ p : Fin 4, ∑ n : Fin 704, f ⟨704 * p.val + n.val, by omega⟩ := by
  rw [← Finset.sum_product', Finset.univ_product_univ]
  refine (Fintype.sum_equiv (finProdFinEquiv (m := 4) (n := 704)) _ _ fun x => ?_).symm
  refine congrArg f (Fin.ext ?_)
  show 704 * x.1.val + x.2.val = x.2.val + 704 * x.1.val
  omega

/-- A sum over 8192 tokens is the sum over eight blocks of 1024. -/
theorem sum_tokens (f : Fin 8192 → EReal) :
    ∑ k, f k = ∑ p : Fin 8, ∑ n : Fin 1024, f ⟨1024 * p.val + n.val, by omega⟩ := by
  rw [← Finset.sum_product', Finset.univ_product_univ]
  refine (Fintype.sum_equiv (finProdFinEquiv (m := 8) (n := 1024)) _ _ fun x => ?_).symm
  refine congrArg f (Fin.ext ?_)
  show 1024 * x.1.val + x.2.val = x.2.val + 1024 * x.1.val
  omega

open Idealize.ShloMosaic in
/-- Stores that cover an index hide every earlier store there. -/
theorem canon_append_of_cover {Val : EltTy → Type} [∀ e, Nonempty (Val e)] {S : Shape} {e : EltTy} (L' : List (View.Piece Val S e)) (y : S.Idx) :
    ∀ (L : List (View.Piece Val S e)) (_ : ∃ p ∈ L, y ∈ p.1.set), View.canon (L ++ L') y = View.canon L y
  | [], h => by obtain ⟨p, hp, _⟩ := h; simp at hp
  | p :: L, h => by
    by_cases hy : y ∈ p.1.set
    · obtain ⟨x, rfl⟩ := p.1.exists_idx_of_mem hy
      rw [show p.1.idx x = p.1.emb x from rfl, List.cons_append, View.canon_cons_emb, View.canon_cons_emb]
    · rw [List.cons_append, View.canon_cons_of_not_mem _ _ hy, View.canon_cons_of_not_mem _ _ hy]
      refine canon_append_of_cover L' y L ?_
      obtain ⟨q, hq, hyq⟩ := h
      rcases List.mem_cons.mp hq with rfl | hq
      · exact absurd hyq hy
      · exact ⟨q, hq, hyq⟩

end Cert.Proof.Ffn
-- ==== Proof.Adamw.lean ====
module

public import proofs.«01_k».proof.Proof.FfnSum

/-! One step of AdamW at one weight: the two moments and the change of the weight, over the extended reals. -/

@[expose] public section

noncomputable section

open Idealize.ShloMosaic Idealize.ShloMosaic.TcCoe Idealize.SL.Sem

namespace Cert.Proof.Adamw

/-- The new first moment, of the gradient and the old one. -/
def mom (g a : EReal) : EReal := Ideal.ofBits .f32 0x3F666666#32 * a + Ideal.ofBits .f32 0x3DCCCCCD#32 * g

/-- The new second moment. -/
def sqr (g b : EReal) : EReal := Ideal.ofBits .f32 0x3F7FBE77#32 * b + Ideal.ofBits .f32 0x3A83126F#32 * (g * g)

/-- The change of the weight, of the gradient, the weight and the old moments. -/
def change (g w a b : EReal) : EReal :=
  Ideal.ofBits .f32 0xBA83126F#32
    * (Ideal.div (Ideal.div (mom g a) (Ideal.ofBits .f32 0x3F26BD02#32))
        (Ideal.sqrt (Ideal.div (sqr g b) (Ideal.ofBits .f32 0x3C231ACC#32)) + Ideal.ofBits .f32 0x322BCC77#32)
      + Ideal.ofBits .f32 0x3C23D70A#32 * w)

end Cert.Proof.Adamw
-- ==== Proof.AdConv.lean ====
module

public import proofs.«01_k».proof.Defs
public import proofs.«01_k».proof.Proof.Adamw
public import proofs.«01_k».proof.Proof.Gen.Kernel29.Frame
public import proofs.«01_k».proof.Proof.Gen.Kernel29Ideal.Value
public import proofs.«01_k».proof.Proof.Gen.Reference29Ideal.Read
public import Idealize.ShloMosaic.Lib.Pipeline.ValueKit
public import Idealize.ShloMosaic.Lib.Pipeline.ReadBack

/-! The optimiser step at the convolution's small weights: the gradient passed on, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdConv

open Cert.Kernel29Ideal Cert.Kernel29Ideal.Gen Cert.Proof.Ffn Cert.Proof.Adamw

theorem ref_mom (a g : Vec Ideal S40x128 .f32) (r : Fin 40) (l : Fin 128) :
    Cert.Reference29Ideal.Read.val_main_v4 a g (ix2 r l) = mom (g (ix2 r l)) (a (ix2 r l)) := by
  rfl

theorem ref_sqr (b g : Vec Ideal S40x128 .f32) (r : Fin 40) (l : Fin 128) :
    Cert.Reference29Ideal.Read.val_main_v10 b g (ix2 r l) = sqr (g (ix2 r l)) (b (ix2 r l)) := by
  rfl

theorem ref_change (w a b g : Vec Ideal S40x128 .f32) (r : Fin 40) (l : Fin 128) :
    Cert.Reference29Ideal.Read.val_main_v23 w a b g (ix2 r l) = change (g (ix2 r l)) (w (ix2 r l)) (a (ix2 r l)) (b (ix2 r l)) := by
  rfl

theorem out_4 (w a b g : Vec Ideal S8x128 .f32) (r : Fin 8) (l : Fin 128) :
    out0_4 w a b g (ix2 r l) = g (ix2 r l) := by
  unfold out0_4
  rw [View.canon_unit_zero (funext fun a => by fin_cases a <;> rfl)]
  pointwise [k0_pay1, k0_pay2, k0_pay3]

theorem out_5 (w a b g : Vec Ideal S8x128 .f32) (r : Fin 8) (l : Fin 128) :
    out0_5 w a b g (ix2 r l) = change (g (ix2 r l)) (w (ix2 r l)) (a (ix2 r l)) (b (ix2 r l)) := by
  unfold out0_5
  rw [View.canon_unit_zero (funext fun a => by fin_cases a <;> rfl)]
  pointwise [k0_pay1, k0_pay2, k0_pay3]
  rfl

theorem out_6 (w a b g : Vec Ideal S8x128 .f32) (r : Fin 8) (l : Fin 128) :
    out0_6 w a b g (ix2 r l) = mom (g (ix2 r l)) (a (ix2 r l)) := by
  unfold out0_6
  rw [View.canon_unit_zero (funext fun a => by fin_cases a <;> rfl)]
  pointwise [k0_pay1, k0_pay2, k0_pay3]
  rfl

theorem out_7 (w a b g : Vec Ideal S8x128 .f32) (r : Fin 8) (l : Fin 128) :
    out0_7 w a b g (ix2 r l) = sqr (g (ix2 r l)) (b (ix2 r l)) := by
  unfold out0_7
  rw [View.canon_unit_zero (funext fun a => by fin_cases a <;> rfl)]
  pointwise [k0_pay1, k0_pay2, k0_pay3]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 5 := lt_of_lt_of_eq t.isLt N_0

variable (m : (ℓ : Loc nD τ sig) → Buf (Elt Ideal) ℓ) (c : Dev nD)

/-- The kernel's result: the gradient, passed on. -/
theorem final_g : (dats m 0 c).arrAt 4 cfg0.N = (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨8 * t.val + y0.val, by have h := step_lt t; omega⟩ y1 := by
    blk_ext [idx4 t]
  rw [e, out_4]
  blk_ext [iblk, V, idx3 t]

/-- The kernel's result: the change of the weights. -/
theorem final_change : (dats m 0 c).arrAt 5 cfg0.N = Cert.Reference29Ideal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨8 * t.val + y0.val, by have h := step_lt t; omega⟩ y1 := by
    blk_ext [idx5 t]
  rw [e, ref_change, out_5]
  congr 1 <;> blk_ext [iblk, V, idx0 t, idx1 t, idx2 t, idx3 t]

/-- The kernel's result: the first moment. -/
theorem final_mom : (dats m 0 c).arrAt 6 cfg0.N = Cert.Reference29Ideal.Read.val_main_v4 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨8 * t.val + y0.val, by have h := step_lt t; omega⟩ y1 := by
    blk_ext [idx6 t]
  rw [e, ref_mom, out_6]
  congr 1 <;> blk_ext [iblk, V, idx1 t, idx3 t]

/-- The kernel's result: the second moment. -/
theorem final_sqr : (dats m 0 c).arrAt 7 cfg0.N = Cert.Reference29Ideal.Read.val_main_v10 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨8 * t.val + y0.val, by have h := step_lt t; omega⟩ y1 := by
    blk_ext [idx7 t]
  rw [e, ref_sqr, out_7]
  congr 1 <;> blk_ext [iblk, V, idx2 t, idx3 t]

/-- The kernel and the reference compute the same result. -/
theorem algebraic : algebraic_Kernel29Ideal_Reference29Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel29Ideal.Value.run_blocks m g, ?_⟩
  refine (θ_run _ _ _).mono (fun r h c => ?_) (Cert.Reference29Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
  · show _ = (dats m 0 c).arrAt 5 cfg0.N
    rw [final_change m c, h0, h1, h2, h3]
    exact Cert.Reference29Ideal.Read.val_main_v23_eq _ _ _ _
  · show _ = (dats m 0 c).arrAt 6 cfg0.N
    rw [final_mom m c, h1, h3]
    exact Cert.Reference29Ideal.Read.val_main_v4_eq _ _
  · show _ = (dats m 0 c).arrAt 7 cfg0.N
    rw [final_sqr m c, h2, h3]
    exact Cert.Reference29Ideal.Read.val_main_v10_eq _ _

end Cert.Proof.AdConv
-- ==== Proof.AdFfnIn.lean ====
module

public import proofs.«01_k».proof.Defs
public import proofs.«01_k».proof.Proof.Adamw
public import proofs.«01_k».proof.Proof.Gen.Kernel21.Frame
public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack

/-! The optimiser step at the input weights of the feed-forward block: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdFfnIn

open Cert.Kernel21Ideal Cert.Kernel21Ideal.Gen Cert.Proof.Ffn Cert.Proof.Adamw

/-- The sum over the devices of one element of the gradient. -/
def total (x : Vec Ideal S8x256x704 .bf16) (r : Fin 256) (l : Fin 704) : EReal := ∑ s : Fin 8, (x (ix3 s r l) : EReal)

theorem ref_mom (a : Vec Ideal S4096x704 .f32) (p0 p1 p2 p3 : Vec Ideal S8x1024x704 .bf16) (r : Fin 4096) (l : Fin 704) :
    Cert.Reference21Ideal.Read.val_main_v13 a p0 p1 p2 p3 (ix2 r l) = mom (Cert.Reference21Ideal.Read.val_main_v8 p0 p1 p2 p3 (ix2 r l)) (a (ix2 r l)) := by
  rfl

theorem ref_sqr (b : Vec Ideal S4096x704 .f32) (p0 p1 p2 p3 : Vec Ideal S8x1024x704 .bf16) (r : Fin 4096) (l : Fin 704) :
    Cert.Reference21Ideal.Read.val_main_v19 b p0 p1 p2 p3 (ix2 r l) = sqr (Cert.Reference21Ideal.Read.val_main_v8 p0 p1 p2 p3 (ix2 r l)) (b (ix2 r l)) := by
  rfl

theorem ref_change (w a b : Vec Ideal S4096x704 .f32) (p0 p1 p2 p3 : Vec Ideal S8x1024x704 .bf16) (r : Fin 4096) (l : Fin 704) :
    Cert.Reference21Ideal.Read.val_main_v32 w a b p0 p1 p2 p3 (ix2 r l) = change (Cert.Reference21Ideal.Read.val_main_v8 p0 p1 p2 p3 (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, t.val / 4 = 0 → win0_3.index t = ![0, t.val % 4, 0] := (by decide +kernel : ∀ t : Fin grid0.N, _)
theorem idx4 : ∀ t : Fin cfg0.N, t.val / 4 = 1 → win0_4.index t = ![0, t.val % 4, 0] := (by decide +kernel : ∀ t : Fin grid0.N, _)
theorem idx5 : ∀ t : Fin cfg0.N, t.val / 4 = 2 → win0_5.index t = ![0, t.val % 4, 0] := (by decide +kernel : ∀ t : Fin grid0.N, _)
theorem idx6 : ∀ t : Fin cfg0.N, t.val / 4 = 3 → win0_6.index t = ![0, t.val % 4, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

theorem out_g_0 (t : Fin cfg0.N) (h : t.val / 4 = 0) (r : Fin 256) (l : Fin 704) :
    (outsAt0 m c t.val t.isLt).1 (ix2 r l) = total (iblk m c 3 t) r l := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_0 (t : Fin cfg0.N) (h : t.val / 4 = 0) (r : Fin 256) (l : Fin 704) :
    (outsAt0 m c t.val t.isLt).2.1 (ix2 r l) = change (total (iblk m c 3 t) r l) (iblk m c 0 t (ix2 r l)) (iblk m c 1 t (ix2 r l)) (iblk m c 2 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_0 (t : Fin cfg0.N) (h : t.val / 4 = 0) (r : Fin 256) (l : Fin 704) :
    (outsAt0 m c t.val t.isLt).2.2.1 (ix2 r l) = mom (total (iblk m c 3 t) r l) (iblk m c 1 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_0 (t : Fin cfg0.N) (h : t.val / 4 = 0) (r : Fin 256) (l : Fin 704) :
    (outsAt0 m c t.val t.isLt).2.2.2 (ix2 r l) = sqr (total (iblk m c 3 t) r l) (iblk m c 2 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_0 (t : Fin cfg0.N) (h : t.val / 4 = 0) (r : Fin 256) (l : Fin 704) :
    total (iblk m c 3 t) r l = Cert.Reference21Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨256 * t.val + r.val, by have h := step_lt t; omega⟩ l) := by
  unfold total
  have hlt := step_lt t
  pointwise [Cert.Reference21Ideal.Read.val_main_v0, Cert.Reference21Ideal.Read.val_main_cst, Cert.Reference21Ideal.Read.val_main_v1, Cert.Reference21Ideal.Read.val_main_v2, Cert.Reference21Ideal.Read.val_main_cst_0, Cert.Reference21Ideal.Read.val_main_v3, Cert.Reference21Ideal.Read.val_main_v4, Cert.Reference21Ideal.Read.val_main_cst_1, Cert.Reference21Ideal.Read.val_main_v5, Cert.Reference21Ideal.Read.val_main_v6, Cert.Reference21Ideal.Read.val_main_cst_2, Cert.Reference21Ideal.Read.val_main_v7, Cert.Reference21Ideal.Read.val_main_v8]
  split_ifs
  all_goals first | (exfalso; omega) | skip
  all_goals
    change (_ : EReal) = (_ : EReal)
    refine Finset.sum_congr rfl fun s _ => ?_
    blk_ext [iblk, V, idx3 t h] <;> dsimp only at * <;> omega

theorem out_g_1 (t : Fin cfg0.N) (h : t.val / 4 = 1) (r : Fin 256) (l : Fin 704) :
    (outsAt0 m c t.val t.isLt).1 (ix2 r l) = total (iblk m c 4 t) r l := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_1 (t : Fin cfg0.N) (h : t.val / 4 = 1) (r : Fin 256) (l : Fin 704) :
    (outsAt0 m c t.val t.isLt).2.1 (ix2 r l) = change (total (iblk m c 4 t) r l) (iblk m c 0 t (ix2 r l)) (iblk m c 1 t (ix2 r l)) (iblk m c 2 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_1 (t : Fin cfg0.N) (h : t.val / 4 = 1) (r : Fin 256) (l : Fin 704) :
    (outsAt0 m c t.val t.isLt).2.2.1 (ix2 r l) = mom (total (iblk m c 4 t) r l) (iblk m c 1 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_1 (t : Fin cfg0.N) (h : t.val / 4 = 1) (r : Fin 256) (l : Fin 704) :
    (outsAt0 m c t.val t.isLt).2.2.2 (ix2 r l) = sqr (total (iblk m c 4 t) r l) (iblk m c 2 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_1 (t : Fin cfg0.N) (h : t.val / 4 = 1) (r : Fin 256) (l : Fin 704) :
    total (iblk m c 4 t) r l = Cert.Reference21Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨256 * t.val + r.val, by have h := step_lt t; omega⟩ l) := by
  unfold total
  have hlt := step_lt t
  pointwise [Cert.Reference21Ideal.Read.val_main_v0, Cert.Reference21Ideal.Read.val_main_cst, Cert.Reference21Ideal.Read.val_main_v1, Cert.Reference21Ideal.Read.val_main_v2, Cert.Reference21Ideal.Read.val_main_cst_0, Cert.Reference21Ideal.Read.val_main_v3, Cert.Reference21Ideal.Read.val_main_v4, Cert.Reference21Ideal.Read.val_main_cst_1, Cert.Reference21Ideal.Read.val_main_v5, Cert.Reference21Ideal.Read.val_main_v6, Cert.Reference21Ideal.Read.val_main_cst_2, Cert.Reference21Ideal.Read.val_main_v7, Cert.Reference21Ideal.Read.val_main_v8]
  split_ifs
  all_goals first | (exfalso; omega) | skip
  all_goals
    change (_ : EReal) = (_ : EReal)
    refine Finset.sum_congr rfl fun s _ => ?_
    blk_ext [iblk, V, idx4 t h] <;> dsimp only at * <;> omega

theorem out_g_2 (t : Fin cfg0.N) (h : t.val / 4 = 2) (r : Fin 256) (l : Fin 704) :
    (outsAt0 m c t.val t.isLt).1 (ix2 r l) = total (iblk m c 5 t) r l := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_2 (t : Fin cfg0.N) (h : t.val / 4 = 2) (r : Fin 256) (l : Fin 704) :
    (outsAt0 m c t.val t.isLt).2.1 (ix2 r l) = change (total (iblk m c 5 t) r l) (iblk m c 0 t (ix2 r l)) (iblk m c 1 t (ix2 r l)) (iblk m c 2 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_2 (t : Fin cfg0.N) (h : t.val / 4 = 2) (r : Fin 256) (l : Fin 704) :
    (outsAt0 m c t.val t.isLt).2.2.1 (ix2 r l) = mom (total (iblk m c 5 t) r l) (iblk m c 1 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_2 (t : Fin cfg0.N) (h : t.val / 4 = 2) (r : Fin 256) (l : Fin 704) :
    (outsAt0 m c t.val t.isLt).2.2.2 (ix2 r l) = sqr (total (iblk m c 5 t) r l) (iblk m c 2 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_2 (t : Fin cfg0.N) (h : t.val / 4 = 2) (r : Fin 256) (l : Fin 704) :
    total (iblk m c 5 t) r l = Cert.Reference21Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨256 * t.val + r.val, by have h := step_lt t; omega⟩ l) := by
  unfold total
  have hlt := step_lt t
  pointwise [Cert.Reference21Ideal.Read.val_main_v0, Cert.Reference21Ideal.Read.val_main_cst, Cert.Reference21Ideal.Read.val_main_v1, Cert.Reference21Ideal.Read.val_main_v2, Cert.Reference21Ideal.Read.val_main_cst_0, Cert.Reference21Ideal.Read.val_main_v3, Cert.Reference21Ideal.Read.val_main_v4, Cert.Reference21Ideal.Read.val_main_cst_1, Cert.Reference21Ideal.Read.val_main_v5, Cert.Reference21Ideal.Read.val_main_v6, Cert.Reference21Ideal.Read.val_main_cst_2, Cert.Reference21Ideal.Read.val_main_v7, Cert.Reference21Ideal.Read.val_main_v8]
  split_ifs
  all_goals first | (exfalso; omega) | skip
  all_goals
    change (_ : EReal) = (_ : EReal)
    refine Finset.sum_congr rfl fun s _ => ?_
    blk_ext [iblk, V, idx5 t h] <;> dsimp only at * <;> omega

theorem out_g_3 (t : Fin cfg0.N) (h : t.val / 4 = 3) (r : Fin 256) (l : Fin 704) :
    (outsAt0 m c t.val t.isLt).1 (ix2 r l) = total (iblk m c 6 t) r l := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_3 (t : Fin cfg0.N) (h : t.val / 4 = 3) (r : Fin 256) (l : Fin 704) :
    (outsAt0 m c t.val t.isLt).2.1 (ix2 r l) = change (total (iblk m c 6 t) r l) (iblk m c 0 t (ix2 r l)) (iblk m c 1 t (ix2 r l)) (iblk m c 2 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_3 (t : Fin cfg0.N) (h : t.val / 4 = 3) (r : Fin 256) (l : Fin 704) :
    (outsAt0 m c t.val t.isLt).2.2.1 (ix2 r l) = mom (total (iblk m c 6 t) r l) (iblk m c 1 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_3 (t : Fin cfg0.N) (h : t.val / 4 = 3) (r : Fin 256) (l : Fin 704) :
    (outsAt0 m c t.val t.isLt).2.2.2 (ix2 r l) = sqr (total (iblk m c 6 t) r l) (iblk m c 2 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_3 (t : Fin cfg0.N) (h : t.val / 4 = 3) (r : Fin 256) (l : Fin 704) :
    total (iblk m c 6 t) r l = Cert.Reference21Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨256 * t.val + r.val, by have h := step_lt t; omega⟩ l) := by
  unfold total
  have hlt := step_lt t
  pointwise [Cert.Reference21Ideal.Read.val_main_v0, Cert.Reference21Ideal.Read.val_main_cst, Cert.Reference21Ideal.Read.val_main_v1, Cert.Reference21Ideal.Read.val_main_v2, Cert.Reference21Ideal.Read.val_main_cst_0, Cert.Reference21Ideal.Read.val_main_v3, Cert.Reference21Ideal.Read.val_main_v4, Cert.Reference21Ideal.Read.val_main_cst_1, Cert.Reference21Ideal.Read.val_main_v5, Cert.Reference21Ideal.Read.val_main_v6, Cert.Reference21Ideal.Read.val_main_cst_2, Cert.Reference21Ideal.Read.val_main_v7, Cert.Reference21Ideal.Read.val_main_v8]
  split_ifs
  all_goals first | (exfalso; omega) | skip
  all_goals
    change (_ : EReal) = (_ : EReal)
    refine Finset.sum_congr rfl fun s _ => ?_
    blk_ext [iblk, V, idx6 t h] <;> dsimp only at * <;> omega

/-- The kernel's result: the gradient, summed. -/
theorem final_g : (dats m 0 c).arrAt 7 cfg0.N = Cert.Reference21Ideal.Read.val_main_v8 (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  idx_vars y
  have e : ((View.whole main_v0_0).slice (win0_7.rect t)).emb (ix2 y0 y1) = ix2 ⟨256 * t.val + y0.val, by have h := step_lt t; omega⟩ y1 := by
    blk_ext [idx7 t]
  rw [e]
  have hlt := step_lt t
  obtain h | h | h | h : t.val / 4 = 0 ∨ t.val / 4 = 1 ∨ t.val / 4 = 2 ∨ t.val / 4 = 3 := by omega
  · rw [out_g_0 m c t h, grad_0 m c t h]
  · rw [out_g_1 m c t h, grad_1 m c t h]
  · rw [out_g_2 m c t h, grad_2 m c t h]
  · rw [out_g_3 m c t h, grad_3 m c t h]

/-- The kernel's result: the change of the weights. -/
theorem final_change : (dats m 0 c).arrAt 8 cfg0.N = Cert.Reference21Ideal.Read.val_main_v32 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  idx_vars y
  have e : ((View.whole main_v0_1).slice (win0_8.rect t)).emb (ix2 y0 y1) = ix2 ⟨256 * t.val + y0.val, by have h := step_lt t; omega⟩ y1 := by
    blk_ext [idx8 t]
  rw [e, ref_change]
  have hlt := step_lt t
  obtain h | h | h | h : t.val / 4 = 0 ∨ t.val / 4 = 1 ∨ t.val / 4 = 2 ∨ t.val / 4 = 3 := by omega
  · rw [out_change_0 m c t h, grad_0 m c t h]
    congr 1 <;> blk_ext [iblk, V, idx0 t, idx1 t, idx2 t]
  · rw [out_change_1 m c t h, grad_1 m c t h]
    congr 1 <;> blk_ext [iblk, V, idx0 t, idx1 t, idx2 t]
  · rw [out_change_2 m c t h, grad_2 m c t h]
    congr 1 <;> blk_ext [iblk, V, idx0 t, idx1 t, idx2 t]
  · rw [out_change_3 m c t h, grad_3 m c t h]
    congr 1 <;> blk_ext [iblk, V, idx0 t, idx1 t, idx2 t]

/-- The kernel's result: the first moment. -/
theorem final_mom : (dats m 0 c).arrAt 9 cfg0.N = Cert.Reference21Ideal.Read.val_main_v13 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9]
  idx_vars y
  have e : ((View.whole main_v0_2).slice (win0_9.rect t)).emb (ix2 y0 y1) = ix2 ⟨256 * t.val + y0.val, by have h := step_lt t; omega⟩ y1 := by
    blk_ext [idx9 t]
  rw [e, ref_mom]
  have hlt := step_lt t
  obtain h | h | h | h : t.val / 4 = 0 ∨ t.val / 4 = 1 ∨ t.val / 4 = 2 ∨ t.val / 4 = 3 := by omega
  · rw [out_mom_0 m c t h, grad_0 m c t h]
    congr 1 <;> blk_ext [iblk, V, idx1 t]
  · rw [out_mom_1 m c t h, grad_1 m c t h]
    congr 1 <;> blk_ext [iblk, V, idx1 t]
  · rw [out_mom_2 m c t h, grad_2 m c t h]
    congr 1 <;> blk_ext [iblk, V, idx1 t]
  · rw [out_mom_3 m c t h, grad_3 m c t h]
    congr 1 <;> blk_ext [iblk, V, idx1 t]

/-- The kernel's result: the second moment. -/
theorem final_sqr : (dats m 0 c).arrAt 10 cfg0.N = Cert.Reference21Ideal.Read.val_main_v19 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  rw [after0_10]
  idx_vars y
  have e : ((View.whole main_v0_3).slice (win0_10.rect t)).emb (ix2 y0 y1) = ix2 ⟨256 * t.val + y0.val, by have h := step_lt t; omega⟩ y1 := by
    blk_ext [idx10 t]
  rw [e, ref_sqr]
  have hlt := step_lt t
  obtain h | h | h | h : t.val / 4 = 0 ∨ t.val / 4 = 1 ∨ t.val / 4 = 2 ∨ t.val / 4 = 3 := by omega
  · rw [out_sqr_0 m c t h, grad_0 m c t h]
    congr 1 <;> blk_ext [iblk, V, idx2 t]
  · rw [out_sqr_1 m c t h, grad_1 m c t h]
    congr 1 <;> blk_ext [iblk, V, idx2 t]
  · rw [out_sqr_2 m c t h, grad_2 m c t h]
    congr 1 <;> blk_ext [iblk, V, idx2 t]
  · rw [out_sqr_3 m c t h, grad_3 m c t h]
    congr 1 <;> blk_ext [iblk, V, idx2 t]

/-- The kernel and the reference compute the same result. -/
theorem algebraic : algebraic_Kernel21Ideal_Reference21Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N, Cert.Kernel21Ideal.Value.run_blocks m g, ?_⟩
  refine (θ_run _ _ _).mono (fun r h c => ?_) (Cert.Reference21Ideal.Value.run (F := Ideal) m' g')
  obtain ⟨h0, h1, h2, h3, h4, h5, h6⟩ := hargs c
  refine ⟨((h c).1.trans ?_), ((h c).2.1.trans ?_), ((h c).2.2.1.trans ?_), ((h c).2.2.2.1.trans ?_), (h c).2.2.2.2⟩
  · show _ = (dats m 0 c).arrAt 7 cfg0.N
    rw [final_g m c, h3, h4, h5, h6]
    exact Cert.Reference21Ideal.Read.val_main_v8_eq _ _ _ _
  · show _ = (dats m 0 c).arrAt 8 cfg0.N
    rw [final_change m c, Cert.Reference21Ideal.Read.val_main_v32_eq, h0, h1, h2, h3, h4, h5, h6]
  · show _ = (dats m 0 c).arrAt 9 cfg0.N
    rw [final_mom m c, h1, h3, h4, h5, h6]
    exact Cert.Reference21Ideal.Read.val_main_v13_eq _ _ _ _ _
  · show _ = (dats m 0 c).arrAt 10 cfg0.N
    rw [final_sqr m c, h2, h3, h4, h5, h6]
    exact Cert.Reference21Ideal.Read.val_main_v19_eq _ _ _ _ _

end Cert.Proof.AdFfnIn
-- ==== Proof.AdFfnOut.lean ====
module

public import proofs.«01_k».proof.Defs
public import proofs.«01_k».proof.Proof.Adamw
public import proofs.«01_k».proof.Proof.Gen.Kernel22.Frame
public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack

/-! The optimiser step at the output weights of the feed-forward block: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdFfnOut

open Cert.Kernel22Ideal Cert.Kernel22Ideal.Gen Cert.Proof.Ffn Cert.Proof.Adamw

/-- The sum over the devices of one element of the gradient. -/
def total (x : Vec Ideal S8x32x1024 .bf16) (r : Fin 32) (l : Fin 1024) : EReal := ∑ s : Fin 8, (x (ix3 s r l) : EReal)

theorem ref_mom (a : Vec Ideal S1408x1024 .f32) (p0 p1 p2 p3 : Vec Ideal S8x352x1024 .bf16) (r : Fin 1408) (l : Fin 1024) :
    Cert.Reference22Ideal.Read.val_main_v13 a p0 p1 p2 p3 (ix2 r l) = mom (Cert.Reference22Ideal.Read.val_main_v8 p0 p1 p2 p3 (ix2 r l)) (a (ix2 r l)) := by
  rfl

theorem ref_sqr (b : Vec Ideal S1408x1024 .f32) (p0 p1 p2 p3 : Vec Ideal S8x352x1024 .bf16) (r : Fin 1408) (l : Fin 1024) :
    Cert.Reference22Ideal.Read.val_main_v19 b p0 p1 p2 p3 (ix2 r l) = sqr (Cert.Reference22Ideal.Read.val_main_v8 p0 p1 p2 p3 (ix2 r l)) (b (ix2 r l)) := by
  rfl

theorem ref_change (w a b : Vec Ideal S1408x1024 .f32) (p0 p1 p2 p3 : Vec Ideal S8x352x1024 .bf16) (r : Fin 1408) (l : Fin 1024) :
    Cert.Reference22Ideal.Read.val_main_v32 w a b p0 p1 p2 p3 (ix2 r l) = change (Cert.Reference22Ideal.Read.val_main_v8 p0 p1 p2 p3 (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, t.val / 11 = 0 → win0_3.index t = ![0, t.val % 11, 0] := (by decide +kernel : ∀ t : Fin grid0.N, _)
theorem idx4 : ∀ t : Fin cfg0.N, t.val / 11 = 1 → win0_4.index t = ![0, t.val % 11, 0] := (by decide +kernel : ∀ t : Fin grid0.N, _)
theorem idx5 : ∀ t : Fin cfg0.N, t.val / 11 = 2 → win0_5.index t = ![0, t.val % 11, 0] := (by decide +kernel : ∀ t : Fin grid0.N, _)
theorem idx6 : ∀ t : Fin cfg0.N, t.val / 11 = 3 → win0_6.index t = ![0, t.val % 11, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem step_lt (t : Fin cfg0.N) : t.val < 44 := lt_of_lt_of_eq t.isLt N_0

variable (m : (ℓ : Loc nD τ sig) → Buf (Elt Ideal) ℓ) (c : Dev nD)

theorem out_g_0 (t : Fin cfg0.N) (h : t.val / 11 = 0) (r : Fin 32) (l : Fin 1024) :
    (outsAt0 m c t.val t.isLt).1 (ix2 r l) = total (iblk m c 3 t) r l := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_0 (t : Fin cfg0.N) (h : t.val / 11 = 0) (r : Fin 32) (l : Fin 1024) :
    (outsAt0 m c t.val t.isLt).2.1 (ix2 r l) = change (total (iblk m c 3 t) r l) (iblk m c 0 t (ix2 r l)) (iblk m c 1 t (ix2 r l)) (iblk m c 2 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_0 (t : Fin cfg0.N) (h : t.val / 11 = 0) (r : Fin 32) (l : Fin 1024) :
    (outsAt0 m c t.val t.isLt).2.2.1 (ix2 r l) = mom (total (iblk m c 3 t) r l) (iblk m c 1 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_0 (t : Fin cfg0.N) (h : t.val / 11 = 0) (r : Fin 32) (l : Fin 1024) :
    (outsAt0 m c t.val t.isLt).2.2.2 (ix2 r l) = sqr (total (iblk m c 3 t) r l) (iblk m c 2 t (ix2 r l)) := by
  have hlt := step_lt t
  rw [outsAt0_A m c t (by omega) (by omega) (by omega) (by omega)]
  frame_out
  generalize iblk m c 3 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_0 (t : Fin cfg0.N) (h : t.val / 11 = 0) (r : Fin 32) (l : Fin 1024) :
    total (iblk m c 3 t) r l = Cert.Reference22Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨32 * t.val + r.val, by have h := step_lt t; omega⟩ l) := by
  unfold total
  have hlt := step_lt t
  pointwise [Cert.Reference22Ideal.Read.val_main_v0, Cert.Reference22Ideal.Read.val_main_cst, Cert.Reference22Ideal.Read.val_main_v1, Cert.Reference22Ideal.Read.val_main_v2, Cert.Reference22Ideal.Read.val_main_cst_0, Cert.Reference22Ideal.Read.val_main_v3, Cert.Reference22Ideal.Read.val_main_v4, Cert.Reference22Ideal.Read.val_main_cst_1, Cert.Reference22Ideal.Read.val_main_v5, Cert.Reference22Ideal.Read.val_main_v6, Cert.Reference22Ideal.Read.val_main_cst_2, Cert.Reference22Ideal.Read.val_main_v7, Cert.Reference22Ideal.Read.val_main_v8]
  split_ifs
  all_goals first | (exfalso; omega) | skip
  all_goals
    change (_ : EReal) = (_ : EReal)
    refine Finset.sum_congr rfl fun s _ => ?_
    blk_ext [iblk, V, idx3 t h] <;> dsimp only at * <;> omega

theorem out_g_1 (t : Fin cfg0.N) (h : t.val / 11 = 1) (r : Fin 32) (l : Fin 1024) :
    (outsAt0 m c t.val t.isLt).1 (ix2 r l) = total (iblk m c 4 t) r l := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_1 (t : Fin cfg0.N) (h : t.val / 11 = 1) (r : Fin 32) (l : Fin 1024) :
    (outsAt0 m c t.val t.isLt).2.1 (ix2 r l) = change (total (iblk m c 4 t) r l) (iblk m c 0 t (ix2 r l)) (iblk m c 1 t (ix2 r l)) (iblk m c 2 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_1 (t : Fin cfg0.N) (h : t.val / 11 = 1) (r : Fin 32) (l : Fin 1024) :
    (outsAt0 m c t.val t.isLt).2.2.1 (ix2 r l) = mom (total (iblk m c 4 t) r l) (iblk m c 1 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_1 (t : Fin cfg0.N) (h : t.val / 11 = 1) (r : Fin 32) (l : Fin 1024) :
    (outsAt0 m c t.val t.isLt).2.2.2 (ix2 r l) = sqr (total (iblk m c 4 t) r l) (iblk m c 2 t (ix2 r l)) := by
  have hlt := step_lt t
  rw [outsAt0_B m c t (by omega) (by omega) (by omega) (by omega)]
  frame_out
  generalize iblk m c 4 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_1 (t : Fin cfg0.N) (h : t.val / 11 = 1) (r : Fin 32) (l : Fin 1024) :
    total (iblk m c 4 t) r l = Cert.Reference22Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨32 * t.val + r.val, by have h := step_lt t; omega⟩ l) := by
  unfold total
  have hlt := step_lt t
  pointwise [Cert.Reference22Ideal.Read.val_main_v0, Cert.Reference22Ideal.Read.val_main_cst, Cert.Reference22Ideal.Read.val_main_v1, Cert.Reference22Ideal.Read.val_main_v2, Cert.Reference22Ideal.Read.val_main_cst_0, Cert.Reference22Ideal.Read.val_main_v3, Cert.Reference22Ideal.Read.val_main_v4, Cert.Reference22Ideal.Read.val_main_cst_1, Cert.Reference22Ideal.Read.val_main_v5, Cert.Reference22Ideal.Read.val_main_v6, Cert.Reference22Ideal.Read.val_main_cst_2, Cert.Reference22Ideal.Read.val_main_v7, Cert.Reference22Ideal.Read.val_main_v8]
  split_ifs
  all_goals first | (exfalso; omega) | skip
  all_goals
    change (_ : EReal) = (_ : EReal)
    refine Finset.sum_congr rfl fun s _ => ?_
    blk_ext [iblk, V, idx4 t h] <;> dsimp only at * <;> omega

theorem out_g_2 (t : Fin cfg0.N) (h : t.val / 11 = 2) (r : Fin 32) (l : Fin 1024) :
    (outsAt0 m c t.val t.isLt).1 (ix2 r l) = total (iblk m c 5 t) r l := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_2 (t : Fin cfg0.N) (h : t.val / 11 = 2) (r : Fin 32) (l : Fin 1024) :
    (outsAt0 m c t.val t.isLt).2.1 (ix2 r l) = change (total (iblk m c 5 t) r l) (iblk m c 0 t (ix2 r l)) (iblk m c 1 t (ix2 r l)) (iblk m c 2 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_2 (t : Fin cfg0.N) (h : t.val / 11 = 2) (r : Fin 32) (l : Fin 1024) :
    (outsAt0 m c t.val t.isLt).2.2.1 (ix2 r l) = mom (total (iblk m c 5 t) r l) (iblk m c 1 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_2 (t : Fin cfg0.N) (h : t.val / 11 = 2) (r : Fin 32) (l : Fin 1024) :
    (outsAt0 m c t.val t.isLt).2.2.2 (ix2 r l) = sqr (total (iblk m c 5 t) r l) (iblk m c 2 t (ix2 r l)) := by
  have hlt := step_lt t
  rw [outsAt0_C m c t (by omega) (by omega) (by omega) (by omega)]
  frame_out
  generalize iblk m c 5 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_2 (t : Fin cfg0.N) (h : t.val / 11 = 2) (r : Fin 32) (l : Fin 1024) :
    total (iblk m c 5 t) r l = Cert.Reference22Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨32 * t.val + r.val, by have h := step_lt t; omega⟩ l) := by
  unfold total
  have hlt := step_lt t
  pointwise [Cert.Reference22Ideal.Read.val_main_v0, Cert.Reference22Ideal.Read.val_main_cst, Cert.Reference22Ideal.Read.val_main_v1, Cert.Reference22Ideal.Read.val_main_v2, Cert.Reference22Ideal.Read.val_main_cst_0, Cert.Reference22Ideal.Read.val_main_v3, Cert.Reference22Ideal.Read.val_main_v4, Cert.Reference22Ideal.Read.val_main_cst_1, Cert.Reference22Ideal.Read.val_main_v5, Cert.Reference22Ideal.Read.val_main_v6, Cert.Reference22Ideal.Read.val_main_cst_2, Cert.Reference22Ideal.Read.val_main_v7, Cert.Reference22Ideal.Read.val_main_v8]
  split_ifs
  all_goals first | (exfalso; omega) | skip
  all_goals
    change (_ : EReal) = (_ : EReal)
    refine Finset.sum_congr rfl fun s _ => ?_
    blk_ext [iblk, V, idx5 t h] <;> dsimp only at * <;> omega

theorem out_g_3 (t : Fin cfg0.N) (h : t.val / 11 = 3) (r : Fin 32) (l : Fin 1024) :
    (outsAt0 m c t.val t.isLt).1 (ix2 r l) = total (iblk m c 6 t) r l := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]

theorem out_change_3 (t : Fin cfg0.N) (h : t.val / 11 = 3) (r : Fin 32) (l : Fin 1024) :
    (outsAt0 m c t.val t.isLt).2.1 (ix2 r l) = change (total (iblk m c 6 t) r l) (iblk m c 0 t (ix2 r l)) (iblk m c 1 t (ix2 r l)) (iblk m c 2 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_mom_3 (t : Fin cfg0.N) (h : t.val / 11 = 3) (r : Fin 32) (l : Fin 1024) :
    (outsAt0 m c t.val t.isLt).2.2.1 (ix2 r l) = mom (total (iblk m c 6 t) r l) (iblk m c 1 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem out_sqr_3 (t : Fin cfg0.N) (h : t.val / 11 = 3) (r : Fin 32) (l : Fin 1024) :
    (outsAt0 m c t.val t.isLt).2.2.2 (ix2 r l) = sqr (total (iblk m c 6 t) r l) (iblk m c 2 t (ix2 r l)) := by
  have hlt := step_lt t
  rw [outsAt0_D m c t (by omega) (by omega) (by omega) (by omega)]
  frame_out
  generalize iblk m c 6 t = x
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  rw [total, Fin.sum_univ_eight]
  rfl

theorem grad_3 (t : Fin cfg0.N) (h : t.val / 11 = 3) (r : Fin 32) (l : Fin 1024) :
    total (iblk m c 6 t) r l = Cert.Reference22Ideal.Read.val_main_v8 (m ((c.tc : Thread nD τ).loc main_arg3)) (m ((c.tc : Thread nD τ).loc main_arg4)) (m ((c.tc : Thread nD τ).loc main_arg5)) (m ((c.tc : Thread nD τ).loc main_arg6)) (ix2 ⟨32 * t.val + r.val, by have h := step_lt t; omega⟩ l) := by
  unfold total
  have hlt := step_lt t
  pointwise [Cert.Reference22Ideal.Read.val_main_v0, Cert.Reference22Ideal.Read.val_main_cst, Cert.Reference22Ideal.Read.val_main_v1, Cert.Reference22Ideal.Read.val_main_v2, Cert.Reference22Ideal.Read.val_main_cst_0, Cert.Reference22Ideal.Read.val_main_v3, Cert.Reference22Ideal.Read.val_main_v4, Cert.Reference22Ideal.Read.val_main_cst_1, Cert.Reference22Ideal.Read.val_main_v5, Cert.Reference22Ideal.Read.val_main_v6, Cert.Reference22Ideal.Read.val_main_cst_2, Cert.Reference22Ideal.Read.val_main_v7, Cert.Reference22Ideal.Read.val_main_v8]
  split_ifs
  all_goals first | (exfalso; omega) | skip
  all_goals
    change (_ : EReal) = (_ : EReal)
    refine Finset.sum_congr rfl fun s _ => ?_
    blk_ext [iblk, V, idx6 t h] <;> dsimp only at * <;> omega

/-- The kernel's result: the gradient, summed. -/
theorem final_g : (dats m 0 c).arrAt 7 cfg0.N = Cert.Reference22Ideal.Read.val_main_v8 (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  idx_vars y
  have e : ((View.whole main_v0_0).slice (win0_7.rect t)).emb (ix2 y0 y1) = ix2 ⟨32 * t.val + y0.val, by have h := step_lt t; omega⟩ y1 := by
    blk_ext [idx7 t]
  rw [e]
  have hlt := step_lt t
  obtain h | h | h | h : t.val / 11 = 0 ∨ t.val / 11 = 1 ∨ t.val / 11 = 2 ∨ t.val / 11 = 3 := by omega
  · rw [out_g_0 m c t h, grad_0 m c t h]
  · rw [out_g_1 m c t h, grad_1 m c t h]
  · rw [out_g_2 m c t h, grad_2 m c t h]
  · rw [out_g_3 m c t h, grad_3 m c t h]

/-- The kernel's result: the change of the weights. -/
theorem final_change : (dats m 0 c).arrAt 8 cfg0.N = Cert.Reference22Ideal.Read.val_main_v32 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  idx_vars y
  have e : ((View.whole main_v0_1).slice (win0_8.rect t)).emb (ix2 y0 y1) = ix2 ⟨32 * t.val + y0.val, by have h := step_lt t; omega⟩ y1 := by
    blk_ext [idx8 t]
  rw [e, ref_change]
  have hlt := step_lt t
  obtain h | h | h | h : t.val / 11 = 0 ∨ t.val / 11 = 1 ∨ t.val / 11 = 2 ∨ t.val / 11 = 3 := by omega
  · rw [out_change_0 m c t h, grad_0 m c t h]
    congr 1 <;> blk_ext [iblk, V, idx0 t, idx1 t, idx2 t]
  · rw [out_change_1 m c t h, grad_1 m c t h]
    congr 1 <;> blk_ext [iblk, V, idx0 t, idx1 t, idx2 t]
  · rw [out_change_2 m c t h, grad_2 m c t h]
    congr 1 <;> blk_ext [iblk, V, idx0 t, idx1 t, idx2 t]
  · rw [out_change_3 m c t h, grad_3 m c t h]
    congr 1 <;> blk_ext [iblk, V, idx0 t, idx1 t, idx2 t]

/-- The kernel's result: the first moment. -/
theorem final_mom : (dats m 0 c).arrAt 9 cfg0.N = Cert.Reference22Ideal.Read.val_main_v13 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9]
  idx_vars y
  have e : ((View.whole main_v0_2).slice (win0_9.rect t)).emb (ix2 y0 y1) = ix2 ⟨32 * t.val + y0.val, by have h := step_lt t; omega⟩ y1 := by
    blk_ext [idx9 t]
  rw [e, ref_mom]
  have hlt := step_lt t
  obtain h | h | h | h : t.val / 11 = 0 ∨ t.val / 11 = 1 ∨ t.val / 11 = 2 ∨ t.val / 11 = 3 := by omega
  · rw [out_mom_0 m c t h, grad_0 m c t h]
    congr 1 <;> blk_ext [iblk, V, idx1 t]
  · rw [out_mom_1 m c t h, grad_1 m c t h]
    congr 1 <;> blk_ext [iblk, V, idx1 t]
  · rw [out_mom_2 m c t h, grad_2 m c t h]
    congr 1 <;> blk_ext [iblk, V, idx1 t]
  · rw [out_mom_3 m c t h, grad_3 m c t h]
    congr 1 <;> blk_ext [iblk, V, idx1 t]

/-- The kernel's result: the second moment. -/
theorem final_sqr : (dats m 0 c).arrAt 10 cfg0.N = Cert.Reference22Ideal.Read.val_main_v19 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  rw [after0_10]
  idx_vars y
  have e : ((View.whole main_v0_3).slice (win0_10.rect t)).emb (ix2 y0 y1) = ix2 ⟨32 * t.val + y0.val, by have h := step_lt t; omega⟩ y1 := by
    blk_ext [idx10 t]
  rw [e, ref_sqr]
  have hlt := step_lt t
  obtain h | h | h | h : t.val / 11 = 0 ∨ t.val / 11 = 1 ∨ t.val / 11 = 2 ∨ t.val / 11 = 3 := by omega
  · rw [out_sqr_0 m c t h, grad_0 m c t h]
    congr 1 <;> blk_ext [iblk, V, idx2 t]
  · rw [out_sqr_1 m c t h, grad_1 m c t h]
    congr 1 <;> blk_ext [iblk, V, idx2 t]
  · rw [out_sqr_2 m c t h, grad_2 m c t h]
    congr 1 <;> blk_ext [iblk, V, idx2 t]
  · rw [out_sqr_3 m c t h, grad_3 m c t h]
    congr 1 <;> blk_ext [iblk, V, idx2 t]

/-- The kernel and the reference compute the same result. -/
theorem algebraic : algebraic_Kernel22Ideal_Reference22Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N, Cert.Kernel22Ideal.Value.run_blocks m g, ?_⟩
  refine (θ_run _ _ _).mono (fun r h c => ?_) (Cert.Reference22Ideal.Value.run (F := Ideal) m' g')
  obtain ⟨h0, h1, h2, h3, h4, h5, h6⟩ := hargs c
  refine ⟨((h c).1.trans ?_), ((h c).2.1.trans ?_), ((h c).2.2.1.trans ?_), ((h c).2.2.2.1.trans ?_), (h c).2.2.2.2⟩
  · show _ = (dats m 0 c).arrAt 7 cfg0.N
    rw [final_g m c, h3, h4, h5, h6]
    exact Cert.Reference22Ideal.Read.val_main_v8_eq _ _ _ _
  · show _ = (dats m 0 c).arrAt 8 cfg0.N
    rw [final_change m c, Cert.Reference22Ideal.Read.val_main_v32_eq, h0, h1, h2, h3, h4, h5, h6]
  · show _ = (dats m 0 c).arrAt 9 cfg0.N
    rw [final_mom m c, h1, h3, h4, h5, h6]
    exact Cert.Reference22Ideal.Read.val_main_v13_eq _ _ _ _ _
  · show _ = (dats m 0 c).arrAt 10 cfg0.N
    rw [final_sqr m c, h2, h3, h4, h5, h6]
    exact Cert.Reference22Ideal.Read.val_main_v19_eq _ _ _ _ _

end Cert.Proof.AdFfnOut
-- ==== Proof.AdFoxIn.lean ====
module

public import proofs.«01_k».proof.Defs
public import proofs.«01_k».proof.Proof.Adamw
public import proofs.«01_k».proof.Proof.Gen.Kernel25.Frame
public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack

/-! The optimiser step at the input weights of the first attention: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdFoxIn

open Cert.Kernel25Ideal Cert.Kernel25Ideal.Gen Cert.Proof.Ffn Cert.Proof.Adamw

/-- The sum over the devices of one element of the gradient. -/
def total (x : Vec Ideal S8x256x386 .bf16) (r : Fin 256) (l : Fin 386) : EReal := ∑ s : Fin 8, (x (ix3 s r l) : EReal)

theorem ref_mom (a : Vec Ideal S1024x386 .f32) (p : Vec Ideal S8x1024x386 .bf16) (r : Fin 1024) (l : Fin 386) :
    Cert.Reference25Ideal.Read.val_main_v6 a p (ix2 r l) = mom (Cert.Reference25Ideal.Read.val_main_v1 p (ix2 r l)) (a (ix2 r l)) := by
  rfl

theorem ref_sqr (b : Vec Ideal S1024x386 .f32) (p : Vec Ideal S8x1024x386 .bf16) (r : Fin 1024) (l : Fin 386) :
    Cert.Reference25Ideal.Read.val_main_v12 b p (ix2 r l) = sqr (Cert.Reference25Ideal.Read.val_main_v1 p (ix2 r l)) (b (ix2 r l)) := by
  rfl

theorem ref_change (w a b : Vec Ideal S1024x386 .f32) (p : Vec Ideal S8x1024x386 .bf16) (r : Fin 1024) (l : Fin 386) :
    Cert.Reference25Ideal.Read.val_main_v25 w a b p (ix2 r l) = change (Cert.Reference25Ideal.Read.val_main_v1 p (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 4 := lt_of_lt_of_eq t.isLt N_0

variable (m : (ℓ : Loc nD τ sig) → Buf (Elt Ideal) ℓ) (c : Dev nD)

theorem out_g (t : Fin cfg0.N) (r : Fin 256) (l : Fin 386) :
    (outsAt0 m c t).1 (ix2 r l) = total (iblk m c 3 t) r l := by
  simp only [outsAt0]
  frame_out
  generalize iblk m c 3 t = x
  pointwise [k0_pay1, k0_pay2, k0_pay3, k0_pay4, k0_pay5]
  rw [total, Fin.sum_univ_eight]

theorem out_change (t : Fin cfg0.N) (r : Fin 256) (l : Fin 386) :
    (outsAt0 m c t).2.1 (ix2 r l) = change (total (iblk m c 3 t) r l) (iblk m c 0 t (ix2 r l)) (iblk m c 1 t (ix2 r l)) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem out_mom (t : Fin cfg0.N) (r : Fin 256) (l : Fin 386) :
    (outsAt0 m c t).2.2.1 (ix2 r l) = mom (total (iblk m c 3 t) r l) (iblk m c 1 t (ix2 r l)) := by
  simp only [outsAt0]
  frame_out
  generalize iblk m c 3 t = x
  pointwise [k0_pay1, k0_pay2, k0_pay3, k0_pay4, k0_pay5]
  rw [total, Fin.sum_univ_eight]
  rfl

theorem out_sqr (t : Fin cfg0.N) (r : Fin 256) (l : Fin 386) :
    (outsAt0 m c t).2.2.2 (ix2 r l) = sqr (total (iblk m c 3 t) r l) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem grad (t : Fin cfg0.N) (r : Fin 256) (l : Fin 386) :
    total (iblk m c 3 t) r l = Cert.Reference25Ideal.Read.val_main_v1 (m ((c.tc : Thread nD τ).loc main_arg3)) (ix2 ⟨256 * t.val + r.val, by have h := step_lt t; omega⟩ l) := by
  unfold total
  have hlt := step_lt t
  pointwise [Cert.Reference25Ideal.Read.val_main_v0, Cert.Reference25Ideal.Read.val_main_cst, Cert.Reference25Ideal.Read.val_main_v1]
  change (_ : EReal) = (_ : EReal)
  refine Finset.sum_congr rfl fun s _ => ?_
  blk_ext [iblk, V, idx3 t]

/-- The kernel's result: the gradient, summed. -/
theorem final_g : (dats m 0 c).arrAt 4 cfg0.N = Cert.Reference25Ideal.Read.val_main_v1 (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨256 * t.val + y0.val, by have h := step_lt t; omega⟩ y1 := by
    blk_ext [idx4 t]
  rw [e, out_g, grad]

/-- The kernel's result: the change of the weights. -/
theorem final_change : (dats m 0 c).arrAt 5 cfg0.N = Cert.Reference25Ideal.Read.val_main_v25 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨256 * t.val + y0.val, by have h := step_lt t; omega⟩ y1 := by
    blk_ext [idx5 t]
  rw [e, ref_change, out_change, grad]
  congr 1 <;> blk_ext [iblk, V, idx0 t, idx1 t, idx2 t]

/-- The kernel's result: the first moment. -/
theorem final_mom : (dats m 0 c).arrAt 6 cfg0.N = Cert.Reference25Ideal.Read.val_main_v6 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨256 * t.val + y0.val, by have h := step_lt t; omega⟩ y1 := by
    blk_ext [idx6 t]
  rw [e, ref_mom, out_mom, grad]
  congr 1 <;> blk_ext [iblk, V, idx1 t]

/-- The kernel's result: the second moment. -/
theorem final_sqr : (dats m 0 c).arrAt 7 cfg0.N = Cert.Reference25Ideal.Read.val_main_v12 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨256 * t.val + y0.val, by have h := step_lt t; omega⟩ y1 := by
    blk_ext [idx7 t]
  rw [e, ref_sqr, out_sqr, grad]
  congr 1 <;> blk_ext [iblk, V, idx2 t]

/-- The kernel and the reference compute the same result. -/
theorem algebraic : algebraic_Kernel25Ideal_Reference25Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel25Ideal.Value.run_blocks m g, ?_⟩
  refine (θ_run _ _ _).mono (fun r h c => ?_) (Cert.Reference25Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
    exact Cert.Reference25Ideal.Read.val_main_v1_eq _
  · show _ = (dats m 0 c).arrAt 5 cfg0.N
    rw [final_change m c, h0, h1, h2, h3]
    exact Cert.Reference25Ideal.Read.val_main_v25_eq _ _ _ _
  · show _ = (dats m 0 c).arrAt 6 cfg0.N
    rw [final_mom m c, h1, h3]
    exact Cert.Reference25Ideal.Read.val_main_v6_eq _ _
  · show _ = (dats m 0 c).arrAt 7 cfg0.N
    rw [final_sqr m c, h2, h3]
    exact Cert.Reference25Ideal.Read.val_main_v12_eq _ _

end Cert.Proof.AdFoxIn
-- ==== Proof.AdGmIn.lean ====
module

public import proofs.«01_k».proof.Defs
public import proofs.«01_k».proof.Proof.Adamw
public import proofs.«01_k».proof.Proof.Gen.Kernel23.Frame
public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack

/-! The optimiser step at the input weights of the gated block, and of the convolution: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdGmIn

open Cert.Kernel23Ideal Cert.Kernel23Ideal.Gen Cert.Proof.Ffn Cert.Proof.Adamw

/-- The sum over the devices of one element of the gradient. -/
def total (x : Vec Ideal S8x256x256 .bf16) (r : Fin 256) (l : Fin 256) : EReal := ∑ s : Fin 8, (x (ix3 s r l) : EReal)

theorem ref_mom (a : Vec Ideal S1024x256 .f32) (p : Vec Ideal S8x1024x256 .bf16) (r : Fin 1024) (l : Fin 256) :
    Cert.Reference23Ideal.Read.val_main_v6 a p (ix2 r l) = mom (Cert.Reference23Ideal.Read.val_main_v1 p (ix2 r l)) (a (ix2 r l)) := by
  rfl

theorem ref_sqr (b : Vec Ideal S1024x256 .f32) (p : Vec Ideal S8x1024x256 .bf16) (r : Fin 1024) (l : Fin 256) :
    Cert.Reference23Ideal.Read.val_main_v12 b p (ix2 r l) = sqr (Cert.Reference23Ideal.Read.val_main_v1 p (ix2 r l)) (b (ix2 r l)) := by
  rfl

theorem ref_change (w a b : Vec Ideal S1024x256 .f32) (p : Vec Ideal S8x1024x256 .bf16) (r : Fin 1024) (l : Fin 256) :
    Cert.Reference23Ideal.Read.val_main_v25 w a b p (ix2 r l) = change (Cert.Reference23Ideal.Read.val_main_v1 p (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 4 := lt_of_lt_of_eq t.isLt N_0

variable (m : (ℓ : Loc nD τ sig) → Buf (Elt Ideal) ℓ) (c : Dev nD)

theorem out_g (t : Fin cfg0.N) (r : Fin 256) (l : Fin 256) :
    (outsAt0 m c t).1 (ix2 r l) = total (iblk m c 3 t) r l := by
  simp only [outsAt0]
  frame_out
  generalize iblk m c 3 t = x
  pointwise [k0_pay1, k0_pay2, k0_pay3, k0_pay4, k0_pay5]
  rw [total, Fin.sum_univ_eight]

theorem out_change (t : Fin cfg0.N) (r : Fin 256) (l : Fin 256) :
    (outsAt0 m c t).2.1 (ix2 r l) = change (total (iblk m c 3 t) r l) (iblk m c 0 t (ix2 r l)) (iblk m c 1 t (ix2 r l)) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem out_mom (t : Fin cfg0.N) (r : Fin 256) (l : Fin 256) :
    (outsAt0 m c t).2.2.1 (ix2 r l) = mom (total (iblk m c 3 t) r l) (iblk m c 1 t (ix2 r l)) := by
  simp only [outsAt0]
  frame_out
  generalize iblk m c 3 t = x
  pointwise [k0_pay1, k0_pay2, k0_pay3, k0_pay4, k0_pay5]
  rw [total, Fin.sum_univ_eight]
  rfl

theorem out_sqr (t : Fin cfg0.N) (r : Fin 256) (l : Fin 256) :
    (outsAt0 m c t).2.2.2 (ix2 r l) = sqr (total (iblk m c 3 t) r l) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem grad (t : Fin cfg0.N) (r : Fin 256) (l : Fin 256) :
    total (iblk m c 3 t) r l = Cert.Reference23Ideal.Read.val_main_v1 (m ((c.tc : Thread nD τ).loc main_arg3)) (ix2 ⟨256 * t.val + r.val, by have h := step_lt t; omega⟩ l) := by
  unfold total
  have hlt := step_lt t
  pointwise [Cert.Reference23Ideal.Read.val_main_v0, Cert.Reference23Ideal.Read.val_main_cst, Cert.Reference23Ideal.Read.val_main_v1]
  change (_ : EReal) = (_ : EReal)
  refine Finset.sum_congr rfl fun s _ => ?_
  blk_ext [iblk, V, idx3 t]

/-- The kernel's result: the gradient, summed. -/
theorem final_g : (dats m 0 c).arrAt 4 cfg0.N = Cert.Reference23Ideal.Read.val_main_v1 (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨256 * t.val + y0.val, by have h := step_lt t; omega⟩ y1 := by
    blk_ext [idx4 t]
  rw [e, out_g, grad]

/-- The kernel's result: the change of the weights. -/
theorem final_change : (dats m 0 c).arrAt 5 cfg0.N = Cert.Reference23Ideal.Read.val_main_v25 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨256 * t.val + y0.val, by have h := step_lt t; omega⟩ y1 := by
    blk_ext [idx5 t]
  rw [e, ref_change, out_change, grad]
  congr 1 <;> blk_ext [iblk, V, idx0 t, idx1 t, idx2 t]

/-- The kernel's result: the first moment. -/
theorem final_mom : (dats m 0 c).arrAt 6 cfg0.N = Cert.Reference23Ideal.Read.val_main_v6 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨256 * t.val + y0.val, by have h := step_lt t; omega⟩ y1 := by
    blk_ext [idx6 t]
  rw [e, ref_mom, out_mom, grad]
  congr 1 <;> blk_ext [iblk, V, idx1 t]

/-- The kernel's result: the second moment. -/
theorem final_sqr : (dats m 0 c).arrAt 7 cfg0.N = Cert.Reference23Ideal.Read.val_main_v12 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨256 * t.val + y0.val, by have h := step_lt t; omega⟩ y1 := by
    blk_ext [idx7 t]
  rw [e, ref_sqr, out_sqr, grad]
  congr 1 <;> blk_ext [iblk, V, idx2 t]

/-- The kernel and the reference compute the same result. -/
theorem algebraic : algebraic_Kernel23Ideal_Reference23Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel23Ideal.Value.run_blocks m g, ?_⟩
  refine (θ_run _ _ _).mono (fun r h c => ?_) (Cert.Reference23Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
    exact Cert.Reference23Ideal.Read.val_main_v1_eq _
  · show _ = (dats m 0 c).arrAt 5 cfg0.N
    rw [final_change m c, h0, h1, h2, h3]
    exact Cert.Reference23Ideal.Read.val_main_v25_eq _ _ _ _
  · show _ = (dats m 0 c).arrAt 6 cfg0.N
    rw [final_mom m c, h1, h3]
    exact Cert.Reference23Ideal.Read.val_main_v6_eq _ _
  · show _ = (dats m 0 c).arrAt 7 cfg0.N
    rw [final_sqr m c, h2, h3]
    exact Cert.Reference23Ideal.Read.val_main_v12_eq _ _

end Cert.Proof.AdGmIn
-- ==== Proof.AdGmOut.lean ====
module

public import proofs.«01_k».proof.Defs
public import proofs.«01_k».proof.Proof.Adamw
public import proofs.«01_k».proof.Proof.Gen.Kernel24.Frame
public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack

/-! The optimiser step at the output weights of the mixers: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdGmOut

open Cert.Kernel24Ideal Cert.Kernel24Ideal.Gen Cert.Proof.Ffn Cert.Proof.Adamw

/-- The sum over the devices of one element of the gradient. -/
def total (x : Vec Ideal S8x64x1024 .bf16) (r : Fin 64) (l : Fin 1024) : EReal := ∑ s : Fin 8, (x (ix3 s r l) : EReal)

theorem ref_mom (a : Vec Ideal S128x1024 .f32) (p : Vec Ideal S8x128x1024 .bf16) (r : Fin 128) (l : Fin 1024) :
    Cert.Reference24Ideal.Read.val_main_v6 a p (ix2 r l) = mom (Cert.Reference24Ideal.Read.val_main_v1 p (ix2 r l)) (a (ix2 r l)) := by
  rfl

theorem ref_sqr (b : Vec Ideal S128x1024 .f32) (p : Vec Ideal S8x128x1024 .bf16) (r : Fin 128) (l : Fin 1024) :
    Cert.Reference24Ideal.Read.val_main_v12 b p (ix2 r l) = sqr (Cert.Reference24Ideal.Read.val_main_v1 p (ix2 r l)) (b (ix2 r l)) := by
  rfl

theorem ref_change (w a b : Vec Ideal S128x1024 .f32) (p : Vec Ideal S8x128x1024 .bf16) (r : Fin 128) (l : Fin 1024) :
    Cert.Reference24Ideal.Read.val_main_v25 w a b p (ix2 r l) = change (Cert.Reference24Ideal.Read.val_main_v1 p (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 2 := lt_of_lt_of_eq t.isLt N_0

variable (m : (ℓ : Loc nD τ sig) → Buf (Elt Ideal) ℓ) (c : Dev nD)

theorem out_g (t : Fin cfg0.N) (r : Fin 64) (l : Fin 1024) :
    (outsAt0 m c t).1 (ix2 r l) = total (iblk m c 3 t) r l := by
  simp only [outsAt0]
  frame_out
  generalize iblk m c 3 t = x
  pointwise [k0_pay1, k0_pay2, k0_pay3, k0_pay4, k0_pay5]
  rw [total, Fin.sum_univ_eight]

theorem out_change (t : Fin cfg0.N) (r : Fin 64) (l : Fin 1024) :
    (outsAt0 m c t).2.1 (ix2 r l) = change (total (iblk m c 3 t) r l) (iblk m c 0 t (ix2 r l)) (iblk m c 1 t (ix2 r l)) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem out_mom (t : Fin cfg0.N) (r : Fin 64) (l : Fin 1024) :
    (outsAt0 m c t).2.2.1 (ix2 r l) = mom (total (iblk m c 3 t) r l) (iblk m c 1 t (ix2 r l)) := by
  simp only [outsAt0]
  frame_out
  generalize iblk m c 3 t = x
  pointwise [k0_pay1, k0_pay2, k0_pay3, k0_pay4, k0_pay5]
  rw [total, Fin.sum_univ_eight]
  rfl

theorem out_sqr (t : Fin cfg0.N) (r : Fin 64) (l : Fin 1024) :
    (outsAt0 m c t).2.2.2 (ix2 r l) = sqr (total (iblk m c 3 t) r l) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem grad (t : Fin cfg0.N) (r : Fin 64) (l : Fin 1024) :
    total (iblk m c 3 t) r l = Cert.Reference24Ideal.Read.val_main_v1 (m ((c.tc : Thread nD τ).loc main_arg3)) (ix2 ⟨64 * t.val + r.val, by have h := step_lt t; omega⟩ l) := by
  unfold total
  have hlt := step_lt t
  pointwise [Cert.Reference24Ideal.Read.val_main_v0, Cert.Reference24Ideal.Read.val_main_cst, Cert.Reference24Ideal.Read.val_main_v1]
  change (_ : EReal) = (_ : EReal)
  refine Finset.sum_congr rfl fun s _ => ?_
  blk_ext [iblk, V, idx3 t]

/-- The kernel's result: the gradient, summed. -/
theorem final_g : (dats m 0 c).arrAt 4 cfg0.N = Cert.Reference24Ideal.Read.val_main_v1 (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨64 * t.val + y0.val, by have h := step_lt t; omega⟩ y1 := by
    blk_ext [idx4 t]
  rw [e, out_g, grad]

/-- The kernel's result: the change of the weights. -/
theorem final_change : (dats m 0 c).arrAt 5 cfg0.N = Cert.Reference24Ideal.Read.val_main_v25 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨64 * t.val + y0.val, by have h := step_lt t; omega⟩ y1 := by
    blk_ext [idx5 t]
  rw [e, ref_change, out_change, grad]
  congr 1 <;> blk_ext [iblk, V, idx0 t, idx1 t, idx2 t]

/-- The kernel's result: the first moment. -/
theorem final_mom : (dats m 0 c).arrAt 6 cfg0.N = Cert.Reference24Ideal.Read.val_main_v6 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨64 * t.val + y0.val, by have h := step_lt t; omega⟩ y1 := by
    blk_ext [idx6 t]
  rw [e, ref_mom, out_mom, grad]
  congr 1 <;> blk_ext [iblk, V, idx1 t]

/-- The kernel's result: the second moment. -/
theorem final_sqr : (dats m 0 c).arrAt 7 cfg0.N = Cert.Reference24Ideal.Read.val_main_v12 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨64 * t.val + y0.val, by have h := step_lt t; omega⟩ y1 := by
    blk_ext [idx7 t]
  rw [e, ref_sqr, out_sqr, grad]
  congr 1 <;> blk_ext [iblk, V, idx2 t]

/-- The kernel and the reference compute the same result. -/
theorem algebraic : algebraic_Kernel24Ideal_Reference24Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel24Ideal.Value.run_blocks m g, ?_⟩
  refine (θ_run _ _ _).mono (fun r h c => ?_) (Cert.Reference24Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
    exact Cert.Reference24Ideal.Read.val_main_v1_eq _
  · show _ = (dats m 0 c).arrAt 5 cfg0.N
    rw [final_change m c, h0, h1, h2, h3]
    exact Cert.Reference24Ideal.Read.val_main_v25_eq _ _ _ _
  · show _ = (dats m 0 c).arrAt 6 cfg0.N
    rw [final_mom m c, h1, h3]
    exact Cert.Reference24Ideal.Read.val_main_v6_eq _ _
  · show _ = (dats m 0 c).arrAt 7 cfg0.N
    rw [final_sqr m c, h2, h3]
    exact Cert.Reference24Ideal.Read.val_main_v12_eq _ _

end Cert.Proof.AdGmOut
-- ==== Proof.AdModB.lean ====
module

public import proofs.«01_k».proof.Defs
public import proofs.«01_k».proof.Proof.Adamw
public import proofs.«01_k».proof.Proof.Gen.Kernel30.Frame
public import proofs.«01_k».proof.Proof.Gen.Kernel30Ideal.Value
public import proofs.«01_k».proof.Proof.Gen.Reference30Ideal.Read
public import Idealize.ShloMosaic.Lib.Pipeline.ValueKit
public import Idealize.ShloMosaic.Lib.Pipeline.ReadBack

/-! The optimiser step at the modulation bias: the gradient passed on, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdModB

open Cert.Kernel30Ideal Cert.Kernel30Ideal.Gen Cert.Proof.Ffn Cert.Proof.Adamw

theorem ref_mom (a g : Vec Ideal S4x768 .f32) (r : Fin 4) (l : Fin 768) :
    Cert.Reference30Ideal.Read.val_main_v4 a g (ix2 r l) = mom (g (ix2 r l)) (a (ix2 r l)) := by
  rfl

theorem ref_sqr (b g : Vec Ideal S4x768 .f32) (r : Fin 4) (l : Fin 768) :
    Cert.Reference30Ideal.Read.val_main_v10 b g (ix2 r l) = sqr (g (ix2 r l)) (b (ix2 r l)) := by
  rfl

theorem ref_change (w a b g : Vec Ideal S4x768 .f32) (r : Fin 4) (l : Fin 768) :
    Cert.Reference30Ideal.Read.val_main_v23 w a b g (ix2 r l) = change (g (ix2 r l)) (w (ix2 r l)) (a (ix2 r l)) (b (ix2 r l)) := by
  rfl

theorem out_4 (w a b g : Vec Ideal S4x768 .f32) (r : Fin 4) (l : Fin 768) :
    out0_4 w a b g (ix2 r l) = g (ix2 r l) := by
  unfold out0_4
  rw [View.canon_unit_zero (funext fun a => by fin_cases a <;> rfl)]
  pointwise [k0_pay1, k0_pay2, k0_pay3]

theorem out_5 (w a b g : Vec Ideal S4x768 .f32) (r : Fin 4) (l : Fin 768) :
    out0_5 w a b g (ix2 r l) = change (g (ix2 r l)) (w (ix2 r l)) (a (ix2 r l)) (b (ix2 r l)) := by
  unfold out0_5
  rw [View.canon_unit_zero (funext fun a => by fin_cases a <;> rfl)]
  pointwise [k0_pay1, k0_pay2, k0_pay3]
  rfl

theorem out_6 (w a b g : Vec Ideal S4x768 .f32) (r : Fin 4) (l : Fin 768) :
    out0_6 w a b g (ix2 r l) = mom (g (ix2 r l)) (a (ix2 r l)) := by
  unfold out0_6
  rw [View.canon_unit_zero (funext fun a => by fin_cases a <;> rfl)]
  pointwise [k0_pay1, k0_pay2, k0_pay3]
  rfl

theorem out_7 (w a b g : Vec Ideal S4x768 .f32) (r : Fin 4) (l : Fin 768) :
    out0_7 w a b g (ix2 r l) = sqr (g (ix2 r l)) (b (ix2 r l)) := by
  unfold out0_7
  rw [View.canon_unit_zero (funext fun a => by fin_cases a <;> rfl)]
  pointwise [k0_pay1, k0_pay2, k0_pay3]
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

variable (m : (ℓ : Loc nD τ sig) → Buf (Elt Ideal) ℓ) (c : Dev nD)

/-- The kernel's result: the gradient, passed on. -/
theorem final_g : (dats m 0 c).arrAt 4 cfg0.N = (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 y0 y1 := by
    blk_ext [idx4 t]
  rw [e, out_4]
  blk_ext [iblk, V, idx3 t]

/-- The kernel's result: the change of the weights. -/
theorem final_change : (dats m 0 c).arrAt 5 cfg0.N = Cert.Reference30Ideal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 y0 y1 := by
    blk_ext [idx5 t]
  rw [e, ref_change, out_5]
  congr 1 <;> blk_ext [iblk, V, idx0 t, idx1 t, idx2 t, idx3 t]

/-- The kernel's result: the first moment. -/
theorem final_mom : (dats m 0 c).arrAt 6 cfg0.N = Cert.Reference30Ideal.Read.val_main_v4 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 y0 y1 := by
    blk_ext [idx6 t]
  rw [e, ref_mom, out_6]
  congr 1 <;> blk_ext [iblk, V, idx1 t, idx3 t]

/-- The kernel's result: the second moment. -/
theorem final_sqr : (dats m 0 c).arrAt 7 cfg0.N = Cert.Reference30Ideal.Read.val_main_v10 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 y0 y1 := by
    blk_ext [idx7 t]
  rw [e, ref_sqr, out_7]
  congr 1 <;> blk_ext [iblk, V, idx2 t, idx3 t]

/-- The kernel and the reference compute the same result. -/
theorem algebraic : algebraic_Kernel30Ideal_Reference30Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel30Ideal.Value.run_blocks m g, ?_⟩
  refine (θ_run _ _ _).mono (fun r h c => ?_) (Cert.Reference30Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
  · show _ = (dats m 0 c).arrAt 5 cfg0.N
    rw [final_change m c, h0, h1, h2, h3]
    exact Cert.Reference30Ideal.Read.val_main_v23_eq _ _ _ _
  · show _ = (dats m 0 c).arrAt 6 cfg0.N
    rw [final_mom m c, h1, h3]
    exact Cert.Reference30Ideal.Read.val_main_v4_eq _ _
  · show _ = (dats m 0 c).arrAt 7 cfg0.N
    rw [final_sqr m c, h2, h3]
    exact Cert.Reference30Ideal.Read.val_main_v10_eq _ _

end Cert.Proof.AdModB
-- ==== Proof.AdModW.lean ====
module

public import proofs.«01_k».proof.Defs
public import proofs.«01_k».proof.Proof.Adamw
public import proofs.«01_k».proof.Proof.Gen.Kernel27.Frame
public import proofs.«01_k».proof.Proof.Gen.Kernel27Ideal.Value
public import proofs.«01_k».proof.Proof.Gen.Reference27Ideal.Read
public import Idealize.ShloMosaic.Lib.Pipeline.ValueKit
public import Idealize.ShloMosaic.Lib.Pipeline.ReadBack

/-! The optimiser step at the modulation weights: the gradient passed on, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdModW

open Cert.Kernel27Ideal Cert.Kernel27Ideal.Gen Cert.Proof.Ffn Cert.Proof.Adamw

theorem ref_mom (a g : Vec Ideal S4096x768 .f32) (r : Fin 4096) (l : Fin 768) :
    Cert.Reference27Ideal.Read.val_main_v4 a g (ix2 r l) = mom (g (ix2 r l)) (a (ix2 r l)) := by
  rfl

theorem ref_sqr (b g : Vec Ideal S4096x768 .f32) (r : Fin 4096) (l : Fin 768) :
    Cert.Reference27Ideal.Read.val_main_v10 b g (ix2 r l) = sqr (g (ix2 r l)) (b (ix2 r l)) := by
  rfl

theorem ref_change (w a b g : Vec Ideal S4096x768 .f32) (r : Fin 4096) (l : Fin 768) :
    Cert.Reference27Ideal.Read.val_main_v23 w a b g (ix2 r l) = change (g (ix2 r l)) (w (ix2 r l)) (a (ix2 r l)) (b (ix2 r l)) := by
  rfl

theorem out_4 (w a b g : Vec Ideal S512x768 .f32) (r : Fin 512) (l : Fin 768) :
    out0_4 w a b g (ix2 r l) = g (ix2 r l) := by
  unfold out0_4
  rw [View.canon_unit_zero (funext fun a => by fin_cases a <;> rfl)]
  pointwise [k0_pay1, k0_pay2, k0_pay3]

theorem out_5 (w a b g : Vec Ideal S512x768 .f32) (r : Fin 512) (l : Fin 768) :
    out0_5 w a b g (ix2 r l) = change (g (ix2 r l)) (w (ix2 r l)) (a (ix2 r l)) (b (ix2 r l)) := by
  unfold out0_5
  rw [View.canon_unit_zero (funext fun a => by fin_cases a <;> rfl)]
  pointwise [k0_pay1, k0_pay2, k0_pay3]
  rfl

theorem out_6 (w a b g : Vec Ideal S512x768 .f32) (r : Fin 512) (l : Fin 768) :
    out0_6 w a b g (ix2 r l) = mom (g (ix2 r l)) (a (ix2 r l)) := by
  unfold out0_6
  rw [View.canon_unit_zero (funext fun a => by fin_cases a <;> rfl)]
  pointwise [k0_pay1, k0_pay2, k0_pay3]
  rfl

theorem out_7 (w a b g : Vec Ideal S512x768 .f32) (r : Fin 512) (l : Fin 768) :
    out0_7 w a b g (ix2 r l) = sqr (g (ix2 r l)) (b (ix2 r l)) := by
  unfold out0_7
  rw [View.canon_unit_zero (funext fun a => by fin_cases a <;> rfl)]
  pointwise [k0_pay1, k0_pay2, k0_pay3]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 8 := lt_of_lt_of_eq t.isLt N_0

variable (m : (ℓ : Loc nD τ sig) → Buf (Elt Ideal) ℓ) (c : Dev nD)

/-- The kernel's result: the gradient, passed on. -/
theorem final_g : (dats m 0 c).arrAt 4 cfg0.N = (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨512 * t.val + y0.val, by have h := step_lt t; omega⟩ y1 := by
    blk_ext [idx4 t]
  rw [e, out_4]
  blk_ext [iblk, V, idx3 t]

/-- The kernel's result: the change of the weights. -/
theorem final_change : (dats m 0 c).arrAt 5 cfg0.N = Cert.Reference27Ideal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨512 * t.val + y0.val, by have h := step_lt t; omega⟩ y1 := by
    blk_ext [idx5 t]
  rw [e, ref_change, out_5]
  congr 1 <;> blk_ext [iblk, V, idx0 t, idx1 t, idx2 t, idx3 t]

/-- The kernel's result: the first moment. -/
theorem final_mom : (dats m 0 c).arrAt 6 cfg0.N = Cert.Reference27Ideal.Read.val_main_v4 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨512 * t.val + y0.val, by have h := step_lt t; omega⟩ y1 := by
    blk_ext [idx6 t]
  rw [e, ref_mom, out_6]
  congr 1 <;> blk_ext [iblk, V, idx1 t, idx3 t]

/-- The kernel's result: the second moment. -/
theorem final_sqr : (dats m 0 c).arrAt 7 cfg0.N = Cert.Reference27Ideal.Read.val_main_v10 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨512 * t.val + y0.val, by have h := step_lt t; omega⟩ y1 := by
    blk_ext [idx7 t]
  rw [e, ref_sqr, out_7]
  congr 1 <;> blk_ext [iblk, V, idx2 t, idx3 t]

/-- The kernel and the reference compute the same result. -/
theorem algebraic : algebraic_Kernel27Ideal_Reference27Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel27Ideal.Value.run_blocks m g, ?_⟩
  refine (θ_run _ _ _).mono (fun r h c => ?_) (Cert.Reference27Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
  · show _ = (dats m 0 c).arrAt 5 cfg0.N
    rw [final_change m c, h0, h1, h2, h3]
    exact Cert.Reference27Ideal.Read.val_main_v23_eq _ _ _ _
  · show _ = (dats m 0 c).arrAt 6 cfg0.N
    rw [final_mom m c, h1, h3]
    exact Cert.Reference27Ideal.Read.val_main_v4_eq _ _
  · show _ = (dats m 0 c).arrAt 7 cfg0.N
    rw [final_sqr m c, h2, h3]
    exact Cert.Reference27Ideal.Read.val_main_v10_eq _ _

end Cert.Proof.AdModW
-- ==== Proof.AdSbIn.lean ====
module

public import proofs.«01_k».proof.Defs
public import proofs.«01_k».proof.Proof.Adamw
public import proofs.«01_k».proof.Proof.Gen.Kernel26.Frame
public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack

/-! The optimiser step at the input weights of the second attention: the gradient summed over the devices, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdSbIn

open Cert.Kernel26Ideal Cert.Kernel26Ideal.Gen Cert.Proof.Ffn Cert.Proof.Adamw

/-- The sum over the devices of one element of the gradient. -/
def total (x : Vec Ideal S8x256x384 .bf16) (r : Fin 256) (l : Fin 384) : EReal := ∑ s : Fin 8, (x (ix3 s r l) : EReal)

theorem ref_mom (a : Vec Ideal S1024x384 .f32) (p : Vec Ideal S8x1024x384 .bf16) (r : Fin 1024) (l : Fin 384) :
    Cert.Reference26Ideal.Read.val_main_v6 a p (ix2 r l) = mom (Cert.Reference26Ideal.Read.val_main_v1 p (ix2 r l)) (a (ix2 r l)) := by
  rfl

theorem ref_sqr (b : Vec Ideal S1024x384 .f32) (p : Vec Ideal S8x1024x384 .bf16) (r : Fin 1024) (l : Fin 384) :
    Cert.Reference26Ideal.Read.val_main_v12 b p (ix2 r l) = sqr (Cert.Reference26Ideal.Read.val_main_v1 p (ix2 r l)) (b (ix2 r l)) := by
  rfl

theorem ref_change (w a b : Vec Ideal S1024x384 .f32) (p : Vec Ideal S8x1024x384 .bf16) (r : Fin 1024) (l : Fin 384) :
    Cert.Reference26Ideal.Read.val_main_v25 w a b p (ix2 r l) = change (Cert.Reference26Ideal.Read.val_main_v1 p (ix2 r l)) (w (ix2 r l)) (a (ix2 r l)) (b (ix2 r l)) := by
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 4 := lt_of_lt_of_eq t.isLt N_0

variable (m : (ℓ : Loc nD τ sig) → Buf (Elt Ideal) ℓ) (c : Dev nD)

theorem out_g (t : Fin cfg0.N) (r : Fin 256) (l : Fin 384) :
    (outsAt0 m c t).1 (ix2 r l) = total (iblk m c 3 t) r l := by
  simp only [outsAt0]
  frame_out
  generalize iblk m c 3 t = x
  pointwise [k0_pay1, k0_pay2, k0_pay3, k0_pay4, k0_pay5]
  rw [total, Fin.sum_univ_eight]

theorem out_change (t : Fin cfg0.N) (r : Fin 256) (l : Fin 384) :
    (outsAt0 m c t).2.1 (ix2 r l) = change (total (iblk m c 3 t) r l) (iblk m c 0 t (ix2 r l)) (iblk m c 1 t (ix2 r l)) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem out_mom (t : Fin cfg0.N) (r : Fin 256) (l : Fin 384) :
    (outsAt0 m c t).2.2.1 (ix2 r l) = mom (total (iblk m c 3 t) r l) (iblk m c 1 t (ix2 r l)) := by
  simp only [outsAt0]
  frame_out
  generalize iblk m c 3 t = x
  pointwise [k0_pay1, k0_pay2, k0_pay3, k0_pay4, k0_pay5]
  rw [total, Fin.sum_univ_eight]
  rfl

theorem out_sqr (t : Fin cfg0.N) (r : Fin 256) (l : Fin 384) :
    (outsAt0 m c t).2.2.2 (ix2 r l) = sqr (total (iblk m c 3 t) r l) (iblk m c 2 t (ix2 r l)) := by
  simp only [outsAt0]
  frame_out
  generalize iblk m c 3 t = x
  pointwise [k0_pay1, k0_pay2, k0_pay3, k0_pay4, k0_pay5]
  rw [total, Fin.sum_univ_eight]
  rfl

theorem grad (t : Fin cfg0.N) (r : Fin 256) (l : Fin 384) :
    total (iblk m c 3 t) r l = Cert.Reference26Ideal.Read.val_main_v1 (m ((c.tc : Thread nD τ).loc main_arg3)) (ix2 ⟨256 * t.val + r.val, by have h := step_lt t; omega⟩ l) := by
  unfold total
  have hlt := step_lt t
  pointwise [Cert.Reference26Ideal.Read.val_main_v0, Cert.Reference26Ideal.Read.val_main_cst, Cert.Reference26Ideal.Read.val_main_v1]
  change (_ : EReal) = (_ : EReal)
  refine Finset.sum_congr rfl fun s _ => ?_
  blk_ext [iblk, V, idx3 t]

/-- The kernel's result: the gradient, summed. -/
theorem final_g : (dats m 0 c).arrAt 4 cfg0.N = Cert.Reference26Ideal.Read.val_main_v1 (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨256 * t.val + y0.val, by have h := step_lt t; omega⟩ y1 := by
    blk_ext [idx4 t]
  rw [e, out_g, grad]

/-- The kernel's result: the change of the weights. -/
theorem final_change : (dats m 0 c).arrAt 5 cfg0.N = Cert.Reference26Ideal.Read.val_main_v25 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨256 * t.val + y0.val, by have h := step_lt t; omega⟩ y1 := by
    blk_ext [idx5 t]
  rw [e, ref_change, out_change, grad]
  congr 1 <;> blk_ext [iblk, V, idx0 t, idx1 t, idx2 t]

/-- The kernel's result: the first moment. -/
theorem final_mom : (dats m 0 c).arrAt 6 cfg0.N = Cert.Reference26Ideal.Read.val_main_v6 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨256 * t.val + y0.val, by have h := step_lt t; omega⟩ y1 := by
    blk_ext [idx6 t]
  rw [e, ref_mom, out_mom, grad]
  congr 1 <;> blk_ext [iblk, V, idx1 t]

/-- The kernel's result: the second moment. -/
theorem final_sqr : (dats m 0 c).arrAt 7 cfg0.N = Cert.Reference26Ideal.Read.val_main_v12 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨256 * t.val + y0.val, by have h := step_lt t; omega⟩ y1 := by
    blk_ext [idx7 t]
  rw [e, ref_sqr, out_sqr, grad]
  congr 1 <;> blk_ext [iblk, V, idx2 t]

/-- The kernel and the reference compute the same result. -/
theorem algebraic : algebraic_Kernel26Ideal_Reference26Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel26Ideal.Value.run_blocks m g, ?_⟩
  refine (θ_run _ _ _).mono (fun r h c => ?_) (Cert.Reference26Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
    exact Cert.Reference26Ideal.Read.val_main_v1_eq _
  · show _ = (dats m 0 c).arrAt 5 cfg0.N
    rw [final_change m c, h0, h1, h2, h3]
    exact Cert.Reference26Ideal.Read.val_main_v25_eq _ _ _ _
  · show _ = (dats m 0 c).arrAt 6 cfg0.N
    rw [final_mom m c, h1, h3]
    exact Cert.Reference26Ideal.Read.val_main_v6_eq _ _
  · show _ = (dats m 0 c).arrAt 7 cfg0.N
    rw [final_sqr m c, h2, h3]
    exact Cert.Reference26Ideal.Read.val_main_v12_eq _ _

end Cert.Proof.AdSbIn
-- ==== Proof.AdWhole.lean ====
module

public import proofs.«01_k».proof.Defs
public import proofs.«01_k».proof.Proof.Adamw
public import proofs.«01_k».proof.Proof.Gen.Kernel28.Frame
public import proofs.«01_k».proof.Proof.Gen.Kernel28Ideal.Value
public import proofs.«01_k».proof.Proof.Gen.Reference28Ideal.Read
public import Idealize.ShloMosaic.Lib.Pipeline.ValueKit
public import Idealize.ShloMosaic.Lib.Pipeline.ReadBack

/-! The optimiser step at the weights every device holds whole: the gradient passed on, the change of the weights and the two moments. -/

@[expose] public section

set_option maxRecDepth 16384

noncomputable section

open Idealize.ShloMosaic Idealize.ShloMosaic.TcCoe Idealize.SL.Sem
open Idealize.ShloMosaic.Pipeline (Dat)

namespace Cert.Proof.AdWhole

open Cert.Kernel28Ideal Cert.Kernel28Ideal.Gen Cert.Proof.Ffn Cert.Proof.Adamw

theorem ref_mom (a g : Vec Ideal S152x1024 .f32) (r : Fin 152) (l : Fin 1024) :
    Cert.Reference28Ideal.Read.val_main_v4 a g (ix2 r l) = mom (g (ix2 r l)) (a (ix2 r l)) := by
  rfl

theorem ref_sqr (b g : Vec Ideal S152x1024 .f32) (r : Fin 152) (l : Fin 1024) :
    Cert.Reference28Ideal.Read.val_main_v10 b g (ix2 r l) = sqr (g (ix2 r l)) (b (ix2 r l)) := by
  rfl

theorem ref_change (w a b g : Vec Ideal S152x1024 .f32) (r : Fin 152) (l : Fin 1024) :
    Cert.Reference28Ideal.Read.val_main_v23 w a b g (ix2 r l) = change (g (ix2 r l)) (w (ix2 r l)) (a (ix2 r l)) (b (ix2 r l)) := by
  rfl

theorem out_4 (w a b g : Vec Ideal S8x1024 .f32) (r : Fin 8) (l : Fin 1024) :
    out0_4 w a b g (ix2 r l) = g (ix2 r l) := by
  unfold out0_4
  rw [View.canon_unit_zero (funext fun a => by fin_cases a <;> rfl)]
  pointwise [k0_pay1, k0_pay2, k0_pay3]

theorem out_5 (w a b g : Vec Ideal S8x1024 .f32) (r : Fin 8) (l : Fin 1024) :
    out0_5 w a b g (ix2 r l) = change (g (ix2 r l)) (w (ix2 r l)) (a (ix2 r l)) (b (ix2 r l)) := by
  unfold out0_5
  rw [View.canon_unit_zero (funext fun a => by fin_cases a <;> rfl)]
  pointwise [k0_pay1, k0_pay2, k0_pay3]
  rfl

theorem out_6 (w a b g : Vec Ideal S8x1024 .f32) (r : Fin 8) (l : Fin 1024) :
    out0_6 w a b g (ix2 r l) = mom (g (ix2 r l)) (a (ix2 r l)) := by
  unfold out0_6
  rw [View.canon_unit_zero (funext fun a => by fin_cases a <;> rfl)]
  pointwise [k0_pay1, k0_pay2, k0_pay3]
  rfl

theorem out_7 (w a b g : Vec Ideal S8x1024 .f32) (r : Fin 8) (l : Fin 1024) :
    out0_7 w a b g (ix2 r l) = sqr (g (ix2 r l)) (b (ix2 r l)) := by
  unfold out0_7
  rw [View.canon_unit_zero (funext fun a => by fin_cases a <;> rfl)]
  pointwise [k0_pay1, k0_pay2, k0_pay3]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem step_lt (t : Fin cfg0.N) : t.val < 19 := lt_of_lt_of_eq t.isLt N_0

variable (m : (ℓ : Loc nD τ sig) → Buf (Elt Ideal) ℓ) (c : Dev nD)

/-- The kernel's result: the gradient, passed on. -/
theorem final_g : (dats m 0 c).arrAt 4 cfg0.N = (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 ⟨8 * t.val + y0.val, by have h := step_lt t; omega⟩ y1 := by
    blk_ext [idx4 t]
  rw [e, out_4]
  blk_ext [iblk, V, idx3 t]

/-- The kernel's result: the change of the weights. -/
theorem final_change : (dats m 0 c).arrAt 5 cfg0.N = Cert.Reference28Ideal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 ⟨8 * t.val + y0.val, by have h := step_lt t; omega⟩ y1 := by
    blk_ext [idx5 t]
  rw [e, ref_change, out_5]
  congr 1 <;> blk_ext [iblk, V, idx0 t, idx1 t, idx2 t, idx3 t]

/-- The kernel's result: the first moment. -/
theorem final_mom : (dats m 0 c).arrAt 6 cfg0.N = Cert.Reference28Ideal.Read.val_main_v4 (m ((c.tc : Thread nD τ).loc main_arg1)) (m ((c.tc : Thread nD τ).loc main_arg3)) := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 ⟨8 * t.val + y0.val, by have h := step_lt t; omega⟩ y1 := by
    blk_ext [idx6 t]
  rw [e, ref_mom, out_6]
  congr 1 <;> blk_ext [iblk, V, idx1 t, idx3 t]

/-- The kernel's result: the second moment. -/
theorem final_sqr : (dats m 0 c).arrAt 7 cfg0.N = Cert.Reference28Ideal.Read.val_main_v10 (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : ((View.whole main_v0_3).slice (win0_7.rect t)).emb (ix2 y0 y1) = ix2 ⟨8 * t.val + y0.val, by have h := step_lt t; omega⟩ y1 := by
    blk_ext [idx7 t]
  rw [e, ref_sqr, out_7]
  congr 1 <;> blk_ext [iblk, V, idx2 t, idx3 t]

/-- The kernel and the reference compute the same result. -/
theorem algebraic : algebraic_Kernel28Ideal_Reference28Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel28Ideal.Value.run_blocks m g, ?_⟩
  refine (θ_run _ _ _).mono (fun r h c => ?_) (Cert.Reference28Ideal.Value.run (F := Ideal) m' g')
  obtain ⟨h0, h1, h2, h3⟩ := hargs c
  refine ⟨((h c).1.trans ?_), ((h c).2.1.trans ?_), ((h c).2.2.1.trans ?_), ((h c).2.2.2.1.trans ?_), (h c).2.2.2.2⟩
  · show _ = (dats m 0 c).arrAt 4 cfg0.N
    rw [final_g m c, h3]
  · show _ = (dats m 0 c).arrAt 5 cfg0.N
    rw [final_change m c, h0, h1, h2, h3]
    exact Cert.Reference28Ideal.Read.val_main_v23_eq _ _ _ _
  · show _ = (dats m 0 c).arrAt 6 cfg0.N
    rw [final_mom m c, h1, h3]
    exact Cert.Reference28Ideal.Read.val_main_v4_eq _ _
  · show _ = (dats m 0 c).arrAt 7 cfg0.N
    rw [final_sqr m c, h2, h3]
    exact Cert.Reference28Ideal.Read.val_main_v10_eq _ _

end Cert.Proof.AdWhole
-- ==== Proof.AttnOut.lean ====
module

public import proofs.«01_k».proof.Defs
public import proofs.«01_k».proof.Proof.FfnSum
public import proofs.«01_k».proof.Proof.Gen.Kernel13.Frame
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

/-! The attention's output product, per block of 1024 tokens. -/

@[expose] public section

set_option maxRecDepth 16384

noncomputable section

open Idealize.ShloMosaic Idealize.ShloMosaic.TcCoe Idealize.SL.Sem
open Idealize.ShloMosaic.Pipeline (Dat)

namespace Cert.Proof.AttnOut

open Cert.Kernel13Ideal Cert.Kernel13Ideal.Gen Cert.Proof.Ffn

/-- One element of the product. -/
def prod (x0 : Vec Ideal S8192x1024 .f32) (x1 : Vec Ideal S1024x1024 .bf16) (t : Fin 8192) (l : Fin 1024) : EReal :=
  (∑ n : Fin 1024, (x0 (ix2 t n) : EReal) * x1 (ix2 n l))

theorem out_apply (x0 : Vec Ideal S1024x1024 .f32) (x1 : Vec Ideal S1024x1024 .bf16) (r : Fin 1024) (l : Fin 1024) :
    out0_2 x0 x1 (ix2 r l) = (∑ n : Fin 1024, (x0 (ix2 r n) : EReal) * x1 (ix2 n l)) := by
  unfold out0_2
  rw [View.canon_unit_zero (funext fun a => by fin_cases a <;> rfl)]
  pointwise [k0_pay1]

theorem ref_apply (x0 : Vec Ideal S8192x1024 .f32) (x1 : Vec Ideal S1024x1024 .bf16) (t : Fin 8192) (l : Fin 1024) :
    Cert.Reference13Ideal.Read.val_main_v1 x0 x1 (ix2 t l) = prod x0 x1 t l := by
  pointwise [Cert.Reference13Ideal.Read.val_main_v0, Cert.Reference13Ideal.Read.val_main_v1]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 1024) : 1024 * t.val + y.val < 8192 := by
  have h := t.isLt
  have hN : cfg0.N = 8 := by decide +kernel
  omega

/-- The kernel's whole result. -/
theorem final (m : (ℓ : Loc nD τ sig) → Buf (Elt Ideal) ℓ) (c : Dev nD) : (dats m 0 c).arrAt 2 cfg0.N = Cert.Reference13Ideal.Read.val_main_v1 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨1024 * t.val + y0.val, row t y0⟩ y1 := by
    blk_ext [idx2 t]
  rw [e, ref_apply, out_apply]
  unfold prod
  change (_ : EReal) = (_ : EReal)
  refine Finset.sum_congr rfl fun n _ => ?_
  congr 1 <;> blk_ext [iblk, V, idx0 t, idx1 t]

/-- The kernel and the reference compute the same result. -/
theorem algebraic : algebraic_Kernel13Ideal_Reference13Ideal := by
  intro m g m' g' _ hargs
  refine ⟨fun c => (dats m 0 c).arrAt 2 cfg0.N, Cert.Kernel13Ideal.Value.run_blocks m g, ?_⟩
  refine (θ_run _ _ _).mono (fun r h c => ?_) (Cert.Reference13Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference13Ideal.Read.val_main_v1_eq _ _

end Cert.Proof.AttnOut
-- ==== Proof.BackCols.lean ====
module

public import proofs.«01_k».proof.Defs
public import proofs.«01_k».proof.Proof.FfnSum
public import proofs.«01_k».proof.Proof.Gen.Kernel20.Frame
public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack

/-! The gradient behind a mixer's input weights: eight products of 256 columns per block of 512 tokens against the reference's one
product over 2048 columns. -/

@[expose] public section

set_option maxRecDepth 16384

noncomputable section

open Idealize.ShloMosaic Idealize.ShloMosaic.TcCoe Idealize.SL.Sem
open Idealize.ShloMosaic.Pipeline (Dat)

namespace Cert.Proof.BackCols

open Cert.Kernel20Ideal Cert.Kernel20Ideal.Gen Cert.Proof.Ffn

/-- One element of the gradient, block of columns by block of columns. -/
def dh (x0 : Vec Ideal S8192x2048 .bf16) (x1 : Vec Ideal S1x8x1024x256 .bf16) (t : Fin 8192) (l : Fin 1024) : EReal :=
  ∑ p : Fin 8, ∑ n : Fin 256, (x0 (ix2 t ⟨256 * p.val + n.val, by omega⟩) : EReal) * x1 (ix4 0 p l n)

/-- A sum over 2048 columns is the sum over eight blocks of 256. -/
theorem sum_cols (f : Fin 2048 → EReal) : ∑ k, f k = ∑ p : Fin 8, ∑ n : Fin 256, f ⟨256 * p.val + n.val, by omega⟩ := by
  rw [← Finset.sum_product', Finset.univ_product_univ]
  refine (Fintype.sum_equiv (finProdFinEquiv (m := 8) (n := 256)) _ _ fun x => ?_).symm
  refine congrArg f (Fin.ext ?_)
  show 256 * x.1.val + x.2.val = x.2.val + 256 * x.1.val
  omega

theorem out_apply (x0 : Vec Ideal S512x2048 .bf16) (x1 : Vec Ideal S1x8x1024x256 .bf16) (r : Fin 512) (l : Fin 1024) :
    out0_2 x0 x1 (ix2 r l) = ∑ p : Fin 8, ∑ n : Fin 256, (x0 (ix2 r ⟨256 * p.val + n.val, by omega⟩) : EReal) * x1 (ix4 0 p l n) := by
  unfold out0_2
  rw [View.canon_unit_zero (funext fun a => by fin_cases a <;> rfl)]
  pointwise [k0_pay1, k0_pay2]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
  · refine Finset.sum_congr rfl fun n _ => congrArg₂ (· * ·) (congrArg _ ?_) (congrArg _ ?_) <;>
    · funext a
      apply Fin.ext
      fin_cases a <;> first | rfl | (simp <;> omega)

theorem ref_apply (x0 : Vec Ideal S8192x2048 .bf16) (x1 : Vec Ideal S1x8x1024x256 .bf16) (t : Fin 8192) (l : Fin 1024) :
    Cert.Reference20Ideal.Read.val_main_v7 x0 x1 (ix2 t l) = dh x0 x1 t l := by
  pointwise [Cert.Reference20Ideal.Read.val_main_v0, Cert.Reference20Ideal.Read.val_main_v1, Cert.Reference20Ideal.Read.val_main_v2, Cert.Reference20Ideal.Read.val_main_v3, Cert.Reference20Ideal.Read.val_main_v5, Cert.Reference20Ideal.Read.val_main_v6, Cert.Reference20Ideal.Read.val_main_v7]
  unfold dh
  rw [sum_cols]
  refine Finset.sum_congr rfl fun p _ => ?_
  refine Finset.sum_congr rfl fun n _ => congrArg₂ (· * ·) (congrArg _ ?_) (congrArg _ ?_) <;>
  · funext a
    apply Fin.ext
    fin_cases a <;> first | rfl | (simp <;> omega)

theorem idx0 : ∀ t : Fin cfg0.N, win0_0.index t = ![t.val, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 512) : 512 * t.val + y.val < 8192 := by
  have h := t.isLt
  have hN : cfg0.N = 16 := by decide +kernel
  omega

/-- The kernel's whole result. -/
theorem final (m : (ℓ : Loc nD τ sig) → Buf (Elt Ideal) ℓ) (c : Dev nD) : (dats m 0 c).arrAt 2 cfg0.N = Cert.Reference20Ideal.Read.val_main_v7 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨512 * t.val + y0.val, row t y0⟩ y1 := by
    blk_ext [idx2 t]
  rw [e, ref_apply, out_apply]
  unfold dh
  change (_ : EReal) = (_ : EReal)
  refine Finset.sum_congr rfl fun p _ => Finset.sum_congr rfl fun n _ => ?_
  congr 1 <;> blk_ext [iblk, V, idx0 t, idx1 t]

/-- The kernel and the reference compute the same result. -/
theorem algebraic : algebraic_Kernel20Ideal_Reference20Ideal := by
  intro m g m' g' _ hargs
  refine ⟨fun c => (dats m 0 c).arrAt 2 cfg0.N, Cert.Kernel20Ideal.Value.run_blocks m g, ?_⟩
  refine (θ_run _ _ _).mono (fun r h c => ?_) (Cert.Reference20Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference20Ideal.Read.val_main_v7_eq _ _

end Cert.Proof.BackCols
-- ==== Proof.LnRow.lean ====
module

public import Idealize.ShloMosaic.Lib.Pointwise
public import Idealize.ShloMosaic.Lib.Pipeline.ValueKit

/-! The residual sum and the layer norm of one row of 1024 numbers. -/

@[expose] public section

noncomputable section

open Idealize.ShloMosaic

namespace Cert.Proof.LnRow

/-- The residual sum: the scaled stream and the gated branch. -/
def res (x y g : Fin 1024 → EReal) (l : Fin 1024) : EReal :=
  Ideal.ofBits .f32 0x3FD744FD#32 * x l + (1 + g l) * y l

/-- The mean of a row. -/
def mean (f : Fin 1024 → EReal) : EReal := Ideal.div (∑ k, f k) (Ideal.ofBits .f32 0x44800000#32)

/-- The residual sum without its mean. -/
def cent (x y g : Fin 1024 → EReal) (l : Fin 1024) : EReal := res x y g l - mean (res x y g)

/-- One over the standard deviation of the residual sum. -/
def inv (x y g : Fin 1024 → EReal) : EReal :=
  Ideal.rsqrt (mean (fun k => cent x y g k * cent x y g k) + Ideal.ofBits .f32 0x3727C5AC#32)

/-- The layer norm of the residual sum. -/
def norm (x y g a b : Fin 1024 → EReal) (l : Fin 1024) : EReal := cent x y g l * inv x y g * a l + b l

end Cert.Proof.LnRow
-- ==== Proof.LnBack.lean ====
module

public import proofs.«01_k».proof.Proof.LnRow

/-! The gradient of a row's layer norm: the form with two row means, and the one through the variance and the mean. -/

@[expose] public section

noncomputable section

open Idealize.ShloMosaic

namespace Cert.Proof.LnBack

open Cert.Proof.LnRow (mean)

/-- A row without its mean. -/
def cen (y : Fin 1024 → EReal) (l : Fin 1024) : EReal := y l - mean y

/-- The variance of a row, above zero. -/
def vari (y : Fin 1024 → EReal) : EReal := mean (fun k => cen y k * cen y k) + Ideal.ofBits .f32 0x3727C5AC#32

/-- One over the standard deviation of a row. -/
def rstd (y : Fin 1024 → EReal) : EReal := Ideal.rsqrt (vari y)

/-- The gradient at a row, of a gradient `g` behind its normalisation, by two row means. -/
def byMeans (y g : Fin 1024 → EReal) (l : Fin 1024) : EReal :=
  rstd y * (g l - mean g - cen y l * rstd y * mean fun k => g k * (cen y k * rstd y))

/-- Twice this times the centred row is what reaches it through the variance. -/
def half (y g : Fin 1024 → EReal) : EReal :=
  Ideal.div ((∑ k, cen y k * g k) * (Ideal.ofBits .f32 0xBF000000#32 * Ideal.div (rstd y) (vari y))) (Ideal.ofBits .f32 0x44800000#32)

/-- The gradient at the centred row. -/
def through (y g : Fin 1024 → EReal) (l : Fin 1024) : EReal := g l * rstd y + cen y l * half y g + half y g * cen y l

/-- The gradient at a row, through the variance and the mean. -/
def byChain (y g : Fin 1024 → EReal) (l : Fin 1024) : EReal :=
  through y g l + Ideal.div (∑ k, -through y g k) (Ideal.ofBits .f32 0x44800000#32)

/-- A real, among the extended reals. -/
def IsReal (x : EReal) : Prop := ∃ r : ℝ, x = r

theorem coe_sum {ι : Type} [Fintype ι] (f : ι → ℝ) : ((∑ k, f k : ℝ) : EReal) = ∑ k, (f k : EReal) :=
  map_sum (⟨⟨fun r : ℝ => (r : EReal), EReal.coe_zero⟩, EReal.coe_add⟩ : ℝ →+ EReal) f Finset.univ

theorem width_word : Ideal.ofBits .f32 0x44800000#32 = ((1024 : ℝ) : EReal) := by
  simp [Ideal.ofBits, Ideal.ieee, -EReal.coe_mul]; norm_num

theorem minus_half_word : Ideal.ofBits .f32 0xBF000000#32 = ((-(1 / 2) : ℝ) : EReal) := by
  simp [Ideal.ofBits, Ideal.ieee, -EReal.coe_mul]; norm_num

theorem eps_word : ∃ e : ℝ, 0 < e ∧ Ideal.ofBits .f32 0x3727C5AC#32 = (e : EReal) := by
  refine ⟨_, ?_, by simp [Ideal.ofBits, Ideal.ieee, -EReal.coe_mul]; rfl⟩
  positivity

theorem mean_coe (f : Fin 1024 → ℝ) : mean (fun k => (f k : EReal)) = (((∑ k, f k) * (1 / 1024) : ℝ) : EReal) := by
  unfold mean
  rw [width_word, Ideal.div_coe (by norm_num), ← coe_sum, ← EReal.coe_mul]

theorem rsqrt_pos {w : ℝ} (h : 0 < w) : Ideal.rsqrt (w : EReal) = (((Real.sqrt w)⁻¹ : ℝ) : EReal) := by
  show (if w < 0 then (⊥ : EReal) else if w = 0 then ⊤ else ((Real.sqrt w)⁻¹ : ℝ)) = _
  rw [if_neg (not_lt.mpr h.le), if_neg h.ne']

/-- The identity among reals. -/
theorem real_eq (c g : Fin 1024 → ℝ) (r w : ℝ) (hc : ∑ k, c k = 0) (hr : r * r = 1 / w) (l : Fin 1024) :
    r * (g l - (∑ k, g k) * (1 / 1024) - c l * r * ((∑ k, g k * (c k * r)) * (1 / 1024)))
      = g l * r + c l * ((∑ k, c k * g k) * (-(1 / 2) * (r * (1 / w))) * (1 / 1024)) + (∑ k, c k * g k) * (-(1 / 2) * (r * (1 / w))) * (1 / 1024) * c l
        + (∑ k, -(g k * r + c k * ((∑ k, c k * g k) * (-(1 / 2) * (r * (1 / w))) * (1 / 1024)) + (∑ k, c k * g k) * (-(1 / 2) * (r * (1 / w))) * (1 / 1024) * c k)) * (1 / 1024) := by
  have h1 : ∑ k, g k * (c k * r) = (∑ k, c k * g k) * r := by
    rw [Finset.sum_mul]; exact Finset.sum_congr rfl fun k _ => by ring
  generalize hq : (∑ k, c k * g k) * (-(1 / 2) * (r * (1 / w))) * (1 / 1024) = q
  have h2 : ∑ k, -(g k * r + c k * q + q * c k) = -((∑ k, g k) * r) := by
    rw [Finset.sum_neg_distrib, Finset.sum_add_distrib, Finset.sum_add_distrib, ← Finset.sum_mul, ← Finset.sum_mul, ← Finset.mul_sum, hc]
    ring
  rw [h1, h2, ← hq, ← hr]
  ring

theorem real_of_add {x y : EReal} (h : IsReal (x + y)) : IsReal x ∧ IsReal y := by
  obtain ⟨r, hr⟩ := h
  induction x with
  | bot => simp at hr
  | coe x =>
    refine ⟨⟨x, rfl⟩, ?_⟩
    induction y with
    | bot => simp at hr
    | coe y => exact ⟨y, rfl⟩
    | top => simp at hr
  | top =>
    induction y with
    | bot => simp at hr
    | coe y => simp at hr
    | top => simp at hr

theorem real_of_sum {ι : Type} (s : Finset ι) (f : ι → EReal) : IsReal (∑ i ∈ s, f i) → ∀ i ∈ s, IsReal (f i) := by
  classical
  induction s using Finset.induction_on with
  | empty => intro _ i hi; simp at hi
  | insert a s ha ih =>
    intro h i hi
    rw [Finset.sum_insert ha] at h
    obtain ⟨h1, h2⟩ := real_of_add h
    rcases Finset.mem_insert.mp hi with rfl | hi
    · exact h1
    · exact ih h2 i hi

/-- A row with an infinite entry is infinite throughout, once centred. -/
theorem cen_inf (y : Fin 1024 → EReal) (h : ¬∀ k, IsReal (y k)) (l : Fin 1024) : cen y l = ⊤ ∨ cen y l = ⊥ := by
  have hs : mean y = ⊤ ∨ mean y = ⊥ := by
    have hn : ¬IsReal (∑ k, y k) := fun hr => h fun k => real_of_sum Finset.univ y hr k (Finset.mem_univ k)
    unfold mean
    rw [width_word, Ideal.div_coe (by norm_num)]
    generalize (∑ k, y k) = s at hn
    induction s with
    | bot => right; exact EReal.bot_mul_coe_of_pos (by norm_num)
    | coe r => exact absurd ⟨r, rfl⟩ hn
    | top => left; exact EReal.top_mul_coe_of_pos (by norm_num)
  unfold cen
  generalize y l = z
  rcases hs with hs | hs <;> rw [hs] <;> induction z with
    | bot => simp [sub_eq_add_neg]
    | coe r => simp [sub_eq_add_neg]
    | top => simp [sub_eq_add_neg]

theorem vari_inf (y : Fin 1024 → EReal) (h : ¬∀ k, IsReal (y k)) : vari y = ⊤ := by
  have hk : ∀ k, cen y k * cen y k = ⊤ := fun k => by
    rcases cen_inf y h k with hk | hk <;> rw [hk] <;> simp
  have hs : ∑ k, cen y k * cen y k = ⊤ := by
    rw [Fin.sum_univ_succ, hk]
    refine EReal.top_add_of_ne_bot (ne_of_gt (lt_of_lt_of_le EReal.bot_lt_zero (Finset.sum_nonneg fun k _ => ?_)))
    rw [hk]; exact le_top
  obtain ⟨e, _, he⟩ := eps_word
  unfold vari mean
  rw [hs, width_word, Ideal.div_coe (by norm_num), EReal.top_mul_coe_of_pos (by norm_num), he]
  exact EReal.top_add_coe e

theorem div_zero_left : Ideal.div 0 ⊤ = 0 := by
  simp [Ideal.div]

/-- The two forms agree where the gradient behind the normalisation is finite. -/
theorem chain_eq (y g : Fin 1024 → EReal) (hg : ∀ k, IsReal (g k)) (l : Fin 1024) : byMeans y g l = byChain y g l := by
  by_cases h : ∀ k, IsReal (y k)
  · choose a ha using h
    choose b hb using hg
    obtain rfl : g = fun k => (b k : EReal) := funext hb
    obtain rfl : y = fun k => (a k : EReal) := funext ha
    obtain ⟨e, he0, he⟩ := eps_word
    let c : Fin 1024 → ℝ := fun k => a k - (∑ k, a k) * (1 / 1024)
    have hc : ∀ k, cen (fun k => (a k : EReal)) k = (c k : EReal) := fun k => by
      unfold cen; rw [mean_coe, ← EReal.coe_sub]
    have hc0 : ∑ k, c k = 0 := by
      simp only [c, Finset.sum_sub_distrib, Finset.sum_const, Finset.card_univ, Fintype.card_fin, nsmul_eq_mul]
      push_cast; ring
    let w : ℝ := (∑ k, c k * c k) * (1 / 1024) + e
    have hw : vari (fun k => (a k : EReal)) = (w : EReal) := by
      unfold vari
      simp only [hc, ← EReal.coe_mul]
      rw [mean_coe, he, ← EReal.coe_add]
    have hw0 : 0 < w := by
      have : 0 ≤ ∑ k, c k * c k := Finset.sum_nonneg fun k _ => mul_self_nonneg _
      positivity
    have hr : rstd (fun k => (a k : EReal)) = (((Real.sqrt w)⁻¹ : ℝ) : EReal) := by
      unfold rstd; rw [hw, rsqrt_pos hw0]
    have hrr : (Real.sqrt w)⁻¹ * (Real.sqrt w)⁻¹ = 1 / w := by
      rw [← mul_inv, Real.mul_self_sqrt hw0.le, one_div]
    have hq : half (fun k => (a k : EReal)) (fun k => (b k : EReal)) = (((∑ k, c k * b k) * (-(1 / 2) * ((Real.sqrt w)⁻¹ * (1 / w))) * (1 / 1024) : ℝ) : EReal) := by
      unfold half
      rw [hr, hw, Ideal.div_coe hw0.ne', minus_half_word, width_word, Ideal.div_coe (by norm_num)]
      simp only [hc, ← EReal.coe_mul]
      rw [← coe_sum, ← EReal.coe_mul, ← EReal.coe_mul]
    have ht : ∀ k, through (fun k => (a k : EReal)) (fun k => (b k : EReal)) k
        = ((b k * (Real.sqrt w)⁻¹ + c k * ((∑ k, c k * b k) * (-(1 / 2) * ((Real.sqrt w)⁻¹ * (1 / w))) * (1 / 1024)) + (∑ k, c k * b k) * (-(1 / 2) * ((Real.sqrt w)⁻¹ * (1 / w))) * (1 / 1024) * c k : ℝ) : EReal) := fun k => by
      unfold through
      rw [hq, hc, hr, ← EReal.coe_mul, ← EReal.coe_mul, ← EReal.coe_mul, ← EReal.coe_add, ← EReal.coe_add]
    unfold byMeans byChain
    simp only [ht, ← EReal.coe_neg]
    rw [← coe_sum, width_word, Ideal.div_coe (by norm_num), ← EReal.coe_mul, ← EReal.coe_add]
    simp only [hc, hr, ← EReal.coe_mul, mean_coe]
    rw [← EReal.coe_sub, ← EReal.coe_sub, ← EReal.coe_mul]
    exact congrArg _ (real_eq c b _ w hc0 hrr l)
  · have hv := vari_inf y h
    have hr : rstd y = 0 := by unfold rstd; rw [hv]; rfl
    have hq : half y g = 0 := by
      unfold half
      rw [hr, hv, div_zero_left, mul_zero, mul_zero, width_word, Ideal.div_coe (by norm_num), zero_mul]
    have ht : ∀ k, through y g k = 0 := fun k => by unfold through; rw [hr, hq]; simp
    unfold byMeans byChain
    simp only [ht, hr]
    rw [width_word, Ideal.div_coe (by norm_num)]
    simp

end Cert.Proof.LnBack
-- ==== Proof.CvNorm.lean ====
module

public import proofs.«01_k».proof.Defs
public import proofs.«01_k».proof.Proof.LnBack
public import proofs.«01_k».proof.Proof.Gen.Pre_finite_gradient
public import proofs.«01_k».proof.Proof.Gen.Kernel40.Frame
public import proofs.«01_k».proof.Proof.Gen.Kernel40Ideal.Value
public import proofs.«01_k».proof.Proof.Gen.Reference40Ideal.Read
public import Idealize.ShloMosaic.Lib.Pipeline.ValueKit
public import Idealize.ShloMosaic.Lib.Pipeline.ReadBack
public import Idealize.ShloMosaic.Lib.ReduceAll

/-! The gradient behind the convolution: through the silu and the layer norm, with the gradients of the norm's scale and shift
and of the convolution's bias, summed over the tokens. -/

@[expose] public section

set_option maxRecDepth 16384

noncomputable section

open Idealize.ShloMosaic Idealize.ShloMosaic.TcCoe Idealize.SL.Sem
open Idealize.ShloMosaic.Pipeline (Dat)

namespace Cert.Proof.CvNorm

open Cert.Kernel40Ideal Cert.Kernel40Ideal.Gen

open Cert.Proof.LnBack
open Cert.Proof.LnRow (mean)

/-- A row of a matrix. -/
def rowOf {n : Nat} (x : Vec Ideal ⟨2, ![n, 1024]⟩ .f32) (r : Fin n) : Fin 1024 → EReal := fun l => x (ix2 r l)

/-- The layer norm of a row. -/
def nrm (y a b : Fin 1024 → EReal) (l : Fin 1024) : EReal := cen y l * rstd y * a l + b l

/-- The derivative of the silu. -/
def slope (z : EReal) : EReal := Ideal.logistic z * (1 + z * (1 - Ideal.logistic z))

/-- The gradient behind the layer norm. -/
def dn (y d a b : Fin 1024 → EReal) (l : Fin 1024) : EReal := d l * slope (nrm y a b l)

/-- The gradient behind the normalisation. -/
def dh (y d a b : Fin 1024 → EReal) (l : Fin 1024) : EReal := dn y d a b l * a l

theorem slope_real (z : EReal) : IsReal (slope z) := by
  unfold slope
  induction z with
  | bot => exact ⟨0, by simp⟩
  | top =>
    have h : (1 : EReal) - 1 = 0 := by rw [← EReal.coe_one, ← EReal.coe_sub, sub_self, EReal.coe_zero]
    exact ⟨1, by simp [h]⟩
  | coe z =>
    obtain ⟨s, hs⟩ : ∃ s : ℝ, Ideal.logistic (z : EReal) = s := ⟨_, Ideal.logistic_coe z⟩
    refine ⟨s * (1 + z * (1 - s)), ?_⟩
    rw [hs]
    norm_cast

/-- The silu's gradient in two terms, of a finite gradient behind it. -/
theorem slope_eq {x : EReal} (hx : IsReal x) (z : EReal) :
    x * Ideal.logistic z + z * x * (Ideal.logistic z * (1 - Ideal.logistic z)) = x * slope z := by
  obtain ⟨x, rfl⟩ := hx
  unfold slope
  induction z with
  | bot => simp
  | top =>
    have h : (1 : EReal) - 1 = 0 := by rw [← EReal.coe_one, ← EReal.coe_sub, sub_self, EReal.coe_zero]
    simp [h]
  | coe z =>
    obtain ⟨s, hs⟩ : ∃ s : ℝ, Ideal.logistic (z : EReal) = s := ⟨_, Ideal.logistic_coe z⟩
    rw [hs]
    norm_cast
    ring

theorem dh_real {y d a b : Fin 1024 → EReal} (hd : ∀ k, IsReal (d k)) (ha : ∀ k, IsReal (a k)) (l : Fin 1024) : IsReal (dh y d a b l) := by
  obtain ⟨p, hp⟩ := hd l
  obtain ⟨q, hq⟩ := ha l
  obtain ⟨s, hs⟩ := slope_real (nrm y a b l)
  exact ⟨p * s * q, by unfold dh dn; rw [hp, hq, hs, ← EReal.coe_mul, ← EReal.coe_mul]⟩

/-! ## The precondition -/

/-- An extended real below infinity in absolute value is a real. -/
theorem real_of_abs (x : EReal) (h : Ideal.cmp .olt (max x (-x)) ⊤ = 1#1) : IsReal x := by
  have h' : max x (-x) < ⊤ := by
    by_contra hn
    simp [Ideal.cmp, hn] at h
  induction x with
  | bot => simp at h'
  | top => simp at h'
  | coe r => exact ⟨r, rfl⟩

instance : Subsingleton Cert.Pre_finite_gradient.S_.Idx := ⟨fun a b => funext fun i => i.elim0⟩

theorem inf_word : Ideal.ofBits .f32 0x7F800000#32 = ⊤ := by
  decide

theorem and_one {a b : BitVec 1} (h : IntOp.andi a b = 1#1) : a = 1#1 ∧ b = 1#1 := by
  revert a b
  decide

theorem pre_real {x d : Vec Ideal S8192x1024 .f32} {a b : Vec Ideal S1x1024 .f32}
    (h : Cert.Pre_finite_gradient.fn (F := Ideal) x d a b = fun _ => 1#1) :
    (∀ i, IsReal (d i)) ∧ ∀ i, IsReal (a i) := by
  have h0 := congrFun h (fun i => i.elim0)
  dsimp only [Cert.Pre_finite_gradient.fn] at h0
  obtain ⟨h1, h2⟩ := and_one h0
  refine ⟨fun i => real_of_abs _ ?_, fun i => real_of_abs _ ?_⟩
  · exact inf_word ▸ Host.reduce_andi_all _ _ _ _ _ h1 i
  · exact inf_word ▸ Host.reduce_andi_all _ _ _ _ _ h2 i

/-! ## The reference -/

theorem ref_cen (x : Vec Ideal S8192x1024 .f32) (r : Fin 8192) (l : Fin 1024) :
    Cert.Reference40Ideal.Read.val_main_v5 x (ix2 r l) = cen (rowOf x r) l := by
  pointwise [Cert.Reference40Ideal.Read.val_main_v5, Cert.Reference40Ideal.Read.val_main_v4, Cert.Reference40Ideal.Read.val_main_v3, Cert.Reference40Ideal.Read.val_main_v2, Cert.Reference40Ideal.Read.val_main_v1, Cert.Reference40Ideal.Read.val_main_v0, Cert.Reference40Ideal.Read.val_main_cst, Cert.Reference40Ideal.Read.val_main_cst_0]
  rfl

theorem ref_vari (x : Vec Ideal S8192x1024 .f32) (r : Fin 8192) (q : Fin 1) :
    Cert.Reference40Ideal.Read.val_main_v12 x (ix2 r q) = vari (rowOf x r) := by
  pointwise [Cert.Reference40Ideal.Read.val_main_v12, Cert.Reference40Ideal.Read.val_main_v11, Cert.Reference40Ideal.Read.val_main_v10, Cert.Reference40Ideal.Read.val_main_v9, Cert.Reference40Ideal.Read.val_main_v8, Cert.Reference40Ideal.Read.val_main_v7, Cert.Reference40Ideal.Read.val_main_v6, Cert.Reference40Ideal.Read.val_main_cst_1, Cert.Reference40Ideal.Read.val_main_cst_2, Cert.Reference40Ideal.Read.val_main_cst_3]
  simp only [ref_cen]
  rfl

theorem ref_rstd (x : Vec Ideal S8192x1024 .f32) (r : Fin 8192) (q : Fin 1) :
    Cert.Reference40Ideal.Read.val_main_v13 x (ix2 r q) = rstd (rowOf x r) := by
  pointwise [Cert.Reference40Ideal.Read.val_main_v13]
  rw [ref_vari]
  rfl

theorem ref_hat (x : Vec Ideal S8192x1024 .f32) (r : Fin 8192) (l : Fin 1024) :
    Cert.Reference40Ideal.Read.val_main_v18 x (ix2 r l) = cen (rowOf x r) l * rstd (rowOf x r) := by
  pointwise [Cert.Reference40Ideal.Read.val_main_v18, Cert.Reference40Ideal.Read.val_main_v17]
  rw [ref_cen, ref_rstd]

theorem ref_n (x : Vec Ideal S8192x1024 .f32) (a b : Vec Ideal S1x1024 .f32) (r : Fin 8192) (l : Fin 1024) :
    Cert.Reference40Ideal.Read.val_main_v22 x a b (ix2 r l) = nrm (rowOf x r) (rowOf a 0) (rowOf b 0) l := by
  pointwise [Cert.Reference40Ideal.Read.val_main_v22, Cert.Reference40Ideal.Read.val_main_v21, Cert.Reference40Ideal.Read.val_main_v20, Cert.Reference40Ideal.Read.val_main_v19]
  rw [ref_hat]
  rfl

theorem ref_dn (x d : Vec Ideal S8192x1024 .f32) (a b : Vec Ideal S1x1024 .f32) (hd : ∀ i, IsReal (d i)) (r : Fin 8192) (l : Fin 1024) :
    Cert.Reference40Ideal.Read.val_main_v24 x d a b (ix2 r l) = dn (rowOf x r) (rowOf d r) (rowOf a 0) (rowOf b 0) l := by
  pointwise [Cert.Reference40Ideal.Read.val_main_v24, Cert.Reference40Ideal.Read.val_main_call1_v0, Cert.Reference40Ideal.Read.val_main_call1_v1, Cert.Reference40Ideal.Read.val_main_call1_v2, Cert.Reference40Ideal.Read.val_main_v23_0, Cert.Reference40Ideal.Read.val_main_v23_1, Cert.Reference40Ideal.Read.val_main_v23_2, Cert.Reference40Ideal.Read.val_main_call0_v0, Cert.Reference40Ideal.Read.val_main_call0_v1, Cert.Reference40Ideal.Read.val_main_call0_v2, Cert.Reference40Ideal.Read.val_main_call0_v3, Cert.Reference40Ideal.Read.val_main_call0_v4, Cert.Reference40Ideal.Read.val_main_call0_v6, Cert.Reference40Ideal.Read.val_main_call0_v7, Cert.Reference40Ideal.Read.val_main_call0_cst, Cert.Reference40Ideal.Read.val_main_call0_cst_0, Cert.Reference40Ideal.Read.val_main_call0_cst_1]
  rw [ref_n]
  exact slope_eq (hd (ix2 r l)) _

theorem ref_dh (x d : Vec Ideal S8192x1024 .f32) (a b : Vec Ideal S1x1024 .f32) (hd : ∀ i, IsReal (d i)) (r : Fin 8192) (l : Fin 1024) :
    Cert.Reference40Ideal.Read.val_main_v31 x d a b (ix2 r l) = dh (rowOf x r) (rowOf d r) (rowOf a 0) (rowOf b 0) l := by
  pointwise [Cert.Reference40Ideal.Read.val_main_v31, Cert.Reference40Ideal.Read.val_main_v30]
  rw [ref_dn _ _ _ _ hd]
  rfl

theorem ref_half (x d : Vec Ideal S8192x1024 .f32) (a b : Vec Ideal S1x1024 .f32) (hd : ∀ i, IsReal (d i)) (r : Fin 8192) :
    Cert.Reference40Ideal.Read.val_main_v40 x d a b (ix1 r) = half (rowOf x r) (dh (rowOf x r) (rowOf d r) (rowOf a 0) (rowOf b 0)) := by
  pointwise [Cert.Reference40Ideal.Read.val_main_v40, Cert.Reference40Ideal.Read.val_main_v39, Cert.Reference40Ideal.Read.val_main_v38, Cert.Reference40Ideal.Read.val_main_v37, Cert.Reference40Ideal.Read.val_main_v34, Cert.Reference40Ideal.Read.val_main_v33, Cert.Reference40Ideal.Read.val_main_v32, Cert.Reference40Ideal.Read.val_main_v16, Cert.Reference40Ideal.Read.val_main_v15, Cert.Reference40Ideal.Read.val_main_v14, Cert.Reference40Ideal.Read.val_main_cst_4, Cert.Reference40Ideal.Read.val_main_cst_7, Cert.Reference40Ideal.Read.val_main_cst_8, Cert.Reference40Ideal.Read.val_main_cst_9]
  simp only [ref_cen, ref_rstd, ref_vari, ref_dh _ _ _ _ hd]
  exact (Fin.sum_univ_one _).trans rfl

theorem ref_through (x d : Vec Ideal S8192x1024 .f32) (a b : Vec Ideal S1x1024 .f32) (hd : ∀ i, IsReal (d i)) (r : Fin 8192) (l : Fin 1024) :
    Cert.Reference40Ideal.Read.val_main_v45 x d a b (ix2 r l) = through (rowOf x r) (dh (rowOf x r) (rowOf d r) (rowOf a 0) (rowOf b 0)) l := by
  pointwise [Cert.Reference40Ideal.Read.val_main_v45, Cert.Reference40Ideal.Read.val_main_v44, Cert.Reference40Ideal.Read.val_main_v43, Cert.Reference40Ideal.Read.val_main_v42, Cert.Reference40Ideal.Read.val_main_v41, Cert.Reference40Ideal.Read.val_main_v36, Cert.Reference40Ideal.Read.val_main_v35]
  rw [ref_half _ _ _ _ hd, ref_cen, ref_rstd, ref_dh _ _ _ _ hd]
  rfl

theorem ref_x (x d : Vec Ideal S8192x1024 .f32) (a b : Vec Ideal S1x1024 .f32) (hd : ∀ i, IsReal (d i)) (ha : ∀ i, IsReal (a i)) (r : Fin 8192) (l : Fin 1024) :
    Cert.Reference40Ideal.Read.val_main_v53 x d a b (ix2 r l) = byMeans (rowOf x r) (dh (rowOf x r) (rowOf d r) (rowOf a 0) (rowOf b 0)) l := by
  rw [chain_eq (rowOf x r) (dh (rowOf x r) (rowOf d r) (rowOf a 0) (rowOf b 0)) (dh_real (fun k => hd (ix2 r k)) (fun k => ha (ix2 0 k)))]
  pointwise [Cert.Reference40Ideal.Read.val_main_v53, Cert.Reference40Ideal.Read.val_main_v52, Cert.Reference40Ideal.Read.val_main_v51, Cert.Reference40Ideal.Read.val_main_v50, Cert.Reference40Ideal.Read.val_main_v49, Cert.Reference40Ideal.Read.val_main_v48, Cert.Reference40Ideal.Read.val_main_v47, Cert.Reference40Ideal.Read.val_main_v46, Cert.Reference40Ideal.Read.val_main_cst_10, Cert.Reference40Ideal.Read.val_main_cst_11, Cert.Reference40Ideal.Read.val_main_cst_12]
  simp only [ref_through _ _ _ _ hd]
  exact congrArg (fun z => through (rowOf x r) (dh (rowOf x r) (rowOf d r) (rowOf a 0) (rowOf b 0)) l + z) (Fin.sum_univ_one _)

theorem ref_g (x d : Vec Ideal S8192x1024 .f32) (a b : Vec Ideal S1x1024 .f32) (hd : ∀ i, IsReal (d i)) (q : Fin 1) (l : Fin 1024) :
    Cert.Reference40Ideal.Read.val_main_v29 x d a b (ix2 q l)
      = ∑ r : Fin 8192, dn (rowOf x r) (rowOf d r) (rowOf a 0) (rowOf b 0) l * (cen (rowOf x r) l * rstd (rowOf x r)) := by
  pointwise [Cert.Reference40Ideal.Read.val_main_v29, Cert.Reference40Ideal.Read.val_main_v28, Cert.Reference40Ideal.Read.val_main_v27, Cert.Reference40Ideal.Read.val_main_cst_6]
  simp only [ref_hat, ref_dn _ _ _ _ hd]
  exact Finset.sum_congr rfl fun r _ => mul_comm _ _

theorem ref_b (x d : Vec Ideal S8192x1024 .f32) (a b : Vec Ideal S1x1024 .f32) (hd : ∀ i, IsReal (d i)) (q : Fin 1) (l : Fin 1024) :
    Cert.Reference40Ideal.Read.val_main_v26 x d a b (ix2 q l) = ∑ r : Fin 8192, dn (rowOf x r) (rowOf d r) (rowOf a 0) (rowOf b 0) l := by
  pointwise [Cert.Reference40Ideal.Read.val_main_v26, Cert.Reference40Ideal.Read.val_main_v25, Cert.Reference40Ideal.Read.val_main_cst_5]
  simp only [ref_dn _ _ _ _ hd]

theorem ref_s (x d : Vec Ideal S8192x1024 .f32) (a b : Vec Ideal S1x1024 .f32) (hd : ∀ i, IsReal (d i)) (ha : ∀ i, IsReal (a i)) (q : Fin 1) (l : Fin 1024) :
    Cert.Reference40Ideal.Read.val_main_v55 x d a b (ix2 q l)
      = ∑ r : Fin 8192, byMeans (rowOf x r) (dh (rowOf x r) (rowOf d r) (rowOf a 0) (rowOf b 0)) l := by
  pointwise [Cert.Reference40Ideal.Read.val_main_v55, Cert.Reference40Ideal.Read.val_main_v54, Cert.Reference40Ideal.Read.val_main_cst_13]
  simp only [ref_x _ _ _ _ hd ha]

/-! ## The kernel, block by block -/

theorem pay_cen (y : Vec Ideal S512x1024 .f32) (r : Fin 512) (l : Fin 1024) : k0_pay4 y (ix2 r l) = cen (rowOf y r) l := by
  pointwise [k0_pay4]
  rfl

theorem pay_rstd (y : Vec Ideal S512x1024 .f32) (r : Fin 512) (q : Fin 1) : k0_pay5 y (ix2 r q) = rstd (rowOf y r) := by
  pointwise [k0_pay5]
  simp only [pay_cen]
  rfl

theorem pay_hat (y : Vec Ideal S512x1024 .f32) (r : Fin 512) (l : Fin 1024) : k0_pay6 y (ix2 r l) = cen (rowOf y r) l * rstd (rowOf y r) := by
  pointwise [k0_pay6]
  rw [pay_cen, pay_rstd]

theorem pay_dn (y d : Vec Ideal S512x1024 .f32) (a b : Vec Ideal S1x1024 .f32) (r : Fin 512) (l : Fin 1024) :
    k0_pay7 y a b d (ix2 r l) = dn (rowOf y r) (rowOf d r) (rowOf a 0) (rowOf b 0) l := by
  pointwise [k0_pay7]
  rw [pay_hat]
  rfl

theorem pay_x (y d : Vec Ideal S512x1024 .f32) (a b : Vec Ideal S1x1024 .f32) (r : Fin 512) (l : Fin 1024) :
    k0_pay12 (k0_pay5 y) (k0_pay6 y) (k0_pay7 y a b d) a (ix2 r l)
      = byMeans (rowOf y r) (dh (rowOf y r) (rowOf d r) (rowOf a 0) (rowOf b 0)) l := by
  pointwise [k0_pay12]
  simp only [pay_hat, pay_rstd, pay_dn]
  rfl

theorem pay_g (y d : Vec Ideal S512x1024 .f32) (a b : Vec Ideal S1x1024 .f32) (s : Vec Ideal S1x1024 .f32) (l : Fin 1024) :
    k0_pay10 (k0_pay8 s) (k0_pay9 y a b d) (ix2 0 l)
      = s (ix2 0 l) + ∑ r : Fin 512, dn (rowOf y r) (rowOf d r) (rowOf a 0) (rowOf b 0) l * (cen (rowOf y r) l * rstd (rowOf y r)) := by
  pointwise [k0_pay10, k0_pay8, k0_pay9]
  simp only [pay_hat, pay_dn]

theorem pay_b (y d : Vec Ideal S512x1024 .f32) (a b : Vec Ideal S1x1024 .f32) (s : Vec Ideal S1x1024 .f32) (l : Fin 1024) :
    k0_pay11 (k0_pay7 y a b d) s (ix2 0 l) = s (ix2 0 l) + ∑ r : Fin 512, dn (rowOf y r) (rowOf d r) (rowOf a 0) (rowOf b 0) l := by
  pointwise [k0_pay11]
  simp only [pay_dn]

theorem pay_s (y d : Vec Ideal S512x1024 .f32) (a b : Vec Ideal S1x1024 .f32) (s : Vec Ideal S1x1024 .f32) (l : Fin 1024) :
    k0_pay13 (k0_pay5 y) (k0_pay6 y) (k0_pay7 y a b d) a s (ix2 0 l)
      = s (ix2 0 l) + ∑ r : Fin 512, byMeans (rowOf y r) (dh (rowOf y r) (rowOf d r) (rowOf a 0) (rowOf b 0)) l := by
  pointwise [k0_pay13]
  simp only [pay_x]

theorem zero_g (q : Fin 1) (l : Fin 1024) : (k0_pay1 (F := Ideal)) (ix2 q l) = 0 := by
  pointwise [k0_pay1]
theorem zero_b (q : Fin 1) (l : Fin 1024) : (k0_pay2 (F := Ideal)) (ix2 q l) = 0 := by
  pointwise [k0_pay2]
theorem zero_s (q : Fin 1) (l : Fin 1024) : (k0_pay3 (F := Ideal)) (ix2 q l) = 0 := by
  pointwise [k0_pay3]

/-- A sum over 8192 tokens is the sum over sixteen blocks of 512. -/
theorem sum_blocks (f : Fin 8192 → EReal) : ∑ k, f k = ∑ p : Fin 16, ∑ n : Fin 512, f ⟨512 * p.val + n.val, by omega⟩ := by
  rw [← Finset.sum_product', Finset.univ_product_univ]
  refine (Fintype.sum_equiv (finProdFinEquiv (m := 16) (n := 512)) _ _ fun x => ?_).symm
  exact congrArg f (Fin.ext (Nat.add_comm _ _))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

/-- The row of the arrays a block's row is. -/
def tokOf (t : Fin cfg0.N) (r : Fin 512) : Fin 8192 := ⟨512 * t.val + r.val, by have := step_lt t; omega⟩

theorem blk_y (t : Fin cfg0.N) (r : Fin 512) : rowOf (iblk m c 0 t) r = rowOf (m ((c.tc : Thread nD τ).loc main_arg0)) (tokOf t r) := by
  funext l; unfold rowOf tokOf; blk_ext [iblk, V, idx0 t]
theorem blk_d (t : Fin cfg0.N) (r : Fin 512) : rowOf (iblk m c 1 t) r = rowOf (m ((c.tc : Thread nD τ).loc main_arg1)) (tokOf t r) := by
  funext l; unfold rowOf tokOf; blk_ext [iblk, V, idx1 t]
theorem blk_a (t : Fin cfg0.N) : rowOf (iblk m c 2 t) 0 = rowOf (m ((c.tc : Thread nD τ).loc main_arg2)) 0 := by
  funext l; unfold rowOf; blk_ext [iblk, V, idx2 t]
theorem blk_b (t : Fin cfg0.N) : rowOf (iblk m c 3 t) 0 = rowOf (m ((c.tc : Thread nD τ).loc main_arg3)) 0 := by
  funext l; unfold rowOf; blk_ext [iblk, V, idx3 t]

/-- What one token adds to the gradient of the scale. -/
def addG {n : Nat} (x d : Vec Ideal ⟨2, ![n, 1024]⟩ .f32) (a b : Vec Ideal S1x1024 .f32) (r : Fin n) (l : Fin 1024) : EReal :=
  dn (rowOf x r) (rowOf d r) (rowOf a 0) (rowOf b 0) l * (cen (rowOf x r) l * rstd (rowOf x r))

/-- What one token adds to the gradient of the shift. -/
def addB {n : Nat} (x d : Vec Ideal ⟨2, ![n, 1024]⟩ .f32) (a b : Vec Ideal S1x1024 .f32) (r : Fin n) (l : Fin 1024) : EReal :=
  dn (rowOf x r) (rowOf d r) (rowOf a 0) (rowOf b 0) l

/-- The gradient at one token. -/
def addS {n : Nat} (x d : Vec Ideal ⟨2, ![n, 1024]⟩ .f32) (a b : Vec Ideal S1x1024 .f32) (r : Fin n) (l : Fin 1024) : EReal :=
  byMeans (rowOf x r) (dh (rowOf x r) (rowOf d r) (rowOf a 0) (rowOf b 0)) l

theorem blk_addG (t : Fin cfg0.N) (r : Fin 512) (l : Fin 1024) : addG (iblk m c 0 t) (iblk m c 1 t) (iblk m c 2 t) (iblk m c 3 t) r l = addG (m ((c.tc : Thread nD τ).loc main_arg0)) (m ((c.tc : Thread nD τ).loc main_arg1)) (m ((c.tc : Thread nD τ).loc main_arg2)) (m ((c.tc : Thread nD τ).loc main_arg3)) (tokOf t r) l := by
  unfold addG
  rw [blk_y, blk_d, blk_a, blk_b]

theorem blk_addB (t : Fin cfg0.N) (r : Fin 512) (l : Fin 1024) : addB (iblk m c 0 t) (iblk m c 1 t) (iblk m c 2 t) (iblk m c 3 t) r l = addB (m ((c.tc : Thread nD τ).loc main_arg0)) (m ((c.tc : Thread nD τ).loc main_arg1)) (m ((c.tc : Thread nD τ).loc main_arg2)) (m ((c.tc : Thread nD τ).loc main_arg3)) (tokOf t r) l := by
  unfold addB
  rw [blk_y, blk_d, blk_a, blk_b]

theorem blk_addS (t : Fin cfg0.N) (r : Fin 512) (l : Fin 1024) : addS (iblk m c 0 t) (iblk m c 1 t) (iblk m c 2 t) (iblk m c 3 t) r l = addS (m ((c.tc : Thread nD τ).loc main_arg0)) (m ((c.tc : Thread nD τ).loc main_arg1)) (m ((c.tc : Thread nD τ).loc main_arg2)) (m ((c.tc : Thread nD τ).loc main_arg3)) (tokOf t r) l := by
  unfold addS
  rw [blk_y, blk_d, blk_a, blk_b]

/-- The gradient that one grid point writes. -/
theorem step_x (t : Fin cfg0.N) (r : Fin 512) (l : Fin 1024) : (outsAt0 m c t.val t.isLt).1 (ix2 r l) = addS (iblk m c 0 t) (iblk m c 1 t) (iblk m c 2 t) (iblk m c 3 t) r l := by
  by_cases h0 : t.val % 16 = 0
  · rw [outsAt0_A m c t h0]
    frame_out
    exact pay_x (iblk m c 0 t) (iblk m c 1 t) (iblk m c 2 t) (iblk m c 3 t) r l
  · rw [outsAt0_B m c t h0]
    frame_out
    exact pay_x (iblk m c 0 t) (iblk m c 1 t) (iblk m c 2 t) (iblk m c 3 t) r l

def tLast : Fin cfg0.N := ⟨15, lt_of_lt_of_eq (by decide) N_0.symm⟩

theorem first_G (t : Fin cfg0.N) (h0 : t.val % 16 = 0) (j : S1x1024.Idx) :
    (outsAt0 m c t.val t.isLt).2.1 j = 0 + ∑ r : Fin 512, addG (iblk m c 0 t) (iblk m c 1 t) (iblk m c 2 t) (iblk m c 3 t) r (j 1) := by
  rw [outsAt0_A m c t h0]
  frame_out
  idx_vars j
  obtain rfl : j0 = 0 := Subsingleton.elim _ _
  rw [pay_g, zero_g]
  rfl

theorem later_G (t : Fin cfg0.N) (h0 : ¬t.val % 16 = 0) (j : S1x1024.Idx) :
    (outsAt0 m c t.val t.isLt).2.1 j
      = (outsAt0 m c (t.val - 1) (Nat.lt_of_le_of_lt (Nat.sub_le _ _) t.isLt)).2.1 j + ∑ r : Fin 512, addG (iblk m c 0 t) (iblk m c 1 t) (iblk m c 2 t) (iblk m c 3 t) r (j 1) := by
  rw [outsAt0_B m c t h0]
  frame_out
  idx_vars j
  obtain rfl : j0 = 0 := Subsingleton.elim _ _
  rw [pay_g]
  rfl

theorem last_G (j : S1x1024.Idx) :
    (outsAt0 m c tLast.val tLast.isLt).2.1 j = ∑ s : Fin 16, ∑ r : Fin 512, addG (iblk m c 0 (s.cast N_0.symm)) (iblk m c 1 (s.cast N_0.symm)) (iblk m c 2 (s.cast N_0.symm)) (iblk m c 3 (s.cast N_0.symm)) r (j 1) := by
  have h := Pipeline.eq_sum_fin_of_reset_step_apply_last (fun n h => ((outsAt0 m c n h).2.1 : S1x1024.Idx → EReal)) 16 (fun _ => (0 : EReal))
    (fun t j => ∑ r : Fin 512, addG (iblk m c 0 t) (iblk m c 1 t) (iblk m c 2 t) (iblk m c 3 t) r (j 1))
    (fun t h j => first_G m c t h j) (fun t h j => later_G m c t h j) (le_of_eq N_0) tLast N_0.symm j
  rw [zero_add] at h
  exact h.trans (Fintype.sum_equiv (finCongr N_0.symm) _ _ fun s => rfl).symm

theorem first_B (t : Fin cfg0.N) (h0 : t.val % 16 = 0) (j : S1x1024.Idx) :
    (outsAt0 m c t.val t.isLt).2.2.1 j = 0 + ∑ r : Fin 512, addB (iblk m c 0 t) (iblk m c 1 t) (iblk m c 2 t) (iblk m c 3 t) r (j 1) := by
  rw [outsAt0_A m c t h0]
  frame_out
  idx_vars j
  obtain rfl : j0 = 0 := Subsingleton.elim _ _
  rw [pay_b, zero_b]
  rfl

theorem later_B (t : Fin cfg0.N) (h0 : ¬t.val % 16 = 0) (j : S1x1024.Idx) :
    (outsAt0 m c t.val t.isLt).2.2.1 j
      = (outsAt0 m c (t.val - 1) (Nat.lt_of_le_of_lt (Nat.sub_le _ _) t.isLt)).2.2.1 j + ∑ r : Fin 512, addB (iblk m c 0 t) (iblk m c 1 t) (iblk m c 2 t) (iblk m c 3 t) r (j 1) := by
  rw [outsAt0_B m c t h0]
  frame_out
  idx_vars j
  obtain rfl : j0 = 0 := Subsingleton.elim _ _
  rw [pay_b]
  rfl

theorem last_B (j : S1x1024.Idx) :
    (outsAt0 m c tLast.val tLast.isLt).2.2.1 j = ∑ s : Fin 16, ∑ r : Fin 512, addB (iblk m c 0 (s.cast N_0.symm)) (iblk m c 1 (s.cast N_0.symm)) (iblk m c 2 (s.cast N_0.symm)) (iblk m c 3 (s.cast N_0.symm)) r (j 1) := by
  have h := Pipeline.eq_sum_fin_of_reset_step_apply_last (fun n h => ((outsAt0 m c n h).2.2.1 : S1x1024.Idx → EReal)) 16 (fun _ => (0 : EReal))
    (fun t j => ∑ r : Fin 512, addB (iblk m c 0 t) (iblk m c 1 t) (iblk m c 2 t) (iblk m c 3 t) r (j 1))
    (fun t h j => first_B m c t h j) (fun t h j => later_B m c t h j) (le_of_eq N_0) tLast N_0.symm j
  rw [zero_add] at h
  exact h.trans (Fintype.sum_equiv (finCongr N_0.symm) _ _ fun s => rfl).symm

theorem first_S (t : Fin cfg0.N) (h0 : t.val % 16 = 0) (j : S1x1024.Idx) :
    (outsAt0 m c t.val t.isLt).2.2.2 j = 0 + ∑ r : Fin 512, addS (iblk m c 0 t) (iblk m c 1 t) (iblk m c 2 t) (iblk m c 3 t) r (j 1) := by
  rw [outsAt0_A m c t h0]
  frame_out
  idx_vars j
  obtain rfl : j0 = 0 := Subsingleton.elim _ _
  rw [pay_s, zero_s]
  rfl

theorem later_S (t : Fin cfg0.N) (h0 : ¬t.val % 16 = 0) (j : S1x1024.Idx) :
    (outsAt0 m c t.val t.isLt).2.2.2 j
      = (outsAt0 m c (t.val - 1) (Nat.lt_of_le_of_lt (Nat.sub_le _ _) t.isLt)).2.2.2 j + ∑ r : Fin 512, addS (iblk m c 0 t) (iblk m c 1 t) (iblk m c 2 t) (iblk m c 3 t) r (j 1) := by
  rw [outsAt0_B m c t h0]
  frame_out
  idx_vars j
  obtain rfl : j0 = 0 := Subsingleton.elim _ _
  rw [pay_s]
  rfl

theorem last_S (j : S1x1024.Idx) :
    (outsAt0 m c tLast.val tLast.isLt).2.2.2 j = ∑ s : Fin 16, ∑ r : Fin 512, addS (iblk m c 0 (s.cast N_0.symm)) (iblk m c 1 (s.cast N_0.symm)) (iblk m c 2 (s.cast N_0.symm)) (iblk m c 3 (s.cast N_0.symm)) r (j 1) := by
  have h := Pipeline.eq_sum_fin_of_reset_step_apply_last (fun n h => ((outsAt0 m c n h).2.2.2 : S1x1024.Idx → EReal)) 16 (fun _ => (0 : EReal))
    (fun t j => ∑ r : Fin 512, addS (iblk m c 0 t) (iblk m c 1 t) (iblk m c 2 t) (iblk m c 3 t) r (j 1))
    (fun t h j => first_S m c t h j) (fun t h j => later_S m c t h j) (le_of_eq N_0) tLast N_0.symm j
  rw [zero_add] at h
  exact h.trans (Fintype.sum_equiv (finCongr N_0.symm) _ _ fun s => rfl).symm

/-- The kernel's first result: the gradient at the convolution's output. -/
theorem final_x (hd : ∀ i, IsReal ((m ((c.tc : Thread nD τ).loc main_arg1)) i)) (ha : ∀ i, IsReal ((m ((c.tc : Thread nD τ).loc main_arg2)) i)) :
    (dats m 0 c).arrAt 4 cfg0.N = Cert.Reference40Ideal.Read.val_main_v53 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 (tokOf t y0) y1 := by
    unfold tokOf; blk_ext [idx4 t]
  rw [e, ref_x _ _ _ _ hd ha, step_x, blk_addS]
  rfl

/-- The kernel's second result: the gradient of the norm's scale. -/
theorem final_G (hd : ∀ i, IsReal ((m ((c.tc : Thread nD τ).loc main_arg1)) i)) :
    (dats m 0 c).arrAt 5 cfg0.N = Cert.Reference40Ideal.Read.val_main_v29 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have ht : t = tLast := (by decide +kernel : ∀ t : Fin grid0.N, win0_5.flush t = true → t = tLast) t hf
  subst ht
  blk_simp
  rw [after0_5]
  idx_vars y
  have e : ((View.whole main_v0_1).slice (win0_5.rect tLast)).emb (ix2 y0 y1) = ix2 y0 y1 := by
    blk_ext [idx5]
  rw [e, ref_g _ _ _ _ hd, last_G, sum_blocks]
  change (_ : EReal) = (_ : EReal)
  refine Finset.sum_congr rfl fun s _ => ?_
  refine Finset.sum_congr rfl fun n _ => ?_
  exact blk_addG m c (s.cast N_0.symm) n y1

/-- The kernel's third result: the gradient of the norm's shift. -/
theorem final_B (hd : ∀ i, IsReal ((m ((c.tc : Thread nD τ).loc main_arg1)) i)) :
    (dats m 0 c).arrAt 6 cfg0.N = Cert.Reference40Ideal.Read.val_main_v26 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  have ht : t = tLast := (by decide +kernel : ∀ t : Fin grid0.N, win0_6.flush t = true → t = tLast) t hf
  subst ht
  blk_simp
  rw [after0_6]
  idx_vars y
  have e : ((View.whole main_v0_2).slice (win0_6.rect tLast)).emb (ix2 y0 y1) = ix2 y0 y1 := by
    blk_ext [idx6]
  rw [e, ref_b _ _ _ _ hd, last_B, sum_blocks]
  change (_ : EReal) = (_ : EReal)
  refine Finset.sum_congr rfl fun s _ => ?_
  refine Finset.sum_congr rfl fun n _ => ?_
  exact blk_addB m c (s.cast N_0.symm) n y1

/-- The kernel's fourth result: the gradient of the convolution's bias. -/
theorem final_S (hd : ∀ i, IsReal ((m ((c.tc : Thread nD τ).loc main_arg1)) i)) (ha : ∀ i, IsReal ((m ((c.tc : Thread nD τ).loc main_arg2)) i)) :
    (dats m 0 c).arrAt 7 cfg0.N = Cert.Reference40Ideal.Read.val_main_v55 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  have ht : t = tLast := (by decide +kernel : ∀ t : Fin grid0.N, win0_7.flush t = true → t = tLast) t hf
  subst ht
  blk_simp
  rw [after0_7]
  idx_vars y
  have e : ((View.whole main_v0_3).slice (win0_7.rect tLast)).emb (ix2 y0 y1) = ix2 y0 y1 := by
    blk_ext [idx7]
  rw [e, ref_s _ _ _ _ hd ha, last_S, sum_blocks]
  change (_ : EReal) = (_ : EReal)
  refine Finset.sum_congr rfl fun s _ => ?_
  refine Finset.sum_congr rfl fun n _ => ?_
  exact blk_addS m c (s.cast N_0.symm) n y1

/-- The kernel and the reference compute the same gradients. -/
theorem algebraic : algebraic_Kernel40Ideal_Reference40Ideal_pre_finite_gradient := by
  intro m g m' g' hpre hargs
  refine ⟨fun c => (dats m 0 c).arrAt 4 cfg0.N, fun c => (dats m 0 c).arrAt 5 cfg0.N, fun c => (dats m 0 c).arrAt 6 cfg0.N, fun c => (dats m 0 c).arrAt 7 cfg0.N, Cert.Kernel40Ideal.Value.run_blocks m g, ?_⟩
  refine (θ_run _ _ _).mono (fun r h c => ?_) (Cert.Reference40Ideal.Value.run (F := Ideal) m' g')
  obtain ⟨h0, h1, h2, h3⟩ := hargs c
  obtain ⟨hd, ha⟩ := pre_real (hpre c)
  refine ⟨((h c).1.trans ?_), ((h c).2.1.trans ?_), ((h c).2.2.1.trans ?_), ((h c).2.2.2.1.trans ?_), (h c).2.2.2.2⟩
  · show _ = (dats m 0 c).arrAt 4 cfg0.N
    rw [final_x m c hd ha, Cert.Reference40Ideal.Read.val_main_v53_eq, h0, h1, h2, h3]
  · show _ = (dats m 0 c).arrAt 5 cfg0.N
    rw [final_G m c hd, Cert.Reference40Ideal.Read.val_main_v29_eq, h0, h1, h2, h3]
  · show _ = (dats m 0 c).arrAt 6 cfg0.N
    rw [final_B m c hd, Cert.Reference40Ideal.Read.val_main_v26_eq, h0, h1, h2, h3]
  · show _ = (dats m 0 c).arrAt 7 cfg0.N
    rw [final_S m c hd ha, Cert.Reference40Ideal.Read.val_main_v55_eq, h0, h1, h2, h3]

end Cert.Proof.CvNorm
-- ==== Proof.CvOut.lean ====
module

public import proofs.«01_k».proof.Defs
public import proofs.«01_k».proof.Proof.FfnSum
public import proofs.«01_k».proof.Proof.Gen.Kernel14.Frame
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack

/-! The convolution mixer's output product and bias, per block of 1024 tokens. -/

@[expose] public section

set_option maxRecDepth 16384

noncomputable section

open Idealize.ShloMosaic Idealize.ShloMosaic.TcCoe Idealize.SL.Sem
open Idealize.ShloMosaic.Pipeline (Dat)

namespace Cert.Proof.CvOut

open Cert.Kernel14Ideal Cert.Kernel14Ideal.Gen Cert.Proof.Ffn

/-- One element of the product. -/
def prod (x0 : Vec Ideal S8192x1024 .bf16) (x1 : Vec Ideal S1024x1024 .bf16) (x2 : Vec Ideal S1x1024 .f32) (t : Fin 8192) (l : Fin 1024) : EReal :=
  (∑ n : Fin 1024, (x0 (ix2 t n) : EReal) * x1 (ix2 n l)) + x2 (ix2 0 l)

theorem out_apply (x0 : Vec Ideal S1024x1024 .bf16) (x1 : Vec Ideal S1024x1024 .bf16) (x2 : Vec Ideal S1x1024 .f32) (r : Fin 1024) (l : Fin 1024) :
    out0_3 x0 x1 x2 (ix2 r l) = (∑ n : Fin 1024, (x0 (ix2 r n) : EReal) * x1 (ix2 n l)) + x2 (ix2 0 l) := by
  unfold out0_3
  rw [View.canon_unit_zero (funext fun a => by fin_cases a <;> rfl)]
  pointwise [k0_pay1]

theorem ref_apply (x0 : Vec Ideal S8192x1024 .bf16) (x1 : Vec Ideal S1024x1024 .bf16) (x2 : Vec Ideal S1x1024 .f32) (t : Fin 8192) (l : Fin 1024) :
    Cert.Reference14Ideal.Read.val_main_v4 x0 x1 x2 (ix2 t l) = prod x0 x1 x2 t l := by
  pointwise [Cert.Reference14Ideal.Read.val_main_v0, Cert.Reference14Ideal.Read.val_main_v1, Cert.Reference14Ideal.Read.val_main_v2, Cert.Reference14Ideal.Read.val_main_v3, Cert.Reference14Ideal.Read.val_main_v4]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem row (t : Fin cfg0.N) (y : Fin 1024) : 1024 * t.val + y.val < 8192 := by
  have h := t.isLt
  have hN : cfg0.N = 8 := by decide +kernel
  omega

/-- The kernel's whole result. -/
theorem final (m : (ℓ : Loc nD τ sig) → Buf (Elt Ideal) ℓ) (c : Dev nD) : (dats m 0 c).arrAt 3 cfg0.N = Cert.Reference14Ideal.Read.val_main_v4 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : ((View.whole main_v0).slice (win0_3.rect t)).emb (ix2 y0 y1) = ix2 ⟨1024 * t.val + y0.val, row t y0⟩ y1 := by
    blk_ext [idx3 t]
  rw [e, ref_apply, out_apply]
  unfold prod
  refine congrArg₂ (· + ·) (Finset.sum_congr rfl fun n _ => ?_) ?_
  · congr 1 <;> blk_ext [iblk, V, idx0 t, idx1 t]
  · blk_ext [iblk, V, idx2 t]

/-- The kernel and the reference compute the same result. -/
theorem algebraic : algebraic_Kernel14Ideal_Reference14Ideal := by
  intro m g m' g' _ hargs
  refine ⟨fun c => (dats m 0 c).arrAt 3 cfg0.N, Cert.Kernel14Ideal.Value.run_blocks m g, ?_⟩
  refine (θ_run _ _ _).mono (fun r h c => ?_) (Cert.Reference14Ideal.Value.run (F := Ideal) m' g')
  obtain ⟨h0, h1, h2⟩ := hargs c
  refine ⟨((h c).1.trans ?_), (h c).2⟩
  show _ = (dats m 0 c).arrAt 3 cfg0.N
  rw [final m c, h0, h1, h2]
  exact Cert.Reference14Ideal.Read.val_main_v4_eq _ _ _

end Cert.Proof.CvOut
-- ==== Proof.Dact.lean ====
module

public import proofs.«01_k».proof.Defs
public import proofs.«01_k».proof.Proof.FfnSum
public import proofs.«01_k».proof.Proof.Gen.Pre_finite_parts
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.ReduceAll

/-! The gradients at the feed-forward's two projections: the kernel's products of 704 hidden units per block of 1024 tokens
and its gate gradient in one factor, against the gradient of `silu g * u` through all 2816 units. -/

@[expose] public section

set_option maxRecDepth 16384

noncomputable section

open Idealize.ShloMosaic Idealize.ShloMosaic.TcCoe Idealize.SL.Sem
open Idealize.ShloMosaic.Pipeline (Dat)

namespace Cert.Proof.Dact

open Cert.Kernel2Ideal Cert.Kernel2Ideal.Gen Cert.Proof.Ffn

/-- The gradient that reaches unit `l` of block `p` through the output weights. -/
def da (dy : Vec Ideal S8192x1024 .bf16) (wo : Vec Ideal S4x704x1024 .bf16) (p : Fin 4) (t : Fin 8192) (l : Fin 704) : EReal :=
  ∑ k : Fin 1024, (dy (ix2 t k) : EReal) * wo (ix3 p l k)

/-- A real, among the extended reals. -/
def IsReal (x : EReal) : Prop := ∃ r : ℝ, x = r

/-- The gate's gradient, of a gradient `x` behind the gate: the two forms agree where `x` is finite. -/
theorem gate_eq (x : ℝ) (g : EReal) :
    (x : EReal) * (Ideal.logistic g * (1 + g * (1 - Ideal.logistic g)))
      = x * Ideal.logistic g + g * x * (Ideal.logistic g * (1 - Ideal.logistic g)) := by
  induction g with
  | bot => simp
  | top =>
    have h : (1 : EReal) - 1 = 0 := by rw [← EReal.coe_one, ← EReal.coe_sub, sub_self, EReal.coe_zero]
    simp [h]
  | coe g =>
    obtain ⟨s, hs⟩ : ∃ s : ℝ, Ideal.logistic (g : EReal) = s := ⟨_, Ideal.logistic_coe g⟩
    rw [hs]
    norm_cast
    ring

theorem ref_gate (dy : Vec Ideal S8192x1024 .bf16) (wo : Vec Ideal S4x704x1024 .bf16) (hg hu : Vec Ideal S4x8192x704 .bf16) (p : Fin 4) (t : Fin 8192) (l : Fin 704) :
    Cert.Reference2Ideal.Read.val_main_v18 dy wo hg hu (ix3 p t l)
      = da dy wo p t l * hu (ix3 p t l) * Ideal.logistic (hg (ix3 p t l))
        + hg (ix3 p t l) * (da dy wo p t l * hu (ix3 p t l)) * (Ideal.logistic (hg (ix3 p t l)) * (1 - Ideal.logistic (hg (ix3 p t l)))) := by
  pointwise [Cert.Reference2Ideal.Read.val_main_v18, Cert.Reference2Ideal.Read.val_main_v17, Cert.Reference2Ideal.Read.val_main_v16, Cert.Reference2Ideal.Read.val_main_v15, Cert.Reference2Ideal.Read.val_main_v14, Cert.Reference2Ideal.Read.val_main_call1_v0, Cert.Reference2Ideal.Read.val_main_call1_v1, Cert.Reference2Ideal.Read.val_main_call1_v2, Cert.Reference2Ideal.Read.val_main_v12, Cert.Reference2Ideal.Read.val_main_v11, Cert.Reference2Ideal.Read.val_main_v8_2, Cert.Reference2Ideal.Read.val_main_v8_1, Cert.Reference2Ideal.Read.val_main_v8_0, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_call0_v0, Cert.Reference2Ideal.Read.val_main_call0_v1, Cert.Reference2Ideal.Read.val_main_call0_cst, Cert.Reference2Ideal.Read.val_main_call0_v2, Cert.Reference2Ideal.Read.val_main_call0_v3, Cert.Reference2Ideal.Read.val_main_call0_cst_0, Cert.Reference2Ideal.Read.val_main_call0_v4, Cert.Reference2Ideal.Read.val_main_call0_cst_1, Cert.Reference2Ideal.Read.val_main_call0_v6, Cert.Reference2Ideal.Read.val_main_call0_v7]
  rfl

theorem ref_up (dy : Vec Ideal S8192x1024 .bf16) (wo : Vec Ideal S4x704x1024 .bf16) (hg : Vec Ideal S4x8192x704 .bf16) (p : Fin 4) (t : Fin 8192) (l : Fin 704) :
    Cert.Reference2Ideal.Read.val_main_v21 dy wo hg (ix3 p t l) = hg (ix3 p t l) * Ideal.logistic (hg (ix3 p t l)) * da dy wo p t l := by
  pointwise [Cert.Reference2Ideal.Read.val_main_v21, Cert.Reference2Ideal.Read.val_main_v20, Cert.Reference2Ideal.Read.val_main_v19, Cert.Reference2Ideal.Read.val_main_v13, Cert.Reference2Ideal.Read.val_main_v12, Cert.Reference2Ideal.Read.val_main_v11, Cert.Reference2Ideal.Read.val_main_v8_2, Cert.Reference2Ideal.Read.val_main_v8_1, Cert.Reference2Ideal.Read.val_main_v8_0, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_call0_v0, Cert.Reference2Ideal.Read.val_main_call0_v1, Cert.Reference2Ideal.Read.val_main_call0_cst, Cert.Reference2Ideal.Read.val_main_call0_v2, Cert.Reference2Ideal.Read.val_main_call0_v3, Cert.Reference2Ideal.Read.val_main_call0_cst_0, Cert.Reference2Ideal.Read.val_main_call0_v4, Cert.Reference2Ideal.Read.val_main_call0_cst_1, Cert.Reference2Ideal.Read.val_main_call0_v6, Cert.Reference2Ideal.Read.val_main_call0_v7]
  rfl

theorem out_gate (x0 : Vec Ideal S1024x1024 .bf16) (x1 : Vec Ideal S1x704x1024 .bf16) (x2 x3 : Vec Ideal S1x1024x704 .bf16) (r : Fin 1024) (l : Fin 704) :
    out0_4 x0 x1 x2 x3 (ix3 0 r l)
      = (∑ k : Fin 1024, (x0 (ix2 r k) : EReal) * x1 (ix3 0 l k)) * x3 (ix3 0 r l)
        * (Ideal.logistic (x2 (ix3 0 r l)) * (1 + x2 (ix3 0 r l) * (1 - Ideal.logistic (x2 (ix3 0 r l))))) := by
  unfold out0_4
  rw [View.canon_unit_zero (funext fun a => by fin_cases a <;> rfl)]
  pointwise [k0_pay1, k0_pay2, k0_pay3, k0_pay4]

theorem out_up (x0 : Vec Ideal S1024x1024 .bf16) (x1 : Vec Ideal S1x704x1024 .bf16) (x2 x3 : Vec Ideal S1x1024x704 .bf16) (r : Fin 1024) (l : Fin 704) :
    out0_5 x0 x1 x2 x3 (ix3 0 r l) = x2 (ix3 0 r l) * Ideal.logistic (x2 (ix3 0 r l)) * ∑ k : Fin 1024, (x0 (ix2 r k) : EReal) * x1 (ix3 0 l k) := by
  unfold out0_5
  rw [View.canon_unit_zero (funext fun a => by fin_cases a <;> rfl)]
  pointwise [k0_pay1, k0_pay2, k0_pay3, k0_pay5]
  rw [mul_comm]

/-- An extended real below infinity in absolute value is a real. -/
theorem real_of_abs (x : EReal) (h : Ideal.cmp .olt (max x (-x)) ⊤ = 1#1) : IsReal x := by
  have h' : max x (-x) < ⊤ := by
    by_contra hn
    simp [Ideal.cmp, hn] at h
  induction x with
  | bot => simp at h'
  | top => simp at h'
  | coe r => exact ⟨r, rfl⟩

instance : Subsingleton Cert.Pre_finite_parts.S_.Idx := ⟨fun a b => funext fun i => i.elim0⟩

theorem inf_word : Ideal.ofBits .f32 0x7F800000#32 = ⊤ := by
  decide

theorem and_one {a b : BitVec 1} (h : IntOp.andi a b = 1#1) : a = 1#1 ∧ b = 1#1 := by
  revert a b
  decide

theorem pre_real {dy : Vec Ideal S8192x1024 .bf16} {wo : Vec Ideal S4x704x1024 .bf16} {hg hu : Vec Ideal S4x8192x704 .bf16}
    (h : Cert.Pre_finite_parts.fn (F := Ideal) dy wo hg hu = fun _ => 1#1) :
    (∀ i, IsReal (dy i)) ∧ (∀ i, IsReal (wo i)) ∧ ∀ i, IsReal (hu i) := by
  have h0 := congrFun h (fun i => i.elim0)
  dsimp only [Cert.Pre_finite_parts.fn] at h0
  obtain ⟨h1, h4⟩ := and_one h0
  obtain ⟨h2, h3⟩ := and_one h1
  refine ⟨fun i => real_of_abs _ ?_, fun i => real_of_abs _ ?_, fun i => real_of_abs _ ?_⟩
  · exact inf_word ▸ Host.reduce_andi_all _ _ _ _ _ h2 i
  · exact inf_word ▸ Host.reduce_andi_all _ _ _ _ _ h3 i
  · exact inf_word ▸ Host.reduce_andi_all _ _ _ _ _ h4 i

theorem coe_sum {ι : Type} [Fintype ι] (f : ι → ℝ) : ((∑ k, f k : ℝ) : EReal) = ∑ k, (f k : EReal) :=
  map_sum (⟨⟨fun r : ℝ => (r : EReal), EReal.coe_zero⟩, EReal.coe_add⟩ : ℝ →+ EReal) f Finset.univ

theorem da_real {dy : Vec Ideal S8192x1024 .bf16} {wo : Vec Ideal S4x704x1024 .bf16} (h0 : ∀ i, IsReal (dy i)) (h1 : ∀ i, IsReal (wo i))
    (p : Fin 4) (t : Fin 8192) (l : Fin 704) : IsReal (da dy wo p t l) := by
  choose a ha using h0
  choose b hb using h1
  refine ⟨∑ k : Fin 1024, a (ix2 t k) * b (ix3 p l k), ?_⟩
  unfold da
  rw [coe_sum]
  exact Finset.sum_congr rfl fun k _ => by rw [ha, hb, EReal.coe_mul]

theorem idx0 : ∀ t : Fin cfg0.N, win0_0.index t = ![t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)

theorem block (t : Fin cfg0.N) : t.val / 8 < 4 := by
  have h := t.isLt
  have hN : cfg0.N = 32 := by decide +kernel
  omega

variable (m : (ℓ : Loc nD τ sig) → Buf (Elt Ideal) ℓ) (c : Dev nD)

/-- The kernel's gradient at the gate. -/
theorem final_gate (h0 : ∀ i, IsReal ((m ((c.tc : Thread nD τ).loc main_arg0)) i)) (h1 : ∀ i, IsReal ((m ((c.tc : Thread nD τ).loc main_arg1)) i)) (h3 : ∀ i, IsReal ((m ((c.tc : Thread nD τ).loc main_arg3)) i)) :
    (dats m 0 c).arrAt 4 cfg0.N = Cert.Reference2Ideal.Read.val_main_v18 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  have e : ((View.whole main_v0_0).slice (win0_4.rect t)).emb (ix3 y0 y1 y2) = ix3 ⟨t.val / 8, block t⟩ ⟨1024 * (t.val % 8) + y1.val, by omega⟩ y2 := by
    blk_ext [idx4 t]
  obtain rfl : y0 = 0 := Subsingleton.elim _ _
  rw [e, ref_gate, out_gate]
  obtain ⟨d, hd⟩ := da_real h0 h1 ⟨t.val / 8, block t⟩ ⟨1024 * (t.val % 8) + y1.val, by omega⟩ y2
  obtain ⟨u, hu⟩ := h3 (ix3 ⟨t.val / 8, block t⟩ ⟨1024 * (t.val % 8) + y1.val, by omega⟩ y2)
  rw [hd, hu, ← EReal.coe_mul, ← gate_eq, EReal.coe_mul, ← hd, ← hu]
  unfold da
  refine congrArg₂ (· * ·) (congrArg₂ (· * ·) (Finset.sum_congr rfl fun k _ => ?_) ?_) ?_
  · congr 1 <;> blk_ext [iblk, V, idx0 t, idx1 t]
  · blk_ext [iblk, V, idx3 t]
  · have hg : iblk m c 2 t (ix3 0 y1 y2) = (m ((c.tc : Thread nD τ).loc main_arg2)) (ix3 ⟨t.val / 8, block t⟩ ⟨1024 * (t.val % 8) + y1.val, by omega⟩ y2) := by
      blk_ext [iblk, V, idx2 t]
    rw [hg]

/-- The kernel's gradient at the other projection. -/
theorem final_up : (dats m 0 c).arrAt 5 cfg0.N = Cert.Reference2Ideal.Read.val_main_v21 (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  idx_vars y
  have e : ((View.whole main_v0_1).slice (win0_5.rect t)).emb (ix3 y0 y1 y2) = ix3 ⟨t.val / 8, block t⟩ ⟨1024 * (t.val % 8) + y1.val, by omega⟩ y2 := by
    blk_ext [idx5 t]
  obtain rfl : y0 = 0 := Subsingleton.elim _ _
  rw [e, ref_up, out_up]
  unfold da
  have hg : iblk m c 2 t (ix3 0 y1 y2) = (m ((c.tc : Thread nD τ).loc main_arg2)) (ix3 ⟨t.val / 8, block t⟩ ⟨1024 * (t.val % 8) + y1.val, by omega⟩ y2) := by
    blk_ext [iblk, V, idx2 t]
  rw [hg]
  refine congrArg₂ (· * ·) rfl (Finset.sum_congr rfl fun k _ => ?_)
  congr 1 <;> blk_ext [iblk, V, idx0 t, idx1 t]

/-- The kernel and the reference compute the same gradients. -/
theorem algebraic : algebraic_Kernel2Ideal_Reference2Ideal_pre_finite_parts := by
  intro m g m' g' hpre hargs
  refine ⟨fun c => (dats m 0 c).arrAt 4 cfg0.N, fun c => (dats m 0 c).arrAt 5 cfg0.N, Cert.Kernel2Ideal.Value.run_blocks m g, ?_⟩
  refine (θ_run _ _ _).mono (fun r h c => ?_) (Cert.Reference2Ideal.Value.run (F := Ideal) m' g')
  obtain ⟨h0, h1, h2, h3⟩ := hargs c
  obtain ⟨f0, f1, f3⟩ := pre_real (hpre c)
  refine ⟨((h c).1.trans ?_), ((h c).2.1.trans ?_), (h c).2.2⟩
  · show _ = (dats m 0 c).arrAt 4 cfg0.N
    rw [final_gate m c f0 f1 f3, h0, h1, h2, h3]
    exact Cert.Reference2Ideal.Read.val_main_v18_eq _ _ _ _
  · show _ = (dats m 0 c).arrAt 5 cfg0.N
    rw [final_up m c, h0, h1, h2]
    exact Cert.Reference2Ideal.Read.val_main_v21_eq _ _ _

end Cert.Proof.Dact
-- ==== Proof.Dh.lean ====
module

public import proofs.«01_k».proof.Defs
public import proofs.«01_k».proof.Proof.FfnSum
public import proofs.«01_k».proof.Proof.Gen.Kernel3Ideal.Value
public import proofs.«01_k».proof.Proof.Gen.Reference3Ideal.Read
public import Idealize.ShloMosaic.Lib.Pipeline.ValueKit

/-! The gradient the feed-forward layer sends to its input: the kernel's eight products per block of 512 tokens against
the reference's one product over the 5632 columns of the two projections. -/

@[expose] public section

set_option maxRecDepth 16384

noncomputable section

open Idealize.ShloMosaic Idealize.ShloMosaic.TcCoe Idealize.SL.Sem
open Idealize.ShloMosaic.Pipeline (Dat)

namespace Cert.Proof.Dh

open Cert.Kernel3Ideal Cert.Kernel3Ideal.Gen Cert.Proof.Ffn

/-- The weight block of the first half that block `p` of columns meets. -/
def lo (p : Fin 4) : Fin 8 := ⟨p.val, by omega⟩

/-- The weight block of the second half that block `p` of columns meets. -/
def hi (p : Fin 4) : Fin 8 := ⟨4 + p.val, by omega⟩

/-- One element of the gradient, block of columns by block of columns. -/
def dh (x0 x1 : Vec Ideal S4x8192x704 .bf16) (x2 : Vec Ideal S1x8x1024x704 .bf16) (r : Fin 8192) (l : Fin 1024) : EReal :=
  (∑ p : Fin 4, ∑ n : Fin 704, (x0 (ix3 p r n) : EReal) * x2 (ix4 0 (lo p) l n))
    + ∑ p : Fin 4, ∑ n : Fin 704, (x1 (ix3 p r n) : EReal) * x2 (ix4 0 (hi p) l n)

theorem interleave (a b c d e f g h : EReal) : a + e + b + f + c + g + d + h = (a + b + c + d) + (e + f + g + h) := by
  ac_rfl

/-- What the kernel's body leaves at one element of its block. -/
theorem out_apply (x0 x1 : Vec Ideal S4x512x704 .bf16) (x2 : Vec Ideal S1x8x1024x704 .bf16) (r : Fin 512) (l : Fin 1024) :
    out0_3 x0 x1 x2 (ix2 r l)
      = (∑ p : Fin 4, ∑ n : Fin 704, (x0 (ix3 p r n) : EReal) * x2 (ix4 0 (lo p) l n))
        + ∑ p : Fin 4, ∑ n : Fin 704, (x1 (ix3 p r n) : EReal) * x2 (ix4 0 (hi p) l n) := by
  unfold out0_3
  rw [View.canon_unit_zero (funext fun a => by fin_cases a <;> rfl)]
  pointwise [k0_pay1, k0_pay2]
  rw [Fin.sum_univ_four, Fin.sum_univ_four]
  exact interleave _ _ _ _ _ _ _ _

/-- The reference's product at one element. -/
theorem ref_apply (x0 x1 : Vec Ideal S4x8192x704 .bf16) (x2 : Vec Ideal S1x8x1024x704 .bf16) (r : Fin 8192) (l : Fin 1024) :
    Cert.Reference3Ideal.Read.val_main_v12 x0 x1 x2 (ix2 r l) = dh x0 x1 x2 r l := by
  pointwise [Cert.Reference3Ideal.Read.val_main_v12, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0]
  unfold dh
  rw [sum_blocks, sum_blocks]
  refine congrArg₂ (· + ·) ?_ ?_ <;>
  · refine Finset.sum_congr rfl fun p _ => Finset.sum_congr rfl fun n _ => ?_
    refine congrArg₂ (· * ·) (congrArg _ ?_) (congrArg _ ?_) <;>
    · funext a
      apply Fin.ext
      fin_cases a <;> first | rfl | (simp [lo, hi] <;> omega)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![t.val, 0] := (by decide +kernel : ∀ t : Fin grid0.N, _)

theorem row (t : Fin cfg0.N) (y : Fin 512) : 512 * t.val + y.val < 8192 := by
  have h := t.isLt
  have hN : cfg0.N = 16 := by decide +kernel
  omega

/-- The kernel's whole result. -/
theorem final (m : (ℓ : Loc nD τ sig) → Buf (Elt Ideal) ℓ) (c : Dev nD) :
    (dats m 0 c).arrAt 3 cfg0.N
      = Cert.Reference3Ideal.Read.val_main_v12 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : ((View.whole main_v0).slice (win0_3.rect t)).emb (ix2 y0 y1) = ix2 ⟨512 * t.val + y0.val, row t y0⟩ y1 := by
    blk_ext [idx3 t]
  rw [e, ref_apply, out_apply]
  unfold dh
  refine congrArg₂ (· + ·) ?_ ?_ <;>
  · refine Finset.sum_congr rfl fun p _ => Finset.sum_congr rfl fun n _ => ?_
    congr 1 <;> blk_ext [iblk, V, idx0 t, idx1 t, idx2 t]

/-- The kernel and the reference compute the same gradient. -/
theorem algebraic : algebraic_Kernel3Ideal_Reference3Ideal := by
  intro m g m' g' _ hargs
  refine ⟨fun c => (dats m 0 c).arrAt 3 cfg0.N, Cert.Kernel3Ideal.Value.run_blocks m g, ?_⟩
  refine (θ_run _ _ _).mono (fun r h c => ?_) (Cert.Reference3Ideal.Value.run (F := Ideal) m' g')
  obtain ⟨h0, h1, h2⟩ := hargs c
  refine ⟨((h c).1.trans ?_), (h c).2⟩
  show _ = (dats m 0 c).arrAt 3 cfg0.N
  rw [final m c, h0, h1, h2]
  exact Cert.Reference3Ideal.Read.val_main_v12_eq _ _ _

end Cert.Proof.Dh
-- ==== Proof.DwGate.lean ====
module

public import proofs.«01_k».proof.Defs
public import proofs.«01_k».proof.Proof.FfnSum
public import proofs.«01_k».proof.Proof.Gen.On_gate_blocks
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.DwGate

open Cert.Kernel6Ideal Cert.Kernel6Ideal.Gen Cert.Proof.Ffn

variable (m : (ℓ : Loc nD τ sig) → Buf (Elt Ideal) ℓ) (c : Dev nD)

/-- The product of one block of tokens. -/
def part (x0 : Vec Ideal S4x1024x704 .bf16) (x1 : Vec Ideal S1024x1024 .bf16) (j : S4x1024x704.Idx) : EReal :=
  ∑ k : Fin 1024, (x1 (ix2 k (j 1)) : EReal) * x0 (ix3 (j 0) k (j 2))

/-- The four stores of one grid point into the accumulator. -/
def pieces (x0 : Vec Ideal S4x1024x704 .bf16) (x1 : Vec Ideal S1024x1024 .bf16) (xs : Vec Ideal S4x1024x704 .f32) : List (View.Piece (Elt Ideal) S4x1024x704 .f32) :=
  [⟨Rect.unit ![3, 0, 0] ![1, 1024, 704] inb_S4x1024x704_S1x1024x704_3_0_0,
      k0_pay3 (k0_pay7 x1 (View.ld x0 (Rect.unit ![3, 0, 0] ![1, 1024, 704] inb_S4x1024x704_S1x1024x704_3_0_0)))
        (View.ld xs (Rect.unit ![3, 0, 0] ![1, 1024, 704] inb_S4x1024x704_S1x1024x704_3_0_0))⟩,
    ⟨Rect.unit ![2, 0, 0] ![1, 1024, 704] inb_S4x1024x704_S1x1024x704_2_0_0,
      k0_pay2 (k0_pay6 x1 (View.ld x0 (Rect.unit ![2, 0, 0] ![1, 1024, 704] inb_S4x1024x704_S1x1024x704_2_0_0)))
        (View.ld xs (Rect.unit ![2, 0, 0] ![1, 1024, 704] inb_S4x1024x704_S1x1024x704_2_0_0))⟩,
    ⟨Rect.unit ![1, 0, 0] ![1, 1024, 704] inb_S4x1024x704_S1x1024x704_1_0_0,
      k0_pay1 (k0_pay9 x1 (View.ld x0 (Rect.unit ![1, 0, 0] ![1, 1024, 704] inb_S4x1024x704_S1x1024x704_1_0_0))
        (View.ld xs (Rect.unit ![1, 0, 0] ![1, 1024, 704] inb_S4x1024x704_S1x1024x704_1_0_0)))⟩,
    ⟨Rect.unit ![0, 0, 0] ![1, 1024, 704] inb_S4x1024x704_S1x1024x704_0_0_0,
      k0_pay8 x1 (View.ld x0 (Rect.unit ![0, 0, 0] ![1, 1024, 704] inb_S4x1024x704_S1x1024x704_0_0_0))
        (View.ld xs (Rect.unit ![0, 0, 0] ![1, 1024, 704] inb_S4x1024x704_S1x1024x704_0_0_0))⟩]

/-- The accumulator after one grid point, from what the point before left. -/
def acc (x0 : Vec Ideal S4x1024x704 .bf16) (x1 : Vec Ideal S1024x1024 .bf16) (xs : Vec Ideal S4x1024x704 .f32) : Vec Ideal S4x1024x704 .f32 :=
  View.canon (pieces x0 x1 xs)

/-- The accumulator after one grid point, at an index: what it held plus the block's product. -/
theorem out_apply (a : Vec Ideal S4x1024x704 .bf16) (b : Vec Ideal S1024x1024 .bf16) (xs : Vec Ideal S4x1024x704 .f32) (j : S4x1024x704.Idx) :
    acc a b xs j = xs j + part a b j := by
  unfold acc
  unfold pieces
  canon_tiles x h
  all_goals
    idx_vars x
    pointwise [k0_pay1, k0_pay2, k0_pay3, k0_pay6, k0_pay7, k0_pay8, k0_pay9, part]
    refine congrArg₂ (· + ·) (congrArg xs ?_) (Finset.sum_congr rfl fun k _ => congrArg₂ (· * ·) (congrArg b ?_) (congrArg a ?_)) <;> blk_ext

theorem pieces_cover (a : Vec Ideal S4x1024x704 .bf16) (b : Vec Ideal S1024x1024 .bf16) (xs : Vec Ideal S4x1024x704 .f32) (j : S4x1024x704.Idx) :
    ∃ p ∈ pieces a b xs, j ∈ p.1.set :=
  View.cover_of_tiledL (pieces a b xs) ![1, 1024, 704] (by sl_kernel_rfl) j

/-- What a grid point after the first leaves in the accumulator. -/
theorem step_later (t : Fin cfg0.N) (h0 : ¬t.val % 8 = 0) (j : S4x1024x704.Idx) :
    (outsAt0 m c t.val t.isLt).2 j
      = (outsAt0 m c (t.val - 1) (Nat.lt_of_le_of_lt (Nat.sub_le _ _) t.isLt)).2 j + part (iblk m c 1 t) (iblk m c 0 t) j := by
  by_cases h1 : t.val % 8 = 7
  · rw [outsAt0_C m c t h0 h1]
    frame_out
    rw [read_unread_whole]
    exact out_apply _ _ _ j
  · rw [outsAt0_B m c t h0 h1]
    frame_out
    rw [read_unread_whole]
    exact out_apply _ _ _ j

/-- What the first grid point leaves in the accumulator. -/
theorem step_first (t : Fin cfg0.N) (h0 : t.val % 8 = 0) (j : S4x1024x704.Idx) :
    (outsAt0 m c t.val t.isLt).2 j = 0 + part (iblk m c 1 t) (iblk m c 0 t) j := by
  rw [outsAt0_A m c t h0 (by omega)]
  frame_open
  simp (disch := decide) only [↓ View.readCov_skip, ↓ View.readCov_cons_toLoadRect, ↓ View.readCov_fill]
  frame_out
  have key := (canon_append_of_cover [⟨Rect.unit ![0, 0, 0] ![4, 1024, 704] inb_S4x1024x704_S4x1024x704_0_0_0, k0_pay5 (F := Ideal)⟩] j
    (pieces (iblk m c 1 t) (iblk m c 0 t) (k0_pay5 (F := Ideal))) (pieces_cover _ _ _ j)).trans (out_apply _ _ _ j)
  rw [show (k0_pay5 (F := Ideal)) j = 0 from by idx_vars j; pointwise [k0_pay5]] at key
  unfold pieces at key
  simp only [List.cons_append, List.nil_append] at key
  exact key

/-- What the last grid point writes back is the accumulator. -/
theorem out_last (t : Fin cfg0.N) (h1 : t.val % 8 = 7) : (outsAt0 m c t.val t.isLt).1 = (outsAt0 m c t.val t.isLt).2 := by
  rw [outsAt0_C m c t (by omega) h1]
  frame_out
  rw [View.readCov_eq_canon']
  funext j
  idx_vars j
  pointwise [k0_pay4]

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0, 0] := (by decide +kernel : ∀ t : Fin grid0.N, _)

/-- The reference's gradient at one element, block of tokens by block of tokens. -/
theorem ref_apply (b : Vec Ideal S8192x1024 .bf16) (a : Vec Ideal S4x8192x704 .bf16) (p : Fin 4) (r : Fin 1024) (l : Fin 704) :
    Cert.Reference6Ideal.Read.val_main_v10 b a (ix3 p r l)
      = ∑ s : Fin 8, ∑ n : Fin 1024, (b (ix2 ⟨1024 * s.val + n.val, by omega⟩ r) : EReal) * a (ix3 p ⟨1024 * s.val + n.val, by omega⟩ l) := by
  pointwise [Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v3, Cert.Reference6Ideal.Read.val_main_v2, Cert.Reference6Ideal.Read.val_main_v1, Cert.Reference6Ideal.Read.val_main_v0]
  rw [sum_tokens]
  refine Finset.sum_congr rfl fun s _ => Finset.sum_congr rfl fun n _ => ?_
  rw [mul_comm]

def tLast : Fin cfg0.N := ⟨7, lt_of_lt_of_eq (by decide) N_0.symm⟩

/-- The accumulator after the last grid point: every block's product. -/
theorem acc_last (j : S4x1024x704.Idx) :
    (outsAt0 m c tLast.val tLast.isLt).2 j
      = ∑ s : Fin 8, part (iblk m c 1 (s.cast N_0.symm)) (iblk m c 0 (s.cast N_0.symm)) j := by
  have h := Pipeline.eq_sum_fin_of_reset_step_apply_last (fun n h => ((outsAt0 m c n h).2 : S4x1024x704.Idx → EReal)) 8 (fun _ => (0 : EReal))
    (fun t j => part (iblk m c 1 t) (iblk m c 0 t) j)
    (fun t h j => step_first m c t h j) (fun t h j => step_later m c t h j) (le_of_eq N_0) tLast N_0.symm j
  rw [zero_add] at h
  exact h.trans (Fintype.sum_equiv (finCongr N_0.symm) _ _ fun s => rfl).symm

/-- The reference's first four blocks are its gradient. -/
theorem ref_lo (b : Vec Ideal S8192x1024 .bf16) (a : Vec Ideal S4x8192x704 .bf16) (p : Fin 4) (r : Fin 1024) (l : Fin 704) :
    Cert.Reference6Ideal.Read.val_main_v12 b a (ix3 ⟨p.val, by omega⟩ r l) = Cert.Reference6Ideal.Read.val_main_v10 b a (ix3 p r l) := by
  unfold Cert.Reference6Ideal.Read.val_main_v12
  generalize Cert.Reference6Ideal.Read.val_main_v10 b a = g
  pointwise [Cert.Reference6Ideal.Read.val_main_v11]

/-- The kernel's result on the blocks it writes. -/
theorem final (i : S8x1024x704.Idx) (hi : (i 0).val < 4) : (dats m 0 c).arrAt 2 cfg0.N i
    = Cert.Reference6Ideal.Read.val_main_v12 (m ((c.tc : Thread nD τ).loc main_arg0)) (m ((c.tc : Thread nD τ).loc main_arg1)) i := by
  have key := (dats m 0 c).arrAt_eq_of_coversWhere 2 (Cert.Reference6Ideal.Read.val_main_v12 (m ((c.tc : Thread nD τ).loc main_arg0)) (m ((c.tc : Thread nD τ).loc main_arg1))) (P := fun i : S8x1024x704.Idx => (i 0).val / 4 = 0)
    (fun β => β (0 : Fin 3) = 0) (by decide +kernel) (fun t hf y => ?_) (fun j => Iff.rfl)
  · rw [key]
    exact if_pos (by omega)
  · have ht : t = tLast := (by decide +kernel : ∀ t : Fin grid0.N, win0_2.flush t = true → t = tLast) t hf
    subst ht
    blk_simp
    rw [after0_2, out_last m c tLast (by decide)]
    idx_vars y
    have e : ((View.whole main_v0).slice (win0_2.rect tLast)).emb (ix3 y0 y1 y2) = ix3 ⟨y0.val, by omega⟩ y1 y2 := by
      blk_ext [idx2]
    rw [e, ref_lo, ref_apply]
    refine (acc_last m c (ix3 y0 y1 y2)).trans ?_
    unfold part
    refine Finset.sum_congr rfl fun s _ => Finset.sum_congr rfl fun n _ => ?_
    congr 1 <;> blk_ext [iblk, V, idx0, idx1, Fin.val_cast]

/-- Where the mask is set the block is one of the first four. -/
theorem mask_lt [Cert.On_gate_blocks.Facts] (b : Vec Ideal S8192x1024 .bf16) (a : Vec Ideal S4x8192x704 .bf16) (i : S8x1024x704.Idx)
    (h : Cert.On_gate_blocks.fn (F := Ideal) b a i = 1#1) : (i 0).val < 4 := by
  idx_vars i
  revert h
  pointwise [Cert.On_gate_blocks.fn]
  revert i0
  exact (by decide +kernel : ∀ i0 : Fin 8, IntOp.cmpi CmpIPredicate.slt (BitVec.ofNat 32 i0.val) 4#32 = 1#1 → i0.val < 4)

/-- Where the mask is set the kernel and the reference compute the same gradient. -/
theorem algebraic : algebraic_Kernel6Ideal_Reference6Ideal_on_gate_blocks := by
  intro m g m' g' _ hargs
  refine ⟨fun c => (dats m 0 c).arrAt 2 cfg0.N, ?_, ?_⟩
  · refine (θ_run _ _ _).mono (fun r h c => ?_) (Cert.Kernel6Ideal.Value.run_blocks m g)
    exact ⟨fun i _ => congrFun (h c).1 i, (h c).2⟩
  · refine (θ_run _ _ _).mono (fun r h c => ?_) (Cert.Reference6Ideal.Value.run (F := Ideal) m' g')
    obtain ⟨h0, h1⟩ := hargs c
    refine ⟨fun i hi => (congrFun (h c).1 i).trans ?_, (h c).2⟩
    show _ = (dats m 0 c).arrAt 2 cfg0.N i
    rw [final m c i (mask_lt _ _ i hi), h0, h1]
    exact congrFun (Cert.Reference6Ideal.Read.val_main_v12_eq _ _) i

end Cert.Proof.DwGate
-- ==== Proof.DwOut.lean ====
module

public import proofs.«01_k».proof.Defs
public import proofs.«01_k».proof.Proof.FfnSum
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.DwOut

open Cert.Kernel4Ideal Cert.Kernel4Ideal.Gen Cert.Proof.Ffn

variable (m : (ℓ : Loc nD τ sig) → Buf (Elt Ideal) ℓ) (c : Dev nD)

/-- The product of one block of tokens. -/
def part (x0 : Vec Ideal S4x1024x704 .bf16) (x1 : Vec Ideal S1024x1024 .bf16) (j : S4x704x1024.Idx) : EReal :=
  ∑ k : Fin 1024, (x0 (ix3 (j 0) k (j 1)) : EReal) * x1 (ix2 k (j 2))

/-- The four stores of one grid point into the accumulator. -/
def pieces (x0 : Vec Ideal S4x1024x704 .bf16) (x1 : Vec Ideal S1024x1024 .bf16) (xs : Vec Ideal S4x704x1024 .f32) : List (View.Piece (Elt Ideal) S4x704x1024 .f32) :=
  [⟨Rect.unit ![3, 0, 0] ![1, 704, 1024] inb_S4x704x1024_S1x704x1024_3_0_0,
      k0_pay3 (k0_pay7 x1 (View.ld x0 (Rect.unit ![3, 0, 0] ![1, 1024, 704] inb_S4x1024x704_S1x1024x704_3_0_0)))
        (View.ld xs (Rect.unit ![3, 0, 0] ![1, 704, 1024] inb_S4x704x1024_S1x704x1024_3_0_0))⟩,
    ⟨Rect.unit ![2, 0, 0] ![1, 704, 1024] inb_S4x704x1024_S1x704x1024_2_0_0,
      k0_pay2 (k0_pay6 x1 (View.ld x0 (Rect.unit ![2, 0, 0] ![1, 1024, 704] inb_S4x1024x704_S1x1024x704_2_0_0)))
        (View.ld xs (Rect.unit ![2, 0, 0] ![1, 704, 1024] inb_S4x704x1024_S1x704x1024_2_0_0))⟩,
    ⟨Rect.unit ![1, 0, 0] ![1, 704, 1024] inb_S4x704x1024_S1x704x1024_1_0_0,
      k0_pay1 (k0_pay9 x1 (View.ld x0 (Rect.unit ![1, 0, 0] ![1, 1024, 704] inb_S4x1024x704_S1x1024x704_1_0_0))
        (View.ld xs (Rect.unit ![1, 0, 0] ![1, 704, 1024] inb_S4x704x1024_S1x704x1024_1_0_0)))⟩,
    ⟨Rect.unit ![0, 0, 0] ![1, 704, 1024] inb_S4x704x1024_S1x704x1024_0_0_0,
      k0_pay8 x1 (View.ld x0 (Rect.unit ![0, 0, 0] ![1, 1024, 704] inb_S4x1024x704_S1x1024x704_0_0_0))
        (View.ld xs (Rect.unit ![0, 0, 0] ![1, 704, 1024] inb_S4x704x1024_S1x704x1024_0_0_0))⟩]

/-- The accumulator after one grid point, from what the point before left. -/
def acc (x0 : Vec Ideal S4x1024x704 .bf16) (x1 : Vec Ideal S1024x1024 .bf16) (xs : Vec Ideal S4x704x1024 .f32) : Vec Ideal S4x704x1024 .f32 :=
  View.canon (pieces x0 x1 xs)

/-- The accumulator after one grid point, at an index: what it held plus the block's product. -/
theorem out_apply (a : Vec Ideal S4x1024x704 .bf16) (b : Vec Ideal S1024x1024 .bf16) (xs : Vec Ideal S4x704x1024 .f32) (j : S4x704x1024.Idx) :
    acc a b xs j = xs j + part a b j := by
  unfold acc
  unfold pieces
  canon_tiles x h
  all_goals
    idx_vars x
    pointwise [k0_pay1, k0_pay2, k0_pay3, k0_pay6, k0_pay7, k0_pay8, k0_pay9, part]
    refine congrArg₂ (· + ·) (congrArg xs ?_) (Finset.sum_congr rfl fun k _ => congrArg₂ (· * ·) (congrArg a ?_) (congrArg b ?_)) <;> blk_ext

theorem pieces_cover (a : Vec Ideal S4x1024x704 .bf16) (b : Vec Ideal S1024x1024 .bf16) (xs : Vec Ideal S4x704x1024 .f32) (j : S4x704x1024.Idx) :
    ∃ p ∈ pieces a b xs, j ∈ p.1.set :=
  View.cover_of_tiledL (pieces a b xs) ![1, 704, 1024] (by sl_kernel_rfl) j

/-- What a grid point after the first leaves in the accumulator. -/
theorem step_later (t : Fin cfg0.N) (h0 : ¬t.val % 8 = 0) (j : S4x704x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 h1]
    frame_out
    rw [read_unread_whole]
    exact out_apply _ _ _ j
  · rw [outsAt0_B m c t h0 h1]
    frame_out
    rw [read_unread_whole]
    exact out_apply _ _ _ j

/-- What the first grid point leaves in the accumulator. -/
theorem step_first (t : Fin cfg0.N) (h0 : t.val % 8 = 0) (j : S4x704x1024.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  have key := (canon_append_of_cover [⟨Rect.unit ![0, 0, 0] ![4, 704, 1024] inb_S4x704x1024_S4x704x1024_0_0_0, k0_pay5 (F := Ideal)⟩] j
    (pieces (iblk m c 0 t) (iblk m c 1 t) (k0_pay5 (F := Ideal))) (pieces_cover _ _ _ j)).trans (out_apply _ _ _ j)
  rw [show (k0_pay5 (F := Ideal)) j = 0 from by idx_vars j; pointwise [k0_pay5]] at key
  unfold pieces at key
  simp only [List.cons_append, List.nil_append] at key
  exact key

/-- What the last grid point writes back is the accumulator. -/
theorem out_last (t : Fin cfg0.N) (h1 : t.val % 8 = 7) : (outsAt0 m c t.val t.isLt).1 = (outsAt0 m c t.val t.isLt).2 := by
  rw [outsAt0_C m c t (by omega) h1]
  frame_out
  rw [View.readCov_eq_canon']
  funext j
  idx_vars j
  pointwise [k0_pay4]

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

/-- The reference's gradient at one element, block of tokens by block of tokens. -/
theorem ref_apply (a : Vec Ideal S4x8192x704 .bf16) (b : Vec Ideal S8192x1024 .bf16) (p : Fin 4) (r : Fin 704) (l : Fin 1024) :
    Cert.Reference4Ideal.Read.val_main_v9 a b (ix3 p r l)
      = ∑ s : Fin 8, ∑ n : Fin 1024, (a (ix3 p ⟨1024 * s.val + n.val, by omega⟩ r) : EReal) * b (ix2 ⟨1024 * s.val + n.val, by omega⟩ l) := by
  pointwise [Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v2, Cert.Reference4Ideal.Read.val_main_v1, Cert.Reference4Ideal.Read.val_main_v0]
  rw [sum_tokens]
  refine Finset.sum_congr rfl fun s _ => Finset.sum_congr rfl fun n _ => ?_
  rw [mul_comm]

def tLast : Fin cfg0.N := ⟨7, lt_of_lt_of_eq (by decide) N_0.symm⟩

/-- The accumulator after the last grid point: every block's product. -/
theorem acc_last (j : S4x704x1024.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S4x704x1024.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference4Ideal.Read.val_main_v9 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  rw [after0_2, out_last m c tLast (by decide)]
  idx_vars y
  have e : ((View.whole main_v0).slice (win0_2.rect tLast)).emb (ix3 y0 y1 y2) = ix3 y0 y1 y2 := by
    blk_ext [idx2]
  rw [e, ref_apply]
  refine (acc_last m c (ix3 y0 y1 y2)).trans ?_
  unfold part
  refine Finset.sum_congr rfl fun s _ => Finset.sum_congr rfl fun n _ => ?_
  congr 1 <;> blk_ext [iblk, V, idx0, idx1, Fin.val_cast]

/-- The kernel and the reference compute the same gradient. -/
theorem algebraic : algebraic_Kernel4Ideal_Reference4Ideal := by
  intro m g m' g' _ hargs
  refine ⟨fun c => (dats m 0 c).arrAt 2 cfg0.N, Cert.Kernel4Ideal.Value.run_blocks m g, ?_⟩
  refine (θ_run _ _ _).mono (fun r h c => ?_) (Cert.Reference4Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference4Ideal.Read.val_main_v9_eq _ _

end Cert.Proof.DwOut
-- ==== Proof.DwUp.lean ====
module

public import proofs.«01_k».proof.Defs
public import proofs.«01_k».proof.Proof.FfnSum
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.DwUp

open Cert.Kernel5Ideal Cert.Kernel5Ideal.Gen Cert.Proof.Ffn

variable (m : (ℓ : Loc nD τ sig) → Buf (Elt Ideal) ℓ) (c : Dev nD)

/-- The product of one block of tokens. -/
def part (x0 : Vec Ideal S4x1024x704 .bf16) (x1 : Vec Ideal S1024x1024 .bf16) (j : S4x1024x704.Idx) : EReal :=
  ∑ k : Fin 1024, (x1 (ix2 k (j 1)) : EReal) * x0 (ix3 (j 0) k (j 2))

/-- The four stores of one grid point into the accumulator. -/
def pieces (x0 : Vec Ideal S4x1024x704 .bf16) (x1 : Vec Ideal S1024x1024 .bf16) (xs : Vec Ideal S4x1024x704 .f32) : List (View.Piece (Elt Ideal) S4x1024x704 .f32) :=
  [⟨Rect.unit ![3, 0, 0] ![1, 1024, 704] inb_S4x1024x704_S1x1024x704_3_0_0,
      k0_pay3 (k0_pay7 x1 (View.ld x0 (Rect.unit ![3, 0, 0] ![1, 1024, 704] inb_S4x1024x704_S1x1024x704_3_0_0)))
        (View.ld xs (Rect.unit ![3, 0, 0] ![1, 1024, 704] inb_S4x1024x704_S1x1024x704_3_0_0))⟩,
    ⟨Rect.unit ![2, 0, 0] ![1, 1024, 704] inb_S4x1024x704_S1x1024x704_2_0_0,
      k0_pay2 (k0_pay6 x1 (View.ld x0 (Rect.unit ![2, 0, 0] ![1, 1024, 704] inb_S4x1024x704_S1x1024x704_2_0_0)))
        (View.ld xs (Rect.unit ![2, 0, 0] ![1, 1024, 704] inb_S4x1024x704_S1x1024x704_2_0_0))⟩,
    ⟨Rect.unit ![1, 0, 0] ![1, 1024, 704] inb_S4x1024x704_S1x1024x704_1_0_0,
      k0_pay1 (k0_pay9 x1 (View.ld x0 (Rect.unit ![1, 0, 0] ![1, 1024, 704] inb_S4x1024x704_S1x1024x704_1_0_0))
        (View.ld xs (Rect.unit ![1, 0, 0] ![1, 1024, 704] inb_S4x1024x704_S1x1024x704_1_0_0)))⟩,
    ⟨Rect.unit ![0, 0, 0] ![1, 1024, 704] inb_S4x1024x704_S1x1024x704_0_0_0,
      k0_pay8 x1 (View.ld x0 (Rect.unit ![0, 0, 0] ![1, 1024, 704] inb_S4x1024x704_S1x1024x704_0_0_0))
        (View.ld xs (Rect.unit ![0, 0, 0] ![1, 1024, 704] inb_S4x1024x704_S1x1024x704_0_0_0))⟩]

/-- The accumulator after one grid point, from what the point before left. -/
def acc (x0 : Vec Ideal S4x1024x704 .bf16) (x1 : Vec Ideal S1024x1024 .bf16) (xs : Vec Ideal S4x1024x704 .f32) : Vec Ideal S4x1024x704 .f32 :=
  View.canon (pieces x0 x1 xs)

/-- The accumulator after one grid point, at an index: what it held plus the block's product. -/
theorem out_apply (a : Vec Ideal S4x1024x704 .bf16) (b : Vec Ideal S1024x1024 .bf16) (xs : Vec Ideal S4x1024x704 .f32) (j : S4x1024x704.Idx) :
    acc a b xs j = xs j + part a b j := by
  unfold acc
  unfold pieces
  canon_tiles x h
  all_goals
    idx_vars x
    pointwise [k0_pay1, k0_pay2, k0_pay3, k0_pay6, k0_pay7, k0_pay8, k0_pay9, part]
    refine congrArg₂ (· + ·) (congrArg xs ?_) (Finset.sum_congr rfl fun k _ => congrArg₂ (· * ·) (congrArg b ?_) (congrArg a ?_)) <;> blk_ext

theorem pieces_cover (a : Vec Ideal S4x1024x704 .bf16) (b : Vec Ideal S1024x1024 .bf16) (xs : Vec Ideal S4x1024x704 .f32) (j : S4x1024x704.Idx) :
    ∃ p ∈ pieces a b xs, j ∈ p.1.set :=
  View.cover_of_tiledL (pieces a b xs) ![1, 1024, 704] (by sl_kernel_rfl) j

/-- What a grid point after the first leaves in the accumulator. -/
theorem step_later (t : Fin cfg0.N) (h0 : ¬t.val % 8 = 0) (j : S4x1024x704.Idx) :
    (outsAt0 m c t.val t.isLt).2 j
      = (outsAt0 m c (t.val - 1) (Nat.lt_of_le_of_lt (Nat.sub_le _ _) t.isLt)).2 j + part (iblk m c 1 t) (iblk m c 0 t) j := by
  by_cases h1 : t.val % 8 = 7
  · rw [outsAt0_C m c t h0 h1]
    frame_out
    rw [read_unread_whole]
    exact out_apply _ _ _ j
  · rw [outsAt0_B m c t h0 h1]
    frame_out
    rw [read_unread_whole]
    exact out_apply _ _ _ j

/-- What the first grid point leaves in the accumulator. -/
theorem step_first (t : Fin cfg0.N) (h0 : t.val % 8 = 0) (j : S4x1024x704.Idx) :
    (outsAt0 m c t.val t.isLt).2 j = 0 + part (iblk m c 1 t) (iblk m c 0 t) j := by
  rw [outsAt0_A m c t h0 (by omega)]
  frame_open
  simp (disch := decide) only [↓ View.readCov_skip, ↓ View.readCov_cons_toLoadRect, ↓ View.readCov_fill]
  frame_out
  have key := (canon_append_of_cover [⟨Rect.unit ![0, 0, 0] ![4, 1024, 704] inb_S4x1024x704_S4x1024x704_0_0_0, k0_pay5 (F := Ideal)⟩] j
    (pieces (iblk m c 1 t) (iblk m c 0 t) (k0_pay5 (F := Ideal))) (pieces_cover _ _ _ j)).trans (out_apply _ _ _ j)
  rw [show (k0_pay5 (F := Ideal)) j = 0 from by idx_vars j; pointwise [k0_pay5]] at key
  unfold pieces at key
  simp only [List.cons_append, List.nil_append] at key
  exact key

/-- What the last grid point writes back is the accumulator. -/
theorem out_last (t : Fin cfg0.N) (h1 : t.val % 8 = 7) : (outsAt0 m c t.val t.isLt).1 = (outsAt0 m c t.val t.isLt).2 := by
  rw [outsAt0_C m c t (by omega) h1]
  frame_out
  rw [View.readCov_eq_canon']
  funext j
  idx_vars j
  pointwise [k0_pay4]

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![1, 0, 0] := (by decide +kernel : ∀ t : Fin grid0.N, _)

/-- The reference's gradient at one element, block of tokens by block of tokens. -/
theorem ref_apply (b : Vec Ideal S8192x1024 .bf16) (a : Vec Ideal S4x8192x704 .bf16) (p : Fin 4) (r : Fin 1024) (l : Fin 704) :
    Cert.Reference5Ideal.Read.val_main_v10 b a (ix3 p r l)
      = ∑ s : Fin 8, ∑ n : Fin 1024, (b (ix2 ⟨1024 * s.val + n.val, by omega⟩ r) : EReal) * a (ix3 p ⟨1024 * s.val + n.val, by omega⟩ l) := by
  pointwise [Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v3, Cert.Reference5Ideal.Read.val_main_v2, Cert.Reference5Ideal.Read.val_main_v1, Cert.Reference5Ideal.Read.val_main_v0]
  rw [sum_tokens]
  refine Finset.sum_congr rfl fun s _ => Finset.sum_congr rfl fun n _ => ?_
  rw [mul_comm]

def tLast : Fin cfg0.N := ⟨7, lt_of_lt_of_eq (by decide) N_0.symm⟩

/-- The accumulator after the last grid point: every block's product. -/
theorem acc_last (j : S4x1024x704.Idx) :
    (outsAt0 m c tLast.val tLast.isLt).2 j
      = ∑ s : Fin 8, part (iblk m c 1 (s.cast N_0.symm)) (iblk m c 0 (s.cast N_0.symm)) j := by
  have h := Pipeline.eq_sum_fin_of_reset_step_apply_last (fun n h => ((outsAt0 m c n h).2 : S4x1024x704.Idx → EReal)) 8 (fun _ => (0 : EReal))
    (fun t j => part (iblk m c 1 t) (iblk m c 0 t) j)
    (fun t h j => step_first m c t h j) (fun t h j => step_later m c t h j) (le_of_eq N_0) tLast N_0.symm j
  rw [zero_add] at h
  exact h.trans (Fintype.sum_equiv (finCongr N_0.symm) _ _ fun s => rfl).symm

/-- The reference's last four blocks are its gradient, -/
theorem ref_hi (b : Vec Ideal S8192x1024 .bf16) (a : Vec Ideal S4x8192x704 .bf16) (w : Vec Ideal S8x1024x704 .bf16) (p : Fin 4) (r : Fin 1024) (l : Fin 704) :
    Cert.Reference5Ideal.Read.val_main_v12 b a w (ix3 ⟨4 + p.val, by omega⟩ r l) = Cert.Reference5Ideal.Read.val_main_v10 b a (ix3 p r l) := by
  unfold Cert.Reference5Ideal.Read.val_main_v12
  generalize Cert.Reference5Ideal.Read.val_main_v10 b a = g
  pointwise [Cert.Reference5Ideal.Read.val_main_v11]

/-- and its first four are the array filled in. -/
theorem ref_lo (b : Vec Ideal S8192x1024 .bf16) (a : Vec Ideal S4x8192x704 .bf16) (w : Vec Ideal S8x1024x704 .bf16) (p : Fin 8) (hp : p.val < 4) (r : Fin 1024) (l : Fin 704) :
    Cert.Reference5Ideal.Read.val_main_v12 b a w (ix3 p r l) = w (ix3 p r l) := by
  unfold Cert.Reference5Ideal.Read.val_main_v12
  generalize Cert.Reference5Ideal.Read.val_main_v10 b a = g
  pointwise [Cert.Reference5Ideal.Read.val_main_v11]
  exact dif_pos hp

/-- The kernel's whole result. -/
theorem final : (dats m 0 c).arrAt 2 cfg0.N
    = Cert.Reference5Ideal.Read.val_main_v12 (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (0 : Fin 3) = 1) (by decide +kernel) (fun t hf y => ?_) (fun j hj => ?_)
  · have ht : t = tLast := (by decide +kernel : ∀ t : Fin grid0.N, win0_2.flush t = true → t = tLast) t hf
    subst ht
    blk_simp
    rw [after0_2, out_last m c tLast (by decide)]
    idx_vars y
    have e : ((View.whole main_v0).slice (win0_2.rect tLast)).emb (ix3 y0 y1 y2) = ix3 ⟨4 + y0.val, by omega⟩ y1 y2 := by
      blk_ext [idx2]
    rw [e, ref_hi, ref_apply]
    refine (acc_last m c (ix3 y0 y1 y2)).trans ?_
    unfold part
    refine Finset.sum_congr rfl fun s _ => Finset.sum_congr rfl fun n _ => ?_
    congr 1 <;> blk_ext [iblk, V, idx0, idx1, Fin.val_cast]
  · rw [A_eq]
    idx_vars j
    have e : (View.whole main_v0).emb (ix3 j0 j1 j2) = ix3 j0 j1 j2 := rfl
    have hp : j0.val < 4 := by
      by_contra h
      refine hj ?_
      show j0.val / 4 = 1
      omega
    rw [e, ref_lo _ _ _ _ hp]
    rfl

/-- The kernel and the reference compute the same gradient. -/
theorem algebraic : algebraic_Kernel5Ideal_Reference5Ideal := by
  intro m g m' g' _ hargs
  refine ⟨fun c => (dats m 0 c).arrAt 2 cfg0.N, Cert.Kernel5Ideal.Value.run_blocks m g, ?_⟩
  refine (θ_run _ _ _).mono (fun r h c => ?_) (Cert.Reference5Ideal.Value.run (F := Ideal) m' g')
  obtain ⟨h0, h1, h2⟩ := hargs c
  refine ⟨((h c).1.trans ?_), (h c).2⟩
  show _ = (dats m 0 c).arrAt 2 cfg0.N
  rw [final m c, h0, h1, h2]
  exact Cert.Reference5Ideal.Read.val_main_v12_eq _ _ _

end Cert.Proof.DwUp
-- ==== Proof.FfnIn.lean ====
module

public import proofs.«01_k».proof.Defs
public import proofs.«01_k».proof.Proof.FfnSum
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack

/-! The feed-forward's two projections and its gated activation: the kernel's products per block of 1024 tokens and 704 hidden
units, against the reference's one product over all 5632 columns. -/

@[expose] public section

set_option maxRecDepth 16384

noncomputable section

open Idealize.ShloMosaic Idealize.ShloMosaic.TcCoe Idealize.SL.Sem
open Idealize.ShloMosaic.Pipeline (Dat)

namespace Cert.Proof.FfnIn

open Cert.Kernel7Ideal Cert.Kernel7Ideal.Gen Cert.Proof.Ffn

/-- The weight block of the gate that hidden block `p` meets. -/
def lo (p : Fin 4) : Fin 8 := ⟨p.val, by omega⟩

/-- The weight block of the other projection that hidden block `p` meets. -/
def hi (p : Fin 4) : Fin 8 := ⟨p.val + 4, by omega⟩

/-- One projection at a token, of weight block `q`. -/
def proj (x0 : Vec Ideal S8192x1024 .bf16) (x1 : Vec Ideal S1x8x1024x704 .bf16) (q : Fin 8) (t : Fin 8192) (l : Fin 704) : EReal :=
  ∑ n : Fin 1024, (x0 (ix2 t n) : EReal) * x1 (ix4 0 q n l)

/-- The projection the kernel computes on its blocks. -/
def blockProj (x0 : Vec Ideal S1024x1024 .bf16) (x1 : Vec Ideal S1x1x1024x704 .bf16) (r : Fin 1024) (l : Fin 704) : EReal :=
  ∑ n : Fin 1024, (x0 (ix2 r n) : EReal) * x1 (ix4 0 0 n l)

theorem out_3 (x0 : Vec Ideal S1024x1024 .bf16) (x1 x2 : Vec Ideal S1x1x1024x704 .bf16) (r : Fin 1024) (l : Fin 704) :
    out0_3 x0 x1 x2 (ix3 0 r l) = blockProj x0 x1 r l := by
  unfold out0_3 blockProj
  rw [View.canon_unit_zero (funext fun a => by fin_cases a <;> rfl)]
  pointwise [k0_pay1, k0_pay2, k0_pay3, k0_pay4, k0_pay5]

theorem out_4 (x0 : Vec Ideal S1024x1024 .bf16) (x1 x2 : Vec Ideal S1x1x1024x704 .bf16) (r : Fin 1024) (l : Fin 704) :
    out0_4 x0 x1 x2 (ix3 0 r l) = blockProj x0 x2 r l := by
  unfold out0_4 blockProj
  rw [View.canon_unit_zero (funext fun a => by fin_cases a <;> rfl)]
  pointwise [k0_pay1, k0_pay2, k0_pay3, k0_pay4, k0_pay5]

theorem out_5 (x0 : Vec Ideal S1024x1024 .bf16) (x1 x2 : Vec Ideal S1x1x1024x704 .bf16) (r : Fin 1024) (l : Fin 704) :
    out0_5 x0 x1 x2 (ix3 0 r l) = blockProj x0 x1 r l * Ideal.logistic (blockProj x0 x1 r l) * blockProj x0 x2 r l := by
  unfold out0_5 blockProj
  rw [View.canon_unit_zero (funext fun a => by fin_cases a <;> rfl)]
  pointwise [k0_pay1, k0_pay2, k0_pay3, k0_pay4, k0_pay5]

theorem ref_gate (x0 : Vec Ideal S8192x1024 .bf16) (x1 : Vec Ideal S1x8x1024x704 .bf16) (p : Fin 4) (t : Fin 8192) (l : Fin 704) :
    Cert.Reference7Ideal.Read.val_main_v6 x0 x1 (ix2 t ⟨p.val * 704 + l.val, by omega⟩) = proj x0 x1 (lo p) t l := by
  pointwise [Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]
  unfold proj
  refine Finset.sum_congr rfl fun n _ => congrArg₂ (· * ·) (congrArg _ ?_) (congrArg _ ?_) <;>
  · funext a
    apply Fin.ext
    fin_cases a <;> first | rfl | (simp [lo] <;> omega)

theorem ref_up (x0 : Vec Ideal S8192x1024 .bf16) (x1 : Vec Ideal S1x8x1024x704 .bf16) (p : Fin 4) (t : Fin 8192) (l : Fin 704) :
    Cert.Reference7Ideal.Read.val_main_v7 x0 x1 (ix2 t ⟨p.val * 704 + l.val, by omega⟩) = proj x0 x1 (hi p) t l := by
  pointwise [Cert.Reference7Ideal.Read.val_main_v7, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]
  unfold proj
  refine Finset.sum_congr rfl fun n _ => congrArg₂ (· * ·) (congrArg _ ?_) (congrArg _ ?_) <;>
  · funext a
    apply Fin.ext
    fin_cases a <;> first | rfl | (simp [hi] <;> omega)

theorem ref_3 (x0 : Vec Ideal S8192x1024 .bf16) (x1 : Vec Ideal S1x8x1024x704 .bf16) (p : Fin 4) (t : Fin 8192) (l : Fin 704) : Cert.Reference7Ideal.Read.val_main_v12 x0 x1 (ix3 p t l) = proj x0 x1 (lo p) t l := by
  rw [← ref_gate]
  pointwise [Cert.Reference7Ideal.Read.val_main_v12, Cert.Reference7Ideal.Read.val_main_v11, Cert.Reference7Ideal.Read.val_main_v10]

theorem ref_4 (x0 : Vec Ideal S8192x1024 .bf16) (x1 : Vec Ideal S1x8x1024x704 .bf16) (p : Fin 4) (t : Fin 8192) (l : Fin 704) : Cert.Reference7Ideal.Read.val_main_v15 x0 x1 (ix3 p t l) = proj x0 x1 (hi p) t l := by
  rw [← ref_up]
  pointwise [Cert.Reference7Ideal.Read.val_main_v15, Cert.Reference7Ideal.Read.val_main_v14, Cert.Reference7Ideal.Read.val_main_v13]

theorem ref_5 (x0 : Vec Ideal S8192x1024 .bf16) (x1 : Vec Ideal S1x8x1024x704 .bf16) (p : Fin 4) (t : Fin 8192) (l : Fin 704) :
    Cert.Reference7Ideal.Read.val_main_v18 x0 x1 (ix3 p t l) = proj x0 x1 (lo p) t l * Ideal.logistic (proj x0 x1 (lo p) t l) * proj x0 x1 (hi p) t l := by
  rw [← ref_gate, ← ref_up]
  pointwise [Cert.Reference7Ideal.Read.val_main_v18, Cert.Reference7Ideal.Read.val_main_v17, Cert.Reference7Ideal.Read.val_main_v16, Cert.Reference7Ideal.Read.val_main_v8, Cert.Reference7Ideal.Read.val_main_v9, Cert.Reference7Ideal.Read.val_main_call0_v0, Cert.Reference7Ideal.Read.val_main_call0_v1, Cert.Reference7Ideal.Read.val_main_call0_cst, Cert.Reference7Ideal.Read.val_main_call0_v2, Cert.Reference7Ideal.Read.val_main_call0_v3, Cert.Reference7Ideal.Read.val_main_call0_cst_0, Cert.Reference7Ideal.Read.val_main_call0_v4, Cert.Reference7Ideal.Read.val_main_call0_v5]
  rfl

theorem idx0 : ∀ t : Fin cfg0.N, win0_0.index t = ![t.val % 8, 0] := (by decide +kernel : ∀ t : Fin grid0.N, _)
theorem idx1 : ∀ t : Fin cfg0.N, win0_1.index t = ![0, t.val / 8, 0, 0] := (by decide +kernel : ∀ t : Fin grid0.N, _)
theorem idx2 : ∀ t : Fin cfg0.N, win0_2.index t = ![0, t.val / 8 + 4, 0, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)

theorem block (t : Fin cfg0.N) : t.val / 8 < 4 := by
  have h := t.isLt
  have hN : cfg0.N = 32 := by decide +kernel
  omega

variable (m : (ℓ : Loc nD τ sig) → Buf (Elt Ideal) ℓ) (c : Dev nD)

/-- The gate's projection of a block is that of the whole arrays. -/
theorem gate_block (t : Fin cfg0.N) (r : Fin 1024) (l : Fin 704) :
    blockProj (iblk m c 0 t) (iblk m c 1 t) r l
      = proj (m ((c.tc : Thread nD τ).loc main_arg0)) (m ((c.tc : Thread nD τ).loc main_arg1)) (lo ⟨t.val / 8, block t⟩) ⟨1024 * (t.val % 8) + r.val, by omega⟩ l := by
  unfold blockProj proj
  refine Finset.sum_congr rfl fun n _ => ?_
  congr 1 <;> blk_ext [iblk, V, idx0 t, idx1 t, lo]

/-- The other projection of a block is that of the whole arrays. -/
theorem up_block (t : Fin cfg0.N) (r : Fin 1024) (l : Fin 704) :
    blockProj (iblk m c 0 t) (iblk m c 2 t) r l
      = proj (m ((c.tc : Thread nD τ).loc main_arg0)) (m ((c.tc : Thread nD τ).loc main_arg1)) (hi ⟨t.val / 8, block t⟩) ⟨1024 * (t.val % 8) + r.val, by omega⟩ l := by
  unfold blockProj proj
  refine Finset.sum_congr rfl fun n _ => ?_
  congr 1 <;> blk_ext [iblk, V, idx0 t, idx2 t, hi]

/-- The kernel's gate projection. -/
theorem final_3 : (dats m 0 c).arrAt 3 cfg0.N = Cert.Reference7Ideal.Read.val_main_v12 (m ((c.tc : Thread nD τ).loc main_arg0)) (m ((c.tc : Thread nD τ).loc main_arg1)) := by
  refine (dats m 0 c).arrAt_eq_of_covers 3 _ (by decide +kernel) fun t hf y => ?_
  blk_simp
  rw [after0_3]
  idx_vars y
  have e : ((View.whole main_v0_0).slice (win0_3.rect t)).emb (ix3 y0 y1 y2) = ix3 ⟨t.val / 8, block t⟩ ⟨1024 * (t.val % 8) + y1.val, by omega⟩ y2 := by
    blk_ext [idx3 t]
  obtain rfl : y0 = 0 := Subsingleton.elim _ _
  rw [e, ref_3, out_3, gate_block]

/-- The kernel's other projection. -/
theorem final_4 : (dats m 0 c).arrAt 4 cfg0.N = Cert.Reference7Ideal.Read.val_main_v15 (m ((c.tc : Thread nD τ).loc main_arg0)) (m ((c.tc : Thread nD τ).loc main_arg1)) := by
  refine (dats m 0 c).arrAt_eq_of_covers 4 _ (by decide +kernel) fun t hf y => ?_
  blk_simp
  rw [after0_4]
  idx_vars y
  have e : ((View.whole main_v0_1).slice (win0_4.rect t)).emb (ix3 y0 y1 y2) = ix3 ⟨t.val / 8, block t⟩ ⟨1024 * (t.val % 8) + y1.val, by omega⟩ y2 := by
    blk_ext [idx4 t]
  obtain rfl : y0 = 0 := Subsingleton.elim _ _
  rw [e, ref_4, out_4, up_block]

/-- The kernel's activation. -/
theorem final_5 : (dats m 0 c).arrAt 5 cfg0.N = Cert.Reference7Ideal.Read.val_main_v18 (m ((c.tc : Thread nD τ).loc main_arg0)) (m ((c.tc : Thread nD τ).loc main_arg1)) := by
  refine (dats m 0 c).arrAt_eq_of_covers 5 _ (by decide +kernel) fun t hf y => ?_
  blk_simp
  rw [after0_5]
  idx_vars y
  have e : ((View.whole main_v0_2).slice (win0_5.rect t)).emb (ix3 y0 y1 y2) = ix3 ⟨t.val / 8, block t⟩ ⟨1024 * (t.val % 8) + y1.val, by omega⟩ y2 := by
    blk_ext [idx5 t]
  obtain rfl : y0 = 0 := Subsingleton.elim _ _
  rw [e, ref_5, out_5, gate_block, up_block]

/-- The kernel and the reference compute the same result. -/
theorem algebraic : algebraic_Kernel7Ideal_Reference7Ideal := by
  intro m g m' g' _ hargs
  refine ⟨fun c => (dats m 0 c).arrAt 3 cfg0.N, fun c => (dats m 0 c).arrAt 4 cfg0.N, fun c => (dats m 0 c).arrAt 5 cfg0.N, Cert.Kernel7Ideal.Value.run_blocks m g, ?_⟩
  refine (θ_run _ _ _).mono (fun r h c => ?_) (Cert.Reference7Ideal.Value.run (F := Ideal) m' g')
  obtain ⟨h0, h1⟩ := hargs c
  refine ⟨((h c).1.trans ?_), ((h c).2.1.trans ?_), ((h c).2.2.1.trans ?_), (h c).2.2.2⟩
  · show _ = (dats m 0 c).arrAt 3 cfg0.N
    rw [final_3 m c, h0, h1]
    exact Cert.Reference7Ideal.Read.val_main_v12_eq _ _
  · show _ = (dats m 0 c).arrAt 4 cfg0.N
    rw [final_4 m c, h0, h1]
    exact Cert.Reference7Ideal.Read.val_main_v15_eq _ _
  · show _ = (dats m 0 c).arrAt 5 cfg0.N
    rw [final_5 m c, h0, h1]
    exact Cert.Reference7Ideal.Read.val_main_v18_eq _ _

end Cert.Proof.FfnIn
-- ==== Proof.FfnOut.lean ====
module

public import proofs.«01_k».proof.Defs
public import proofs.«01_k».proof.Proof.FfnSum
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack

/-! The feed-forward's output: the kernel's four products per block of 512 tokens against the reference's one product over the
2816 hidden units. -/

@[expose] public section

set_option maxRecDepth 16384

noncomputable section

open Idealize.ShloMosaic Idealize.ShloMosaic.TcCoe Idealize.SL.Sem
open Idealize.ShloMosaic.Pipeline (Dat)

namespace Cert.Proof.FfnOut

open Cert.Kernel8Ideal Cert.Kernel8Ideal.Gen Cert.Proof.Ffn

/-- One element of the output, block of hidden units by block of hidden units. -/
def prod (x0 : Vec Ideal S4x8192x704 .bf16) (x1 : Vec Ideal S4x704x1024 .bf16) (t : Fin 8192) (l : Fin 1024) : EReal :=
  ∑ p : Fin 4, ∑ n : Fin 704, (x0 (ix3 p t n) : EReal) * x1 (ix3 p n l)

theorem out_apply (x0 : Vec Ideal S4x512x704 .bf16) (x1 : Vec Ideal S4x704x1024 .bf16) (r : Fin 512) (l : Fin 1024) :
    out0_2 x0 x1 (ix2 r l) = ∑ p : Fin 4, ∑ n : Fin 704, (x0 (ix3 p r n) : EReal) * x1 (ix3 p n l) := by
  unfold out0_2
  rw [View.canon_unit_zero (funext fun a => by fin_cases a <;> rfl)]
  pointwise [k0_pay1]
  rw [Fin.sum_univ_four]

theorem ref_apply (x0 : Vec Ideal S4x8192x704 .bf16) (x1 : Vec Ideal S4x704x1024 .bf16) (t : Fin 8192) (l : Fin 1024) :
    Cert.Reference8Ideal.Read.val_main_v5 x0 x1 (ix2 t l) = prod x0 x1 t l := by
  pointwise [Cert.Reference8Ideal.Read.val_main_v0, Cert.Reference8Ideal.Read.val_main_v1, Cert.Reference8Ideal.Read.val_main_v2, Cert.Reference8Ideal.Read.val_main_v3, Cert.Reference8Ideal.Read.val_main_v4, Cert.Reference8Ideal.Read.val_main_v5]
  unfold prod
  rw [sum_blocks]
  refine Finset.sum_congr rfl fun p _ => ?_
  refine Finset.sum_congr rfl fun n _ => congrArg₂ (· * ·) (congrArg _ ?_) (congrArg _ ?_) <;>
  · funext a
    apply Fin.ext
    fin_cases a <;> first | rfl | (simp <;> omega)

theorem idx0 : ∀ t : Fin cfg0.N, win0_0.index t = ![0, t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 512) : 512 * t.val + y.val < 8192 := by
  have h := t.isLt
  have hN : cfg0.N = 16 := by decide +kernel
  omega

/-- The kernel's whole result. -/
theorem final (m : (ℓ : Loc nD τ sig) → Buf (Elt Ideal) ℓ) (c : Dev nD) : (dats m 0 c).arrAt 2 cfg0.N = Cert.Reference8Ideal.Read.val_main_v5 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨512 * t.val + y0.val, row t y0⟩ y1 := by
    blk_ext [idx2 t]
  rw [e, ref_apply, out_apply]
  unfold prod
  change (_ : EReal) = (_ : EReal)
  refine Finset.sum_congr rfl fun p _ => Finset.sum_congr rfl fun n _ => ?_
  congr 1 <;> blk_ext [iblk, V, idx0 t, idx1 t]

/-- The kernel and the reference compute the same result. -/
theorem algebraic : algebraic_Kernel8Ideal_Reference8Ideal := by
  intro m g m' g' _ hargs
  refine ⟨fun c => (dats m 0 c).arrAt 2 cfg0.N, Cert.Kernel8Ideal.Value.run_blocks m g, ?_⟩
  refine (θ_run _ _ _).mono (fun r h c => ?_) (Cert.Reference8Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference8Ideal.Read.val_main_v5_eq _ _

end Cert.Proof.FfnOut
-- ==== Proof.Fox.lean ====
/- The run of the forgetting-attention gradient kernel, over any value type: its loops and its body. -/
module

public import proofs.«01_k».proof.Defs
public import proofs.«01_k».proof.Proof.Gen.KernelIdeal
public import proofs.«01_k».proof.Proof.Gen.KernelIdeal.Frame
public import proofs.«01_k».proof.Proof.Gen.KernelIdeal.Loops
public import Idealize.ShloMosaic.Adequacy
public import Idealize.ShloMosaic.Init

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem chk1_ok : ∀ (t : Fin k0_t1_loop.trips) (k : Fin (k0_t2_loop t).trips), k0_chk1 t k (BitVec.ofNat 32 (4 * k.val)) := by
  decide +kernel

theorem chk3_ok : ∀ (t : Fin k0_t1_loop.trips), k0_chk3 t (BitVec.ofNat 32 (4 * (k0_t2_loop t).trips)) := by
  decide +kernel

theorem trips_t3 : ∀ (t : Fin k0_t1_loop.trips), (k0_t3_loop t).trips = 0 := by
  decide +kernel

abbrev at_ (c : Dev nD) {S : Shape} {e : EltTy} (a : Memref sig .tc .vmem S e) (g : BufTy.Contents (Elt F) a.view.ty) : sProp 𝕄 :=
  a.view.loc (c : Thread nD τ) ↦[a.view.set]{fullShare} g

theorem off5_0 : ∀ (t : Fin k0_t1_loop.trips) (k : Fin (k0_t2_loop t).trips), k0_off5 (BitVec.ofNat 32 (4 * k.val)) 0#32 = ![0, 256 * (4 * k.val + 0), 0] := by decide +kernel
instance (t : Fin k0_t1_loop.trips) (k : Fin (k0_t2_loop t).trips) : ClosedOff (k0_off5 (BitVec.ofNat 32 (4 * k.val)) 0#32) := ⟨![0, 256 * (4 * k.val + 0), 0], off5_0 t k⟩
theorem off5_1 : ∀ (t : Fin k0_t1_loop.trips) (k : Fin (k0_t2_loop t).trips), k0_off5 (BitVec.ofNat 32 (4 * k.val)) 1#32 = ![0, 256 * (4 * k.val + 1), 0] := by decide +kernel
instance (t : Fin k0_t1_loop.trips) (k : Fin (k0_t2_loop t).trips) : ClosedOff (k0_off5 (BitVec.ofNat 32 (4 * k.val)) 1#32) := ⟨![0, 256 * (4 * k.val + 1), 0], off5_1 t k⟩
theorem off5_2 : ∀ (t : Fin k0_t1_loop.trips) (k : Fin (k0_t2_loop t).trips), k0_off5 (BitVec.ofNat 32 (4 * k.val)) 2#32 = ![0, 256 * (4 * k.val + 2), 0] := by decide +kernel
instance (t : Fin k0_t1_loop.trips) (k : Fin (k0_t2_loop t).trips) : ClosedOff (k0_off5 (BitVec.ofNat 32 (4 * k.val)) 2#32) := ⟨![0, 256 * (4 * k.val + 2), 0], off5_2 t k⟩
theorem off5_3 : ∀ (t : Fin k0_t1_loop.trips) (k : Fin (k0_t2_loop t).trips), k0_off5 (BitVec.ofNat 32 (4 * k.val)) 3#32 = ![0, 256 * (4 * k.val + 3), 0] := by decide +kernel
instance (t : Fin k0_t1_loop.trips) (k : Fin (k0_t2_loop t).trips) : ClosedOff (k0_off5 (BitVec.ofNat 32 (4 * k.val)) 3#32) := ⟨![0, 256 * (4 * k.val + 3), 0], off5_3 t k⟩
theorem off6_0 : ∀ (t : Fin k0_t1_loop.trips) (k : Fin (k0_t2_loop t).trips), k0_off6 (BitVec.ofNat 32 (4 * k.val)) 0#32 = ![0, 0, 256 * (4 * k.val + 0)] := by decide +kernel
instance (t : Fin k0_t1_loop.trips) (k : Fin (k0_t2_loop t).trips) : ClosedOff (k0_off6 (BitVec.ofNat 32 (4 * k.val)) 0#32) := ⟨![0, 0, 256 * (4 * k.val + 0)], off6_0 t k⟩
theorem off6_1 : ∀ (t : Fin k0_t1_loop.trips) (k : Fin (k0_t2_loop t).trips), k0_off6 (BitVec.ofNat 32 (4 * k.val)) 1#32 = ![0, 0, 256 * (4 * k.val + 1)] := by decide +kernel
instance (t : Fin k0_t1_loop.trips) (k : Fin (k0_t2_loop t).trips) : ClosedOff (k0_off6 (BitVec.ofNat 32 (4 * k.val)) 1#32) := ⟨![0, 0, 256 * (4 * k.val + 1)], off6_1 t k⟩
theorem off6_2 : ∀ (t : Fin k0_t1_loop.trips) (k : Fin (k0_t2_loop t).trips), k0_off6 (BitVec.ofNat 32 (4 * k.val)) 2#32 = ![0, 0, 256 * (4 * k.val + 2)] := by decide +kernel
instance (t : Fin k0_t1_loop.trips) (k : Fin (k0_t2_loop t).trips) : ClosedOff (k0_off6 (BitVec.ofNat 32 (4 * k.val)) 2#32) := ⟨![0, 0, 256 * (4 * k.val + 2)], off6_2 t k⟩
theorem off6_3 : ∀ (t : Fin k0_t1_loop.trips) (k : Fin (k0_t2_loop t).trips), k0_off6 (BitVec.ofNat 32 (4 * k.val)) 3#32 = ![0, 0, 256 * (4 * k.val + 3)] := by decide +kernel
instance (t : Fin k0_t1_loop.trips) (k : Fin (k0_t2_loop t).trips) : ClosedOff (k0_off6 (BitVec.ofNat 32 (4 * k.val)) 3#32) := ⟨![0, 0, 256 * (4 * k.val + 3)], off6_3 t k⟩
theorem off7_0 : ∀ (t : Fin k0_t1_loop.trips) (k : Fin (k0_t2_loop t).trips), k0_off7 (BitVec.ofNat 32 (4 * k.val)) 0#32 = ![0, 1, 256 * (4 * k.val + 0)] := by decide +kernel
instance (t : Fin k0_t1_loop.trips) (k : Fin (k0_t2_loop t).trips) : ClosedOff (k0_off7 (BitVec.ofNat 32 (4 * k.val)) 0#32) := ⟨![0, 1, 256 * (4 * k.val + 0)], off7_0 t k⟩
theorem off7_1 : ∀ (t : Fin k0_t1_loop.trips) (k : Fin (k0_t2_loop t).trips), k0_off7 (BitVec.ofNat 32 (4 * k.val)) 1#32 = ![0, 1, 256 * (4 * k.val + 1)] := by decide +kernel
instance (t : Fin k0_t1_loop.trips) (k : Fin (k0_t2_loop t).trips) : ClosedOff (k0_off7 (BitVec.ofNat 32 (4 * k.val)) 1#32) := ⟨![0, 1, 256 * (4 * k.val + 1)], off7_1 t k⟩
theorem off7_2 : ∀ (t : Fin k0_t1_loop.trips) (k : Fin (k0_t2_loop t).trips), k0_off7 (BitVec.ofNat 32 (4 * k.val)) 2#32 = ![0, 1, 256 * (4 * k.val + 2)] := by decide +kernel
instance (t : Fin k0_t1_loop.trips) (k : Fin (k0_t2_loop t).trips) : ClosedOff (k0_off7 (BitVec.ofNat 32 (4 * k.val)) 2#32) := ⟨![0, 1, 256 * (4 * k.val + 2)], off7_2 t k⟩
theorem off7_3 : ∀ (t : Fin k0_t1_loop.trips) (k : Fin (k0_t2_loop t).trips), k0_off7 (BitVec.ofNat 32 (4 * k.val)) 3#32 = ![0, 1, 256 * (4 * k.val + 3)] := by decide +kernel
instance (t : Fin k0_t1_loop.trips) (k : Fin (k0_t2_loop t).trips) : ClosedOff (k0_off7 (BitVec.ofNat 32 (4 * k.val)) 3#32) := ⟨![0, 1, 256 * (4 * k.val + 3)], off7_3 t k⟩
theorem off8_0 : ∀ (t : Fin k0_t1_loop.trips) (k : Fin (k0_t2_loop t).trips), k0_off8 (BitVec.ofNat 32 (4 * k.val)) 0#32 = ![0, 256 * (4 * k.val + 0)] := by decide +kernel
instance (t : Fin k0_t1_loop.trips) (k : Fin (k0_t2_loop t).trips) : ClosedOff (k0_off8 (BitVec.ofNat 32 (4 * k.val)) 0#32) := ⟨![0, 256 * (4 * k.val + 0)], off8_0 t k⟩
theorem off8_1 : ∀ (t : Fin k0_t1_loop.trips) (k : Fin (k0_t2_loop t).trips), k0_off8 (BitVec.ofNat 32 (4 * k.val)) 1#32 = ![0, 256 * (4 * k.val + 1)] := by decide +kernel
instance (t : Fin k0_t1_loop.trips) (k : Fin (k0_t2_loop t).trips) : ClosedOff (k0_off8 (BitVec.ofNat 32 (4 * k.val)) 1#32) := ⟨![0, 256 * (4 * k.val + 1)], off8_1 t k⟩
theorem off8_2 : ∀ (t : Fin k0_t1_loop.trips) (k : Fin (k0_t2_loop t).trips), k0_off8 (BitVec.ofNat 32 (4 * k.val)) 2#32 = ![0, 256 * (4 * k.val + 2)] := by decide +kernel
instance (t : Fin k0_t1_loop.trips) (k : Fin (k0_t2_loop t).trips) : ClosedOff (k0_off8 (BitVec.ofNat 32 (4 * k.val)) 2#32) := ⟨![0, 256 * (4 * k.val + 2)], off8_2 t k⟩
theorem off8_3 : ∀ (t : Fin k0_t1_loop.trips) (k : Fin (k0_t2_loop t).trips), k0_off8 (BitVec.ofNat 32 (4 * k.val)) 3#32 = ![0, 256 * (4 * k.val + 3)] := by decide +kernel
instance (t : Fin k0_t1_loop.trips) (k : Fin (k0_t2_loop t).trips) : ClosedOff (k0_off8 (BitVec.ofNat 32 (4 * k.val)) 3#32) := ⟨![0, 256 * (4 * k.val + 3)], off8_3 t k⟩
theorem off13_ : ∀ (t : Fin k0_t1_loop.trips), k0_off13 (BitVec.ofNat 32 (4 * (k0_t2_loop t).trips)) = ![0, 256 * (4 * (t.val / 4)), 0] := by decide +kernel
instance (t : Fin k0_t1_loop.trips) : ClosedOff (k0_off13 (BitVec.ofNat 32 (4 * (k0_t2_loop t).trips))) := ⟨![0, 256 * (4 * (t.val / 4)), 0], off13_ t⟩
theorem off14_ : ∀ (t : Fin k0_t1_loop.trips), k0_off14 (BitVec.ofNat 32 (4 * (k0_t2_loop t).trips)) = ![0, 0, 256 * (4 * (t.val / 4))] := by decide +kernel
instance (t : Fin k0_t1_loop.trips) : ClosedOff (k0_off14 (BitVec.ofNat 32 (4 * (k0_t2_loop t).trips))) := ⟨![0, 0, 256 * (4 * (t.val / 4))], off14_ t⟩
theorem off15_ : ∀ (t : Fin k0_t1_loop.trips), k0_off15 (BitVec.ofNat 32 (4 * (k0_t2_loop t).trips)) = ![0, 1, 256 * (4 * (t.val / 4))] := by decide +kernel
instance (t : Fin k0_t1_loop.trips) : ClosedOff (k0_off15 (BitVec.ofNat 32 (4 * (k0_t2_loop t).trips))) := ⟨![0, 1, 256 * (4 * (t.val / 4))], off15_ t⟩
theorem off16_ : ∀ (t : Fin k0_t1_loop.trips), k0_off16 (BitVec.ofNat 32 (4 * (k0_t2_loop t).trips)) = ![0, 256 * (4 * (t.val / 4))] := by decide +kernel
instance (t : Fin k0_t1_loop.trips) : ClosedOff (k0_off16 (BitVec.ofNat 32 (4 * (k0_t2_loop t).trips))) := ⟨![0, 256 * (4 * (t.val / 4))], off16_ t⟩
theorem off17_0 : ∀ (t : Fin k0_t1_loop.trips), k0_off17 (BitVec.ofNat 32 (4 * (k0_t2_loop t).trips)) 0#32 = ![0, 256 * (4 * (t.val / 4) + 0), 0] := by decide +kernel
instance (t : Fin k0_t1_loop.trips) : ClosedOff (k0_off17 (BitVec.ofNat 32 (4 * (k0_t2_loop t).trips)) 0#32) := ⟨![0, 256 * (4 * (t.val / 4) + 0), 0], off17_0 t⟩
theorem off17_1 : ∀ (t : Fin k0_t1_loop.trips), k0_off17 (BitVec.ofNat 32 (4 * (k0_t2_loop t).trips)) 1#32 = ![0, 256 * (4 * (t.val / 4) + 1), 0] := by decide +kernel
instance (t : Fin k0_t1_loop.trips) : ClosedOff (k0_off17 (BitVec.ofNat 32 (4 * (k0_t2_loop t).trips)) 1#32) := ⟨![0, 256 * (4 * (t.val / 4) + 1), 0], off17_1 t⟩
theorem off18_0 : ∀ (t : Fin k0_t1_loop.trips), k0_off18 (BitVec.ofNat 32 (4 * (k0_t2_loop t).trips)) 0#32 = ![0, 0, 256 * (4 * (t.val / 4) + 0)] := by decide +kernel
instance (t : Fin k0_t1_loop.trips) : ClosedOff (k0_off18 (BitVec.ofNat 32 (4 * (k0_t2_loop t).trips)) 0#32) := ⟨![0, 0, 256 * (4 * (t.val / 4) + 0)], off18_0 t⟩
theorem off18_1 : ∀ (t : Fin k0_t1_loop.trips), k0_off18 (BitVec.ofNat 32 (4 * (k0_t2_loop t).trips)) 1#32 = ![0, 0, 256 * (4 * (t.val / 4) + 1)] := by decide +kernel
instance (t : Fin k0_t1_loop.trips) : ClosedOff (k0_off18 (BitVec.ofNat 32 (4 * (k0_t2_loop t).trips)) 1#32) := ⟨![0, 0, 256 * (4 * (t.val / 4) + 1)], off18_1 t⟩
theorem off19_0 : ∀ (t : Fin k0_t1_loop.trips), k0_off19 (BitVec.ofNat 32 (4 * (k0_t2_loop t).trips)) 0#32 = ![0, 1, 256 * (4 * (t.val / 4) + 0)] := by decide +kernel
instance (t : Fin k0_t1_loop.trips) : ClosedOff (k0_off19 (BitVec.ofNat 32 (4 * (k0_t2_loop t).trips)) 0#32) := ⟨![0, 1, 256 * (4 * (t.val / 4) + 0)], off19_0 t⟩
theorem off19_1 : ∀ (t : Fin k0_t1_loop.trips), k0_off19 (BitVec.ofNat 32 (4 * (k0_t2_loop t).trips)) 1#32 = ![0, 1, 256 * (4 * (t.val / 4) + 1)] := by decide +kernel
instance (t : Fin k0_t1_loop.trips) : ClosedOff (k0_off19 (BitVec.ofNat 32 (4 * (k0_t2_loop t).trips)) 1#32) := ⟨![0, 1, 256 * (4 * (t.val / 4) + 1)], off19_1 t⟩
theorem off20_0 : ∀ (t : Fin k0_t1_loop.trips), k0_off20 (BitVec.ofNat 32 (4 * (k0_t2_loop t).trips)) 0#32 = ![0, 256 * (4 * (t.val / 4) + 0)] := by decide +kernel
instance (t : Fin k0_t1_loop.trips) : ClosedOff (k0_off20 (BitVec.ofNat 32 (4 * (k0_t2_loop t).trips)) 0#32) := ⟨![0, 256 * (4 * (t.val / 4) + 0)], off20_0 t⟩
theorem off20_1 : ∀ (t : Fin k0_t1_loop.trips), k0_off20 (BitVec.ofNat 32 (4 * (k0_t2_loop t).trips)) 1#32 = ![0, 256 * (4 * (t.val / 4) + 1)] := by decide +kernel
instance (t : Fin k0_t1_loop.trips) : ClosedOff (k0_off20 (BitVec.ofNat 32 (4 * (k0_t2_loop t).trips)) 1#32) := ⟨![0, 256 * (4 * (t.val / 4) + 1)], off20_1 t⟩
theorem off21_0 : ∀ (t : Fin k0_t1_loop.trips), k0_off21 (BitVec.ofNat 32 (4 * (k0_t2_loop t).trips)) 0#32 = ![0, 256 * (4 * (t.val / 4) + 0), 0] := by decide +kernel
instance (t : Fin k0_t1_loop.trips) : ClosedOff (k0_off21 (BitVec.ofNat 32 (4 * (k0_t2_loop t).trips)) 0#32) := ⟨![0, 256 * (4 * (t.val / 4) + 0), 0], off21_0 t⟩
theorem off21_1 : ∀ (t : Fin k0_t1_loop.trips), k0_off21 (BitVec.ofNat 32 (4 * (k0_t2_loop t).trips)) 1#32 = ![0, 256 * (4 * (t.val / 4) + 1), 0] := by decide +kernel
instance (t : Fin k0_t1_loop.trips) : ClosedOff (k0_off21 (BitVec.ofNat 32 (4 * (k0_t2_loop t).trips)) 1#32) := ⟨![0, 256 * (4 * (t.val / 4) + 1), 0], off21_1 t⟩
theorem off21_2 : ∀ (t : Fin k0_t1_loop.trips), k0_off21 (BitVec.ofNat 32 (4 * (k0_t2_loop t).trips)) 2#32 = ![0, 256 * (4 * (t.val / 4) + 2), 0] := by decide +kernel
instance (t : Fin k0_t1_loop.trips) : ClosedOff (k0_off21 (BitVec.ofNat 32 (4 * (k0_t2_loop t).trips)) 2#32) := ⟨![0, 256 * (4 * (t.val / 4) + 2), 0], off21_2 t⟩
theorem off22_0 : ∀ (t : Fin k0_t1_loop.trips), k0_off22 (BitVec.ofNat 32 (4 * (k0_t2_loop t).trips)) 0#32 = ![0, 0, 256 * (4 * (t.val / 4) + 0)] := by decide +kernel
instance (t : Fin k0_t1_loop.trips) : ClosedOff (k0_off22 (BitVec.ofNat 32 (4 * (k0_t2_loop t).trips)) 0#32) := ⟨![0, 0, 256 * (4 * (t.val / 4) + 0)], off22_0 t⟩
theorem off22_1 : ∀ (t : Fin k0_t1_loop.trips), k0_off22 (BitVec.ofNat 32 (4 * (k0_t2_loop t).trips)) 1#32 = ![0, 0, 256 * (4 * (t.val / 4) + 1)] := by decide +kernel
instance (t : Fin k0_t1_loop.trips) : ClosedOff (k0_off22 (BitVec.ofNat 32 (4 * (k0_t2_loop t).trips)) 1#32) := ⟨![0, 0, 256 * (4 * (t.val / 4) + 1)], off22_1 t⟩
theorem off22_2 : ∀ (t : Fin k0_t1_loop.trips), k0_off22 (BitVec.ofNat 32 (4 * (k0_t2_loop t).trips)) 2#32 = ![0, 0, 256 * (4 * (t.val / 4) + 2)] := by decide +kernel
instance (t : Fin k0_t1_loop.trips) : ClosedOff (k0_off22 (BitVec.ofNat 32 (4 * (k0_t2_loop t).trips)) 2#32) := ⟨![0, 0, 256 * (4 * (t.val / 4) + 2)], off22_2 t⟩
theorem off23_0 : ∀ (t : Fin k0_t1_loop.trips), k0_off23 (BitVec.ofNat 32 (4 * (k0_t2_loop t).trips)) 0#32 = ![0, 1, 256 * (4 * (t.val / 4) + 0)] := by decide +kernel
instance (t : Fin k0_t1_loop.trips) : ClosedOff (k0_off23 (BitVec.ofNat 32 (4 * (k0_t2_loop t).trips)) 0#32) := ⟨![0, 1, 256 * (4 * (t.val / 4) + 0)], off23_0 t⟩
theorem off23_1 : ∀ (t : Fin k0_t1_loop.trips), k0_off23 (BitVec.ofNat 32 (4 * (k0_t2_loop t).trips)) 1#32 = ![0, 1, 256 * (4 * (t.val / 4) + 1)] := by decide +kernel
instance (t : Fin k0_t1_loop.trips) : ClosedOff (k0_off23 (BitVec.ofNat 32 (4 * (k0_t2_loop t).trips)) 1#32) := ⟨![0, 1, 256 * (4 * (t.val / 4) + 1)], off23_1 t⟩
theorem off23_2 : ∀ (t : Fin k0_t1_loop.trips), k0_off23 (BitVec.ofNat 32 (4 * (k0_t2_loop t).trips)) 2#32 = ![0, 1, 256 * (4 * (t.val / 4) + 2)] := by decide +kernel
instance (t : Fin k0_t1_loop.trips) : ClosedOff (k0_off23 (BitVec.ofNat 32 (4 * (k0_t2_loop t).trips)) 2#32) := ⟨![0, 1, 256 * (4 * (t.val / 4) + 2)], off23_2 t⟩
theorem off24_0 : ∀ (t : Fin k0_t1_loop.trips), k0_off24 (BitVec.ofNat 32 (4 * (k0_t2_loop t).trips)) 0#32 = ![0, 256 * (4 * (t.val / 4) + 0)] := by decide +kernel
instance (t : Fin k0_t1_loop.trips) : ClosedOff (k0_off24 (BitVec.ofNat 32 (4 * (k0_t2_loop t).trips)) 0#32) := ⟨![0, 256 * (4 * (t.val / 4) + 0)], off24_0 t⟩
theorem off24_1 : ∀ (t : Fin k0_t1_loop.trips), k0_off24 (BitVec.ofNat 32 (4 * (k0_t2_loop t).trips)) 1#32 = ![0, 256 * (4 * (t.val / 4) + 1)] := by decide +kernel
instance (t : Fin k0_t1_loop.trips) : ClosedOff (k0_off24 (BitVec.ofNat 32 (4 * (k0_t2_loop t).trips)) 1#32) := ⟨![0, 256 * (4 * (t.val / 4) + 1)], off24_1 t⟩
theorem off24_2 : ∀ (t : Fin k0_t1_loop.trips), k0_off24 (BitVec.ofNat 32 (4 * (k0_t2_loop t).trips)) 2#32 = ![0, 256 * (4 * (t.val / 4) + 2)] := by decide +kernel
instance (t : Fin k0_t1_loop.trips) : ClosedOff (k0_off24 (BitVec.ofNat 32 (4 * (k0_t2_loop t).trips)) 2#32) := ⟨![0, 256 * (4 * (t.val / 4) + 2)], off24_2 t⟩
theorem off25_0 : ∀ (t : Fin k0_t1_loop.trips), k0_off25 (BitVec.ofNat 32 (4 * (k0_t2_loop t).trips)) 0#32 = ![0, 256 * (4 * (t.val / 4) + 0), 0] := by decide +kernel
instance (t : Fin k0_t1_loop.trips) : ClosedOff (k0_off25 (BitVec.ofNat 32 (4 * (k0_t2_loop t).trips)) 0#32) := ⟨![0, 256 * (4 * (t.val / 4) + 0), 0], off25_0 t⟩
theorem off25_1 : ∀ (t : Fin k0_t1_loop.trips), k0_off25 (BitVec.ofNat 32 (4 * (k0_t2_loop t).trips)) 1#32 = ![0, 256 * (4 * (t.val / 4) + 1), 0] := by decide +kernel
instance (t : Fin k0_t1_loop.trips) : ClosedOff (k0_off25 (BitVec.ofNat 32 (4 * (k0_t2_loop t).trips)) 1#32) := ⟨![0, 256 * (4 * (t.val / 4) + 1), 0], off25_1 t⟩
theorem off25_2 : ∀ (t : Fin k0_t1_loop.trips), k0_off25 (BitVec.ofNat 32 (4 * (k0_t2_loop t).trips)) 2#32 = ![0, 256 * (4 * (t.val / 4) + 2), 0] := by decide +kernel
instance (t : Fin k0_t1_loop.trips) : ClosedOff (k0_off25 (BitVec.ofNat 32 (4 * (k0_t2_loop t).trips)) 2#32) := ⟨![0, 256 * (4 * (t.val / 4) + 2), 0], off25_2 t⟩
theorem off25_3 : ∀ (t : Fin k0_t1_loop.trips), k0_off25 (BitVec.ofNat 32 (4 * (k0_t2_loop t).trips)) 3#32 = ![0, 256 * (4 * (t.val / 4) + 3), 0] := by decide +kernel
instance (t : Fin k0_t1_loop.trips) : ClosedOff (k0_off25 (BitVec.ofNat 32 (4 * (k0_t2_loop t).trips)) 3#32) := ⟨![0, 256 * (4 * (t.val / 4) + 3), 0], off25_3 t⟩
theorem off26_0 : ∀ (t : Fin k0_t1_loop.trips), k0_off26 (BitVec.ofNat 32 (4 * (k0_t2_loop t).trips)) 0#32 = ![0, 0, 256 * (4 * (t.val / 4) + 0)] := by decide +kernel
instance (t : Fin k0_t1_loop.trips) : ClosedOff (k0_off26 (BitVec.ofNat 32 (4 * (k0_t2_loop t).trips)) 0#32) := ⟨![0, 0, 256 * (4 * (t.val / 4) + 0)], off26_0 t⟩
theorem off26_1 : ∀ (t : Fin k0_t1_loop.trips), k0_off26 (BitVec.ofNat 32 (4 * (k0_t2_loop t).trips)) 1#32 = ![0, 0, 256 * (4 * (t.val / 4) + 1)] := by decide +kernel
instance (t : Fin k0_t1_loop.trips) : ClosedOff (k0_off26 (BitVec.ofNat 32 (4 * (k0_t2_loop t).trips)) 1#32) := ⟨![0, 0, 256 * (4 * (t.val / 4) + 1)], off26_1 t⟩
theorem off26_2 : ∀ (t : Fin k0_t1_loop.trips), k0_off26 (BitVec.ofNat 32 (4 * (k0_t2_loop t).trips)) 2#32 = ![0, 0, 256 * (4 * (t.val / 4) + 2)] := by decide +kernel
instance (t : Fin k0_t1_loop.trips) : ClosedOff (k0_off26 (BitVec.ofNat 32 (4 * (k0_t2_loop t).trips)) 2#32) := ⟨![0, 0, 256 * (4 * (t.val / 4) + 2)], off26_2 t⟩
theorem off26_3 : ∀ (t : Fin k0_t1_loop.trips), k0_off26 (BitVec.ofNat 32 (4 * (k0_t2_loop t).trips)) 3#32 = ![0, 0, 256 * (4 * (t.val / 4) + 3)] := by decide +kernel
instance (t : Fin k0_t1_loop.trips) : ClosedOff (k0_off26 (BitVec.ofNat 32 (4 * (k0_t2_loop t).trips)) 3#32) := ⟨![0, 0, 256 * (4 * (t.val / 4) + 3)], off26_3 t⟩
theorem off27_0 : ∀ (t : Fin k0_t1_loop.trips), k0_off27 (BitVec.ofNat 32 (4 * (k0_t2_loop t).trips)) 0#32 = ![0, 1, 256 * (4 * (t.val / 4) + 0)] := by decide +kernel
instance (t : Fin k0_t1_loop.trips) : ClosedOff (k0_off27 (BitVec.ofNat 32 (4 * (k0_t2_loop t).trips)) 0#32) := ⟨![0, 1, 256 * (4 * (t.val / 4) + 0)], off27_0 t⟩
theorem off27_1 : ∀ (t : Fin k0_t1_loop.trips), k0_off27 (BitVec.ofNat 32 (4 * (k0_t2_loop t).trips)) 1#32 = ![0, 1, 256 * (4 * (t.val / 4) + 1)] := by decide +kernel
instance (t : Fin k0_t1_loop.trips) : ClosedOff (k0_off27 (BitVec.ofNat 32 (4 * (k0_t2_loop t).trips)) 1#32) := ⟨![0, 1, 256 * (4 * (t.val / 4) + 1)], off27_1 t⟩
theorem off27_2 : ∀ (t : Fin k0_t1_loop.trips), k0_off27 (BitVec.ofNat 32 (4 * (k0_t2_loop t).trips)) 2#32 = ![0, 1, 256 * (4 * (t.val / 4) + 2)] := by decide +kernel
instance (t : Fin k0_t1_loop.trips) : ClosedOff (k0_off27 (BitVec.ofNat 32 (4 * (k0_t2_loop t).trips)) 2#32) := ⟨![0, 1, 256 * (4 * (t.val / 4) + 2)], off27_2 t⟩
theorem off27_3 : ∀ (t : Fin k0_t1_loop.trips), k0_off27 (BitVec.ofNat 32 (4 * (k0_t2_loop t).trips)) 3#32 = ![0, 1, 256 * (4 * (t.val / 4) + 3)] := by decide +kernel
instance (t : Fin k0_t1_loop.trips) : ClosedOff (k0_off27 (BitVec.ofNat 32 (4 * (k0_t2_loop t).trips)) 3#32) := ⟨![0, 1, 256 * (4 * (t.val / 4) + 3)], off27_3 t⟩
theorem off28_0 : ∀ (t : Fin k0_t1_loop.trips), k0_off28 (BitVec.ofNat 32 (4 * (k0_t2_loop t).trips)) 0#32 = ![0, 256 * (4 * (t.val / 4) + 0)] := by decide +kernel
instance (t : Fin k0_t1_loop.trips) : ClosedOff (k0_off28 (BitVec.ofNat 32 (4 * (k0_t2_loop t).trips)) 0#32) := ⟨![0, 256 * (4 * (t.val / 4) + 0)], off28_0 t⟩
theorem off28_1 : ∀ (t : Fin k0_t1_loop.trips), k0_off28 (BitVec.ofNat 32 (4 * (k0_t2_loop t).trips)) 1#32 = ![0, 256 * (4 * (t.val / 4) + 1)] := by decide +kernel
instance (t : Fin k0_t1_loop.trips) : ClosedOff (k0_off28 (BitVec.ofNat 32 (4 * (k0_t2_loop t).trips)) 1#32) := ⟨![0, 256 * (4 * (t.val / 4) + 1)], off28_1 t⟩
theorem off28_2 : ∀ (t : Fin k0_t1_loop.trips), k0_off28 (BitVec.ofNat 32 (4 * (k0_t2_loop t).trips)) 2#32 = ![0, 256 * (4 * (t.val / 4) + 2)] := by decide +kernel
instance (t : Fin k0_t1_loop.trips) : ClosedOff (k0_off28 (BitVec.ofNat 32 (4 * (k0_t2_loop t).trips)) 2#32) := ⟨![0, 256 * (4 * (t.val / 4) + 2)], off28_2 t⟩
theorem off28_3 : ∀ (t : Fin k0_t1_loop.trips), k0_off28 (BitVec.ofNat 32 (4 * (k0_t2_loop t).trips)) 3#32 = ![0, 256 * (4 * (t.val / 4) + 3)] := by decide +kernel
instance (t : Fin k0_t1_loop.trips) : ClosedOff (k0_off28 (BitVec.ofNat 32 (4 * (k0_t2_loop t).trips)) 3#32) := ⟨![0, 256 * (4 * (t.val / 4) + 3)], off28_3 t⟩
theorem off1_ : ∀ (t : Fin k0_t1_loop.trips), k0_off1 t = ![0, 256 * t.val, 0] := by decide +kernel
instance (t : Fin k0_t1_loop.trips) : ClosedOff (k0_off1 t) := ⟨![0, 256 * t.val, 0], off1_ t⟩
theorem off2_ : ∀ (t : Fin k0_t1_loop.trips), k0_off2 t = ![256 * t.val, 0] := by decide +kernel
instance (t : Fin k0_t1_loop.trips) : ClosedOff (k0_off2 t) := ⟨![256 * t.val, 0], off2_ t⟩
theorem off3_ : ∀ (t : Fin k0_t1_loop.trips), k0_off3 t = ![0, 256 * t.val, 0] := by decide +kernel
instance (t : Fin k0_t1_loop.trips) : ClosedOff (k0_off3 t) := ⟨![0, 256 * t.val, 0], off3_ t⟩
theorem off4_ : ∀ (t : Fin k0_t1_loop.trips), k0_off4 t = ![0, 256 * t.val, 1] := by decide +kernel
instance (t : Fin k0_t1_loop.trips) : ClosedOff (k0_off4 t) := ⟨![0, 256 * t.val, 1], off4_ t⟩
theorem off29_ : ∀ (t : Fin k0_t1_loop.trips), k0_off29 t = ![0, 256 * t.val, 0] := by decide +kernel
instance (t : Fin k0_t1_loop.trips) : ClosedOff (k0_off29 t) := ⟨![0, 256 * t.val, 0], off29_ t⟩
theorem off30_ : ∀ (t : Fin k0_t1_loop.trips), k0_off30 t = ![0, 256 * t.val, 0] := by decide +kernel
instance (t : Fin k0_t1_loop.trips) : ClosedOff (k0_off30 t) := ⟨![0, 256 * t.val, 0], off30_ t⟩
theorem off31_ : ∀ (t : Fin k0_t1_loop.trips), k0_off31 t = ![0, 256 * t.val, 1] := by decide +kernel
instance (t : Fin k0_t1_loop.trips) : ClosedOff (k0_off31 t) := ⟨![0, 256 * t.val, 1], off31_ t⟩

section Inner
variable (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x2x4096 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x4096x2 .f32) (harg8 : arg8.IsWhole) (arg9 : Memref sig .tc .vmem S3x4096x128 .bf16) (harg9 : arg9.IsWhole) (arg10 : Memref sig .tc .vmem S1x2x4096 .f32) (harg10 : arg10.IsWhole) (arg11 : Memref sig .tc .vmem S1x4096x2 .f32) (harg11 : arg11.IsWhole) (arg12 : Memref sig .tc .vmem S128x4096 .f32) (harg12 : arg12.IsWhole) (arg13 : Memref sig .tc .vmem S128x4096 .f32) (harg13 : arg13.IsWhole) (v2 : IVec S1x128 1) (k0_t1 : Fin k0_t1_loop.trips) (arg14 : BitVec 32) (v211 : BitVec 32) (v220 : FVec F S256x128 .bf16) (v223 : FVec F S256x128 .bf16) (v228 : FVec F S256x128 .f32) (v233 : FVec F S256x128 .bf16) (v236 : FVec F S256x128 .bf16) (v239 : FVec F S128x256 .bf16) (v242 : FVec F S128x256 .bf16) (v245 : FVec F S128x256 .bf16) (v248 : FVec F S128x256 .bf16) (v254 : FVec F S256x1 .f32) (v256 : IVec S256x128 1) (v257 : FVec F S256x128 .f32) (v262 : Vec F S1x256x1 .f32) (v265 : Vec F S1x256x1 .f32)
  (X3 : BufTy.Contents (Elt F) arg3.view.ty) (X4 : BufTy.Contents (Elt F) arg4.view.ty) (X5 : BufTy.Contents (Elt F) arg5.view.ty)

abbrev inv_t2 (k : ℕ) (acc : BitVec 32 × FVec F S256x128 .f32 × FVec F S256x1 .f32 × FVec F S256x1 .f32) : sProp 𝕄 :=
  iprop(⌜acc.1 = BitVec.ofNat 32 (4 * k)⌝ ∗ at_ c arg3 X3 ∗ at_ c arg4 X4 ∗ at_ c arg5 X5 ∗ (∃ g, at_ c arg10 g) ∗ (∃ g, at_ c arg12 g) ∗ (∃ g, at_ c arg13 g))

theorem trip_t2 (k : Fin (k0_t2_loop k0_t1).trips) (acc : BitVec 32 × FVec F S256x128 .f32 × FVec F S256x1 .f32 × FVec F S256x1 .f32) :
    inv_t2 c arg3 arg4 arg5 arg10 arg12 arg13 X3 X4 X5 k.val acc
      ⊢ wp frame (wpE (defs₀ (F := F)) Variants.none (c : Thread nD τ) none) Set.univ
        (k0_t2_body (F := F) i arg2 harg2 arg3 harg3 arg4 harg4 arg5 harg5 arg6 harg6 arg7 harg7 arg8 harg8 arg9 harg9 arg10 harg10 arg11 harg11 arg12 harg12 arg13 harg13 v2 k0_t1 arg14 v211 v220 v223 v228 v233 v236 v239 v242 v245 v248 v254 v256 v257 v262 v265 k acc)
        (inv_t2 c arg3 arg4 arg5 arg10 arg12 arg13 X3 X4 X5 (k.val + 1)) := by
  obtain ⟨a0, a1, a2, a3⟩ := acc
  have hc := chk1_ok k0_t1 k
  unfold k0_t2_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  iintro ⟨%hacc, H3, H4, H5, ⟨%f10, H10⟩, ⟨%f12, H12⟩, ⟨%f13, H13⟩⟩
  dsimp only at hacc; subst hacc
  sl_exec (disch := first | sl_exact hc)
  sl_step
  isplitr
  · ipureintro
    show BitVec.ofNat 32 (4 * k.val) + 4#32 = _
    rw [Nat.mul_add, BitVec.ofNat_add]
  isplitl [H3]; · iexact H3
  isplitl [H4]; · iexact H4
  isplitl [H5]; · iexact H5
  isplitl [H10]; · iexists _; iexact H10
  isplitl [H12]; · iexists _; iexact H12
  iexists _; iexact H13

set_option warn.classDefReducibility false in
@[sl_loop] def loopInv_t2 (init : BitVec 32 × FVec F S256x128 .f32 × FVec F S256x1 .f32 × FVec F S256x1 .f32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 k0_t1 arg14 v211 v220 v223 v228 v233 v236 v239 v242 v245 v248 v254 v256 v257 v262 v265 init where
  inv k acc := inv_t2 c arg3 arg4 arg5 arg10 arg12 arg13 X3 X4 X5 k acc
  step k acc := trip_t2 c i arg2 harg2 arg3 harg3 arg4 harg4 arg5 harg5 arg6 harg6 arg7 harg7 arg8 harg8 arg9 harg9 arg10 harg10 arg11 harg11 arg12 harg12 arg13 harg13 v2 k0_t1 arg14 v211 v220 v223 v228 v233 v236 v239 v242 v245 v248 v254 v256 v257 v262 v265 X3 X4 X5 k acc

set_option warn.classDefReducibility false in
@[sl_loop] def loopInv_t3 (v291 : BitVec 32) (init : BitVec 32 × FVec F S256x128 .f32 × FVec F S256x1 .f32 × FVec F S256x1 .f32) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 k0_t1 arg14 v211 v220 v223 v228 v233 v236 v239 v242 v245 v248 v254 v256 v257 v262 v265 v291 init where
  inv _ acc := iprop(⌜acc = init⌝ ∗ at_ c arg3 X3 ∗ at_ c arg4 X4 ∗ at_ c arg5 X5 ∗ (∃ g, at_ c arg10 g) ∗ (∃ g, at_ c arg12 g) ∗ (∃ g, at_ c arg13 g))
  step k acc := (Nat.not_lt_zero _ (Nat.lt_of_lt_of_eq k.isLt (trips_t3 k0_t1))).elim

end Inner

section Outer
variable (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x2x4096 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x4096x2 .f32) (harg8 : arg8.IsWhole) (arg9 : Memref sig .tc .vmem S3x4096x128 .bf16) (harg9 : arg9.IsWhole) (arg10 : Memref sig .tc .vmem S1x2x4096 .f32) (harg10 : arg10.IsWhole) (arg11 : Memref sig .tc .vmem S1x4096x2 .f32) (harg11 : arg11.IsWhole) (arg12 : Memref sig .tc .vmem S128x4096 .f32) (harg12 : arg12.IsWhole) (arg13 : Memref sig .tc .vmem S128x4096 .f32) (harg13 : arg13.IsWhole) (v3 : IVec S256x256 32) (v4 : IVec S256x256 32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

abbrev inv_t1 (k : ℕ) : sProp 𝕄 :=
  iprop(at_ c arg2 X2 ∗ at_ c arg3 X3 ∗ at_ c arg4 X4 ∗ at_ c arg5 X5 ∗ at_ c arg6 X6 ∗ at_ c arg7 X7 ∗ at_ c arg8 X8
    ∗ (∃ g, at_ c arg9 g) ∗ (∃ g, at_ c arg10 g) ∗ (∃ g, at_ c arg11 g) ∗ (∃ g, at_ c arg12 g) ∗ (∃ g, at_ c arg13 g))

set_option maxHeartbeats 4000000 in
theorem trip_t1 (k : Fin k0_t1_loop.trips) (u : Unit) :
    inv_t1 c arg2 arg3 arg4 arg5 arg6 arg7 arg8 arg9 arg10 arg11 arg12 arg13 X2 X3 X4 X5 X6 X7 X8 k.val
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 v3 v4 k u)
        (fun _ => inv_t1 c arg2 arg3 arg4 arg5 arg6 arg7 arg8 arg9 arg10 arg11 arg12 arg13 X2 X3 X4 X5 X6 X7 X8 (k.val + 1)) := by
  have hc := chk3_ok k
  unfold k0_t1_body
  simp only [k0_part41_eq_skeleton, k0_part42_eq_skeleton]
  iintro ⟨H2, H3, H4, H5, H6, H7, H8, ⟨%f9, H9⟩, ⟨%f10, H10⟩, ⟨%f11, H11⟩, ⟨%f12, H12⟩, ⟨%f13, H13⟩⟩
  sl_exec (disch := first | sl_exact hc)
  rename_i acc
  obtain ⟨a0, a1, a2, a3⟩ := acc
  have hL : a0 = BitVec.ofNat 32 (4 * (k0_t2_loop k).trips) := by assumption
  clear hL0
  subst hL
  by_cases h1 : k0_cond1 k = 1#1
  · by_cases h2 : k0_cond2 k = 1#1
    · simp only [k0_part19_eq_skeleton, k0_part20_eq_skeleton]
      sl_exec (disch := first | sl_exact hc | sl_exact h1 | sl_exact h2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iexists _; iexact H13
    · simp only [k0_part21_eq_skeleton, k0_part22_eq_skeleton, k0_part23_eq_skeleton, k0_part24_eq_skeleton]
      sl_exec (disch := first | sl_exact hc | sl_exact h1 | sl_exact h2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iexists _; iexact H13
  · by_cases h3 : k0_cond3 k = 1#1
    · simp only [k0_part31_eq_skeleton]
      sl_exec (disch := first | sl_exact hc | sl_exact h1 | sl_exact h3)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iexists _; iexact H13
    · simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
      sl_exec (disch := first | sl_exact hc | sl_exact h1 | sl_exact h3)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iexists _; iexact H13

set_option warn.classDefReducibility false in
@[sl_loop] def loopInv_t1 :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v3 v4 where
  inv k _ := inv_t1 c arg2 arg3 arg4 arg5 arg6 arg7 arg8 arg9 arg10 arg11 arg12 arg13 X2 X3 X4 X5 X6 X7 X8 k
  step k u := trip_t1 c i arg2 harg2 arg3 harg3 arg4 harg4 arg5 harg5 arg6 harg6 arg7 harg7 arg8 harg8 arg9 harg9 arg10 harg10 arg11 harg11 arg12 harg12 arg13 harg13 v3 v4 X2 X3 X4 X5 X6 X7 X8 k u

end Outer

set_option maxHeartbeats 4000000 in
theorem body_run (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x2x4096 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x4096x2 .f32) (harg8 : arg8.IsWhole) (arg9 : Memref sig .tc .vmem S3x4096x128 .bf16) (harg9 : arg9.IsWhole) (arg10 : Memref sig .tc .vmem S1x2x4096 .f32) (harg10 : arg10.IsWhole) (arg11 : Memref sig .tc .vmem S1x4096x2 .f32) (harg11 : arg11.IsWhole) (arg12 : Memref sig .tc .vmem S128x4096 .f32) (harg12 : arg12.IsWhole) (arg13 : Memref sig .tc .vmem S128x4096 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    inv_t1 c arg2 arg3 arg4 arg5 arg6 arg7 arg8 arg9 arg10 arg11 arg12 arg13 X2 X3 X4 X5 X6 X7 X8 0
      ⊢ wp frame (wpE (defs₀ (F := F)) Variants.none (c : Thread nD τ) none) Set.univ
        (cc0_fox_bwd (F := F) i arg2 harg2 arg3 harg3 arg4 harg4 arg5 harg5 arg6 harg6 arg7 harg7 arg8 harg8 arg9 harg9 arg10 harg10 arg11 harg11 arg12 harg12 arg13 harg13)
        (fun _ => inv_t1 c arg2 arg3 arg4 arg5 arg6 arg7 arg8 arg9 arg10 arg11 arg12 arg13 X2 X3 X4 X5 X6 X7 X8 16) := by
  simp only [cc0_fox_bwd_eq_skeleton]
  unfold cc0_fox_bwd_skel
  simp only [k0_part43_eq_skeleton, k0_part44_eq_skeleton, k0_part45_eq_skeleton, k0_part46_eq_skeleton, k0_part47_eq_skeleton, k0_part48_eq_skeleton, k0_part49_eq_skeleton]
  iintro ⟨H2, H3, H4, H5, H6, H7, H8, ⟨%f9, H9⟩, ⟨%f10, H10⟩, ⟨%f11, H11⟩, ⟨%f12, H12⟩, ⟨%f13, H13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

end Cert.Proof.Fox
-- ==== Proof.FoxFrame.lean ====
/- The frame of the attention gradient kernel: its launch, with the three outputs forgotten. -/
module

public import proofs.«01_k».proof.Proof.Gen.KernelIdeal.Frame
public import proofs.«01_k».proof.Proof.Fox

@[expose] public section

set_option maxRecDepth 16384

noncomputable section

namespace Cert.Proof.FoxFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Fox

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sg0 (t : Fin cfg0.N) : Memref sig .tc .vmem S1x4096x128 .bf16 := win0_0.stage (cfg0.slots t 0)
abbrev sgw0 (t : Fin cfg0.N) : (sg0 t).IsWhole := hstage0_0 ((cfg0.slots t 0).cast nbuf0_0)
abbrev sg1 (t : Fin cfg0.N) : Memref sig .tc .vmem S1x4096x128 .bf16 := win0_1.stage (cfg0.slots t 1)
abbrev sgw1 (t : Fin cfg0.N) : (sg1 t).IsWhole := hstage0_1 ((cfg0.slots t 1).cast nbuf0_1)
abbrev sg2 (t : Fin cfg0.N) : Memref sig .tc .vmem S1x4096x128 .bf16 := win0_2.stage (cfg0.slots t 2)
abbrev sgw2 (t : Fin cfg0.N) : (sg2 t).IsWhole := hstage0_2 ((cfg0.slots t 2).cast nbuf0_2)
abbrev sg3 (t : Fin cfg0.N) : Memref sig .tc .vmem S1x2x4096 .f32 := win0_3.stage (cfg0.slots t 3)
abbrev sgw3 (t : Fin cfg0.N) : (sg3 t).IsWhole := hstage0_3 ((cfg0.slots t 3).cast nbuf0_3)
abbrev sg4 (t : Fin cfg0.N) : Memref sig .tc .vmem S4096x128 .f32 := win0_4.stage (cfg0.slots t 4)
abbrev sgw4 (t : Fin cfg0.N) : (sg4 t).IsWhole := hstage0_4 ((cfg0.slots t 4).cast nbuf0_4)
abbrev sg5 (t : Fin cfg0.N) : Memref sig .tc .vmem S4096x128 .f32 := win0_5.stage (cfg0.slots t 5)
abbrev sgw5 (t : Fin cfg0.N) : (sg5 t).IsWhole := hstage0_5 ((cfg0.slots t 5).cast nbuf0_5)
abbrev sg6 (t : Fin cfg0.N) : Memref sig .tc .vmem S1x4096x2 .f32 := win0_6.stage (cfg0.slots t 6)
abbrev sgw6 (t : Fin cfg0.N) : (sg6 t).IsWhole := hstage0_6 ((cfg0.slots t 6).cast nbuf0_6)
abbrev sg7 (t : Fin cfg0.N) : Memref sig .tc .vmem S3x4096x128 .bf16 := win0_7.stage (cfg0.slots t 7)
abbrev sgw7 (t : Fin cfg0.N) : (sg7 t).IsWhole := hstage0_7 ((cfg0.slots t 7).cast nbuf0_7)
abbrev sg8 (t : Fin cfg0.N) : Memref sig .tc .vmem S1x2x4096 .f32 := win0_8.stage (cfg0.slots t 8)
abbrev sgw8 (t : Fin cfg0.N) : (sg8 t).IsWhole := hstage0_8 ((cfg0.slots t 8).cast nbuf0_8)
abbrev sg9 (t : Fin cfg0.N) : Memref sig .tc .vmem S1x4096x2 .f32 := win0_9.stage (cfg0.slots t 9)
abbrev sgw9 (t : Fin cfg0.N) : (sg9 t).IsWhole := hstage0_9 ((cfg0.slots t 9).cast nbuf0_9)
abbrev acc0 : Memref sig .tc .vmem S128x4096 .f32 := Memref.whole cc0_scratch0
abbrev acc1 : Memref sig .tc .vmem S128x4096 .f32 := Memref.whole cc0_scratch1

theorem rest_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-- The outputs nothing is said of. -/
def lost : Fin 10 → Bool := fun w => w.val == 7 || w.val == 8 || w.val == 9

/-- Each input buffer is left at its block; the outputs are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem leaves_0 (c : Dev nD) (t : Fin cfg0.N) : (dats m 0 c).leavesExact 0 t = owns (c : Thread nD τ) (sg0 t) fullShare (iblk m c 0 t) := by
  unfold Dat.leavesExact
  rw [show cfg0.idle 0 (grid0.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem leaves_1 (c : Dev nD) (t : Fin cfg0.N) : (dats m 0 c).leavesExact 1 t = owns (c : Thread nD τ) (sg1 t) fullShare (iblk m c 1 t) := by
  unfold Dat.leavesExact
  rw [show cfg0.idle 1 (grid0.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
theorem leaves_2 (c : Dev nD) (t : Fin cfg0.N) : (dats m 0 c).leavesExact 2 t = owns (c : Thread nD τ) (sg2 t) fullShare (iblk m c 2 t) := by
  unfold Dat.leavesExact
  rw [show cfg0.idle 2 (grid0.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (dats_A m c 3) (after_3 m c) t d
theorem leaves_3 (c : Dev nD) (t : Fin cfg0.N) : (dats m 0 c).leavesExact 3 t = owns (c : Thread nD τ) (sg3 t) fullShare (iblk m c 3 t) := by
  unfold Dat.leavesExact
  rw [show cfg0.idle 3 (grid0.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (dats_A m c 4) (after_4 m c) t d
theorem leaves_4 (c : Dev nD) (t : Fin cfg0.N) : (dats m 0 c).leavesExact 4 t = owns (c : Thread nD τ) (sg4 t) fullShare (iblk m c 4 t) := by
  unfold Dat.leavesExact
  rw [show cfg0.idle 4 (grid0.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (dats_A m c 5) (after_5 m c) t d
theorem leaves_5 (c : Dev nD) (t : Fin cfg0.N) : (dats m 0 c).leavesExact 5 t = owns (c : Thread nD τ) (sg5 t) fullShare (iblk m c 5 t) := by
  unfold Dat.leavesExact
  rw [show cfg0.idle 5 (grid0.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (dats_A m c 6) (after_6 m c) t d
theorem leaves_6 (c : Dev nD) (t : Fin cfg0.N) : (dats m 0 c).leavesExact 6 t = owns (c : Thread nD τ) (sg6 t) fullShare (iblk m c 6 t) := by
  unfold Dat.leavesExact
  rw [show cfg0.idle 6 (grid0.coords t) = false from rfl, after_6]

def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d))
    ∗ (∃ d, owns (c : Thread nD τ) (sg6 t) fullShare ((dats m 0 c).before 6 t d))
    ∗ (∃ d, owns (c : Thread nD τ) (sg7 t) fullShare d)
    ∗ (∃ d, owns (c : Thread nD τ) (sg8 t) fullShare d)
    ∗ (∃ d, owns (c : Thread nD τ) (sg9 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (sg7 t) fullShare d)
    ∗ (∃ d, owns (c : Thread nD τ) (sg8 t) fullShare d)
    ∗ (∃ d, owns (c : Thread nD τ) (sg9 t) fullShare d))

set_option maxHeartbeats 4000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, rest_eq]
  unfold owns
  iintro ⟨⟨⟨⟨%e0, %g0, %w0, HS0⟩, ⟨%e1, %g1, %w1, HS1⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩⟩
  iapply (wp_wand_r frame (wpE (defs₀ (F := F)) Variants.none (c : Thread nD τ) none) Set.univ)
  isplitl [H0 H1 H2 H3 H4 H5 H6 H7 H8 H9 HS0 HS1]
  · iapply (body_run c (grid0.coords t) _ (sgw0 t) _ (sgw1 t) _ (sgw2 t) _ (sgw3 t) _ (sgw4 t) _ (sgw5 t) _ (sgw6 t) _ (sgw7 t) _ (sgw8 t) _ (sgw9 t) acc0 (Memref.isWhole_whole _) acc1 (Memref.isWhole_whole _) f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexists _; iexact HS0
    iexists _; iexact HS1
  iintro %u ⟨H0, H1, H2, H3, H4, H5, H6, ⟨%x7, H7⟩, ⟨%x8, H8⟩, ⟨%x9, H9⟩, ⟨%y0, HS0⟩, ⟨%y1, HS1⟩⟩
  isplitl [HS0 HS1 Hg]
  · isplitl [HS0 HS1]
    · isplitl [HS0]
      · iexists _, _; isplitr; swap; · iexact HS0
        ipureintro; rfl
      iexists _, _; isplitr; swap; · iexact HS1
      ipureintro; rfl
    iexact Hg
  isplitl [Ho]; · iexact Ho
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ lost := fun t => by
  rw [bigSep_W0, bigSep_W0, row]
  exact triple_restated (body_at m c t) rfl .rfl fun _ => .rfl

set_option backward.isDefEq.respectTransparency.types false in
theorem launched : θ_run defs (onTc (τ := τ) (main (F := F))) (s₀ m ρ) (fun r => (Pipeline.RDat.FramePost (cfgs 0) (fun c => (dats m 0 c).toRForget lost) (V m)) r ∧ r.2.sem = fun _ => 0) :=
  Pipeline.θ_run_frame_track_forget_shared (Q' := _) cfgs (dats m) (0 : Fin 1) launch₀0 defs₀ Variants.none lost m ρ main
    (hbody := fun c => (obligation m c).loose) (hq := fun _ _ _ => rfl)
    (howed := fun _ _ => rfl) (V := V m) (hmain := hmain m Variants.none) (hA := dats_A m) (hin := fun _ => .rfl) (hout := fun _ => .rfl)

/-- The run ends, leaves the argument arrays as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (launched m ρ)
  have a := fun w hw => Pipeline.RDat.FramePost.arr_in h.1 c w hw
  exact ⟨(a 2 rfl).trans ((dats_A m c 2).trans (V_main_arg0 m c)), (a 3 rfl).trans ((dats_A m c 3).trans (V_main_arg1 m c)),
    (a 4 rfl).trans ((dats_A m c 4).trans (V_main_arg2 m c)), (a 5 rfl).trans ((dats_A m c 5).trans (V_main_arg3 m c)),
    (a 6 rfl).trans ((dats_A m c 6).trans (V_main_arg4 m c))⟩

end Cert.Proof.FoxFrame
-- ==== Proof.GateBack.lean ====
module

public import proofs.«01_k».proof.Defs
public import proofs.«01_k».proof.Proof.Gen.Kernel39.Frame
public import proofs.«01_k».proof.Proof.Gen.Kernel39Ideal.Value
public import proofs.«01_k».proof.Proof.Gen.Reference39Ideal.Read
public import Idealize.ShloMosaic.Lib.Pipeline.ValueKit
public import Idealize.ShloMosaic.Lib.Pipeline.ReadBack

/-! The gradient of the forget gates' product at its input, added to that of the queries, keys and values. -/

@[expose] public section

set_option maxRecDepth 16384

noncomputable section

open Idealize.ShloMosaic Idealize.ShloMosaic.TcCoe Idealize.SL.Sem
open Idealize.ShloMosaic.Pipeline (Dat)

namespace Cert.Proof.GateBack

open Cert.Kernel39Ideal Cert.Kernel39Ideal.Gen

/-- One element of the gradient. -/
def prod (d : Vec Ideal S16x8192 .f32) (w : Vec Ideal S16x1024 .bf16) (a : Vec Ideal S8192x1024 .f32) (t : Fin 8192) (l : Fin 1024) : EReal :=
  (∑ n : Fin 16, (d (ix2 n t) : EReal) * w (ix2 n l)) + a (ix2 t l)

theorem out_apply (d : Vec Ideal S16x1024 .f32) (w : Vec Ideal S16x1024 .bf16) (a : Vec Ideal S1024x1024 .f32) (r : Fin 1024) (l : Fin 1024) :
    out0_3 d w a (ix2 r l) = (∑ n : Fin 16, (d (ix2 n r) : EReal) * w (ix2 n l)) + a (ix2 r l) := by
  unfold out0_3
  rw [View.canon_unit_zero (funext fun a => by fin_cases a <;> rfl)]
  pointwise [k0_pay1]

theorem ref_apply (d : Vec Ideal S16x8192 .f32) (w : Vec Ideal S16x1024 .bf16) (a : Vec Ideal S8192x1024 .f32) (t : Fin 8192) (l : Fin 1024) :
    Cert.Reference39Ideal.Read.val_main_v7 d w a (ix2 t l) = prod d w a t l := by
  pointwise [Cert.Reference39Ideal.Read.val_main_v7, Cert.Reference39Ideal.Read.val_main_v6, Cert.Reference39Ideal.Read.val_main_v5, Cert.Reference39Ideal.Read.val_main_v1, Cert.Reference39Ideal.Read.val_main_v0]
  rfl

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem step_lt (t : Fin cfg0.N) : t.val < 8 := lt_of_lt_of_eq t.isLt N_0

/-- The kernel's whole result. -/
theorem final (m : (ℓ : Loc nD τ sig) → Buf (Elt Ideal) ℓ) (c : Dev nD) : (dats m 0 c).arrAt 3 cfg0.N = Cert.Reference39Ideal.Read.val_main_v7 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have hh := step_lt t
  have e : ((View.whole main_v0).slice (win0_3.rect t)).emb (ix2 y0 y1) = ix2 ⟨1024 * t.val + y0.val, by omega⟩ y1 := by
    blk_ext [idx3 t]
  rw [e, ref_apply, out_apply]
  unfold prod
  change (_ : EReal) = (_ : EReal)
  refine congrArg₂ (· + ·) (Finset.sum_congr rfl fun n _ => congrArg₂ (· * ·) ?_ ?_) ?_ <;> blk_ext [iblk, V, idx0 t, idx1 t, idx2 t]

/-- The kernel and the reference compute the same result. -/
theorem algebraic : algebraic_Kernel39Ideal_Reference39Ideal := by
  intro m g m' g' _ hargs
  refine ⟨fun c => (dats m 0 c).arrAt 3 cfg0.N, Cert.Kernel39Ideal.Value.run_blocks m g, ?_⟩
  refine (θ_run _ _ _).mono (fun r h c => ?_) (Cert.Reference39Ideal.Value.run (F := Ideal) m' g')
  obtain ⟨h0, h1, h2⟩ := hargs c
  refine ⟨((h c).1.trans ?_), (h c).2⟩
  show _ = (dats m 0 c).arrAt 3 cfg0.N
  rw [final m c, h0, h1, h2]
  exact Cert.Reference39Ideal.Read.val_main_v7_eq _ _ _

end Cert.Proof.GateBack
-- ==== Proof.GateDw.lean ====
module

public import proofs.«01_k».proof.Defs
public import proofs.«01_k».proof.Proof.FfnSum
public import proofs.«01_k».proof.Proof.Gen.Kernel38.Frame
public import proofs.«01_k».proof.Proof.Gen.Kernel38Ideal.Value
public import proofs.«01_k».proof.Proof.Gen.Reference38Ideal.Read
public import Idealize.ShloMosaic.Lib.Pipeline.ValueKit
public import Idealize.ShloMosaic.Lib.Pipeline.ReadBack

/-! The gradient of the forget gates' weights: eight products accumulated over the tokens. -/

@[expose] public section

set_option maxRecDepth 16384

noncomputable section

open Idealize.ShloMosaic Idealize.ShloMosaic.TcCoe Idealize.SL.Sem
open Idealize.ShloMosaic.Pipeline (Dat)

namespace Cert.Proof.GateDw

open Cert.Kernel38Ideal Cert.Kernel38Ideal.Gen Cert.Proof.Ffn

variable (m : (ℓ : Loc nD τ sig) → Buf (Elt Ideal) ℓ) (c : Dev nD)

/-- The product of one block of tokens. -/
def part (x0 : Vec Ideal S16x1024 .f32) (x1 : Vec Ideal S1024x1024 .bf16) (j : S16x1024.Idx) : EReal :=
  ∑ k : Fin 1024, (x0 (ix2 (j 0) k) : EReal) * x1 (ix2 k (j 1))

theorem first_apply (x0 : Vec Ideal S16x1024 .f32) (x1 : Vec Ideal S1024x1024 .bf16) (j : S16x1024.Idx) :
    k0_pay2 x0 x1 j = part x0 x1 j := by
  idx_vars j
  pointwise [k0_pay2, k0_pay1, part]

theorem later_apply (x0 : Vec Ideal S16x1024 .f32) (x1 : Vec Ideal S1024x1024 .bf16) (xs : Vec Ideal S16x1024 .f32) (j : S16x1024.Idx) :
    k0_pay3 x0 x1 xs j = xs j + part x0 x1 j := by
  idx_vars j
  pointwise [k0_pay3, k0_pay1, part]

/-- What a grid point after the first leaves in the accumulator. -/
theorem step_later (t : Fin cfg0.N) (h0 : ¬t.val % 8 = 0) (j : S16x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 (by omega) h1]
    frame_out
    rw [read_unread_whole]
    exact later_apply _ _ _ j
  · rw [outsAt0_B m c t h0 (by omega) h1]
    frame_out
    rw [read_unread_whole]
    exact later_apply _ _ _ j

/-- What the first grid point leaves in the accumulator. -/
theorem step_first (t : Fin cfg0.N) (h0 : t.val % 8 = 0) (j : S16x1024.Idx) :
    (outsAt0 m c t.val t.isLt).2 j = 0 + part (iblk m c 0 t) (iblk m c 1 t) j := by
  have ht := t.isLt
  have hN : cfg0.N = 8 := by decide +kernel
  rw [outsAt0_A m c t h0 (by omega) (by omega), zero_add]
  frame_out
  exact first_apply _ _ j

/-- What the last grid point writes back is the accumulator. -/
theorem out_last (t : Fin cfg0.N) (h1 : t.val % 8 = 7) : (outsAt0 m c t.val t.isLt).1 = (outsAt0 m c t.val t.isLt).2 := by
  rw [outsAt0_C m c t (by omega) (by omega) h1]
  frame_out

theorem idx0 : ∀ t : Fin cfg0.N, win0_0.index t = ![0, t.val] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The reference's gradient at one element, block of tokens by block of tokens. -/
theorem ref_apply (a : Vec Ideal S16x8192 .f32) (b : Vec Ideal S8192x1024 .bf16) (r : Fin 16) (l : Fin 1024) :
    Cert.Reference38Ideal.Read.val_main_v8 a b (ix2 r l)
      = ∑ s : Fin 8, ∑ n : Fin 1024, (a (ix2 r ⟨1024 * s.val + n.val, by omega⟩) : EReal) * b (ix2 ⟨1024 * s.val + n.val, by omega⟩ l) := by
  pointwise [Cert.Reference38Ideal.Read.val_main_v8, Cert.Reference38Ideal.Read.val_main_v7, Cert.Reference38Ideal.Read.val_main_v6, Cert.Reference38Ideal.Read.val_main_v5, Cert.Reference38Ideal.Read.val_main_v0]
  rw [sum_tokens]

def tLast : Fin cfg0.N := ⟨7, lt_of_lt_of_eq (by decide) N_0.symm⟩

/-- The accumulator after the last grid point: every block's product. -/
theorem acc_last (j : S16x1024.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S16x1024.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference38Ideal.Read.val_main_v8 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  rw [after0_2, out_last m c tLast (by decide)]
  idx_vars y
  have e : ((View.whole main_v0).slice (win0_2.rect tLast)).emb (ix2 y0 y1) = ix2 y0 y1 := by
    blk_ext [idx2]
  rw [e, ref_apply]
  refine (acc_last m c (ix2 y0 y1)).trans ?_
  unfold part
  refine Finset.sum_congr rfl fun s _ => Finset.sum_congr rfl fun n _ => ?_
  congr 1 <;> blk_ext [iblk, V, idx0, idx1, Fin.val_cast]

/-- The kernel and the reference compute the same result. -/
theorem algebraic : algebraic_Kernel38Ideal_Reference38Ideal := by
  intro m g m' g' _ hargs
  refine ⟨fun c => (dats m 0 c).arrAt 2 cfg0.N, Cert.Kernel38Ideal.Value.run_blocks m g, ?_⟩
  refine (θ_run _ _ _).mono (fun r h c => ?_) (Cert.Reference38Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference38Ideal.Read.val_main_v8_eq _ _

end Cert.Proof.GateDw
-- ==== Proof.GateProj.lean ====
module

public import proofs.«01_k».proof.Defs
public import proofs.«01_k».proof.Proof.Gen.Kernel37.Frame
public import proofs.«01_k».proof.Proof.Gen.Kernel37Ideal.Value
public import proofs.«01_k».proof.Proof.Gen.Reference37Ideal.Read
public import Idealize.ShloMosaic.Lib.Pipeline.ValueKit
public import Idealize.ShloMosaic.Lib.Pipeline.ReadBack

/-! The forget gates' input product. -/

@[expose] public section

set_option maxRecDepth 16384

noncomputable section

open Idealize.ShloMosaic Idealize.ShloMosaic.TcCoe Idealize.SL.Sem
open Idealize.ShloMosaic.Pipeline (Dat)

namespace Cert.Proof.GateProj

open Cert.Kernel37Ideal Cert.Kernel37Ideal.Gen

/-- One element of the product. -/
def prod (w : Vec Ideal S16x1024 .bf16) (h : Vec Ideal S8192x1024 .bf16) (r : Fin 16) (t : Fin 8192) : EReal :=
  ∑ n : Fin 1024, (w (ix2 r n) : EReal) * h (ix2 t n)

theorem out_apply (w : Vec Ideal S16x1024 .bf16) (h : Vec Ideal S1024x1024 .bf16) (r : Fin 16) (l : Fin 1024) :
    out0_2 w h (ix2 r l) = (∑ n : Fin 1024, (w (ix2 r n) : EReal) * h (ix2 l n)) := by
  unfold out0_2
  rw [View.canon_unit_zero (funext fun a => by fin_cases a <;> rfl)]
  pointwise [k0_pay1]

theorem ref_apply (w : Vec Ideal S16x1024 .bf16) (h : Vec Ideal S8192x1024 .bf16) (r : Fin 16) (t : Fin 8192) :
    Cert.Reference37Ideal.Read.val_main_v4 w h (ix2 r t) = prod w h r t := by
  pointwise [Cert.Reference37Ideal.Read.val_main_v4, Cert.Reference37Ideal.Read.val_main_v3, Cert.Reference37Ideal.Read.val_main_v2, Cert.Reference37Ideal.Read.val_main_v1, Cert.Reference37Ideal.Read.val_main_v0]
  exact Finset.sum_congr rfl fun k _ => mul_comm _ _

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

theorem step_lt (t : Fin cfg0.N) : t.val < 8 := lt_of_lt_of_eq t.isLt N_0

/-- The kernel's whole result. -/
theorem final (m : (ℓ : Loc nD τ sig) → Buf (Elt Ideal) ℓ) (c : Dev nD) : (dats m 0 c).arrAt 2 cfg0.N = Cert.Reference37Ideal.Read.val_main_v4 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have hh := step_lt t
  have e : ((View.whole main_v0).slice (win0_2.rect t)).emb (ix2 y0 y1) = ix2 y0 ⟨1024 * t.val + y1.val, by omega⟩ := by
    blk_ext [idx2 t]
  rw [e, ref_apply, out_apply]
  unfold prod
  change (_ : EReal) = (_ : EReal)
  refine Finset.sum_congr rfl fun n _ => ?_
  congr 1 <;> blk_ext [iblk, V, idx0 t, idx1 t]

/-- The kernel and the reference compute the same result. -/
theorem algebraic : algebraic_Kernel37Ideal_Reference37Ideal := by
  intro m g m' g' _ hargs
  refine ⟨fun c => (dats m 0 c).arrAt 2 cfg0.N, Cert.Kernel37Ideal.Value.run_blocks m g, ?_⟩
  refine (θ_run _ _ _).mono (fun r h c => ?_) (Cert.Reference37Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference37Ideal.Read.val_main_v4_eq _ _

end Cert.Proof.GateProj
-- ==== Proof.GmOut.lean ====
module

public import proofs.«01_k».proof.Defs
public import proofs.«01_k».proof.Proof.FfnSum
public import proofs.«01_k».proof.Proof.Gen.Kernel12.Frame
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

/-! The gated mixer's output product, per block of 1024 tokens. -/

@[expose] public section

set_option maxRecDepth 16384

noncomputable section

open Idealize.ShloMosaic Idealize.ShloMosaic.TcCoe Idealize.SL.Sem
open Idealize.ShloMosaic.Pipeline (Dat)

namespace Cert.Proof.GmOut

open Cert.Kernel12Ideal Cert.Kernel12Ideal.Gen Cert.Proof.Ffn

/-- One element of the product. -/
def prod (x0 : Vec Ideal S8192x1024 .bf16) (x1 : Vec Ideal S1024x1024 .bf16) (t : Fin 8192) (l : Fin 1024) : EReal :=
  (∑ n : Fin 1024, (x0 (ix2 t n) : EReal) * x1 (ix2 n l))

theorem out_apply (x0 : Vec Ideal S1024x1024 .bf16) (x1 : Vec Ideal S1024x1024 .bf16) (r : Fin 1024) (l : Fin 1024) :
    out0_2 x0 x1 (ix2 r l) = (∑ n : Fin 1024, (x0 (ix2 r n) : EReal) * x1 (ix2 n l)) := by
  unfold out0_2
  rw [View.canon_unit_zero (funext fun a => by fin_cases a <;> rfl)]
  pointwise [k0_pay1]

theorem ref_apply (x0 : Vec Ideal S8192x1024 .bf16) (x1 : Vec Ideal S1024x1024 .bf16) (t : Fin 8192) (l : Fin 1024) :
    Cert.Reference12Ideal.Read.val_main_v2 x0 x1 (ix2 t l) = prod x0 x1 t l := by
  pointwise [Cert.Reference12Ideal.Read.val_main_v0, Cert.Reference12Ideal.Read.val_main_v1, Cert.Reference12Ideal.Read.val_main_v2]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 1024) : 1024 * t.val + y.val < 8192 := by
  have h := t.isLt
  have hN : cfg0.N = 8 := by decide +kernel
  omega

/-- The kernel's whole result. -/
theorem final (m : (ℓ : Loc nD τ sig) → Buf (Elt Ideal) ℓ) (c : Dev nD) : (dats m 0 c).arrAt 2 cfg0.N = Cert.Reference12Ideal.Read.val_main_v2 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨1024 * t.val + y0.val, row t y0⟩ y1 := by
    blk_ext [idx2 t]
  rw [e, ref_apply, out_apply]
  unfold prod
  change (_ : EReal) = (_ : EReal)
  refine Finset.sum_congr rfl fun n _ => ?_
  congr 1 <;> blk_ext [iblk, V, idx0 t, idx1 t]

/-- The kernel and the reference compute the same result. -/
theorem algebraic : algebraic_Kernel12Ideal_Reference12Ideal := by
  intro m g m' g' _ hargs
  refine ⟨fun c => (dats m 0 c).arrAt 2 cfg0.N, Cert.Kernel12Ideal.Value.run_blocks m g, ?_⟩
  refine (θ_run _ _ _).mono (fun r h c => ?_) (Cert.Reference12Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference12Ideal.Read.val_main_v2_eq _ _

end Cert.Proof.GmOut
-- ==== Proof.GradCols.lean ====
module

public import proofs.«01_k».proof.Defs
public import proofs.«01_k».proof.Proof.FfnSum
public import proofs.«01_k».proof.Proof.Gen.Kernel19.Frame
public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack

/-! The gradient of a mixer's input weights, kept as eight blocks of 256 columns: eight products per block of tokens, accumulated
over the tokens. -/

@[expose] public section

set_option maxRecDepth 16384

noncomputable section

open Idealize.ShloMosaic Idealize.ShloMosaic.TcCoe Idealize.SL.Sem
open Idealize.ShloMosaic.Pipeline (Dat)

namespace Cert.Proof.GradCols

open Cert.Kernel19Ideal Cert.Kernel19Ideal.Gen Cert.Proof.Ffn

variable (m : (ℓ : Loc nD τ sig) → Buf (Elt Ideal) ℓ) (c : Dev nD)

theorem col_lt (p : Fin 8) (l : Fin 256) : 256 * p.val + l.val < 2048 := by omega

/-- The product of one block of tokens. -/
def part (x0 : Vec Ideal S1024x1024 .bf16) (x1 : Vec Ideal S1024x2048 .bf16) (j : S8x1024x256.Idx) : EReal :=
  ∑ k : Fin 1024, (x0 (ix2 k (j 1)) : EReal) * x1 (ix2 k ⟨256 * (j 0).val + (j 2).val, col_lt (j 0) (j 2)⟩)

/-- The stores of one grid point into the accumulator. -/
def pieces (x0 : Vec Ideal S1024x1024 .bf16) (x1 : Vec Ideal S1024x2048 .bf16) (xs : Vec Ideal S8x1024x256 .f32) : List (View.Piece (Elt Ideal) S8x1024x256 .f32) :=
  [⟨Rect.unit ![7, 0, 0] ![1, 1024, 256] inb_S8x1024x256_S1x1024x256_7_0_0, k0_pay3 (k0_pay12 x0 (View.ld x1 (Rect.unit ![0, 1792] ![1024, 256] inb_S1024x2048_S1024x256_0_1792))) (View.ld xs (Rect.unit ![7, 0, 0] ![1, 1024, 256] inb_S8x1024x256_S1x1024x256_7_0_0))⟩,
    ⟨Rect.unit ![6, 0, 0] ![1, 1024, 256] inb_S8x1024x256_S1x1024x256_6_0_0, k0_pay2 (k0_pay11 x0 (View.ld x1 (Rect.unit ![0, 1536] ![1024, 256] inb_S1024x2048_S1024x256_0_1536))) (View.ld xs (Rect.unit ![6, 0, 0] ![1, 1024, 256] inb_S8x1024x256_S1x1024x256_6_0_0))⟩,
    ⟨Rect.unit ![5, 0, 0] ![1, 1024, 256] inb_S8x1024x256_S1x1024x256_5_0_0, k0_pay1 (k0_pay10 x0 (View.ld x1 (Rect.unit ![0, 1280] ![1024, 256] inb_S1024x2048_S1024x256_0_1280))) (k0_pay19 (View.ld xs (Rect.unit ![5, 0, 0] ![1, 1024, 256] inb_S8x1024x256_S1x1024x256_5_0_0)))⟩,
    ⟨Rect.unit ![4, 0, 0] ![1, 1024, 256] inb_S8x1024x256_S1x1024x256_4_0_0, k0_pay18 (k0_pay9 x0 (View.ld x1 (Rect.unit ![0, 1024] ![1024, 256] inb_S1024x2048_S1024x256_0_1024))) (View.ld xs (Rect.unit ![4, 0, 0] ![1, 1024, 256] inb_S8x1024x256_S1x1024x256_4_0_0))⟩,
    ⟨Rect.unit ![3, 0, 0] ![1, 1024, 256] inb_S8x1024x256_S1x1024x256_3_0_0, k0_pay17 (k0_pay8 x0 (View.ld x1 (Rect.unit ![0, 768] ![1024, 256] inb_S1024x2048_S1024x256_0_768))) (View.ld xs (Rect.unit ![3, 0, 0] ![1, 1024, 256] inb_S8x1024x256_S1x1024x256_3_0_0))⟩,
    ⟨Rect.unit ![2, 0, 0] ![1, 1024, 256] inb_S8x1024x256_S1x1024x256_2_0_0, k0_pay16 (k0_pay7 x0 (View.ld x1 (Rect.unit ![0, 512] ![1024, 256] inb_S1024x2048_S1024x256_0_512))) (View.ld xs (Rect.unit ![2, 0, 0] ![1, 1024, 256] inb_S8x1024x256_S1x1024x256_2_0_0))⟩,
    ⟨Rect.unit ![1, 0, 0] ![1, 1024, 256] inb_S8x1024x256_S1x1024x256_1_0_0, k0_pay15 (k0_pay6 x0 (View.ld x1 (Rect.unit ![0, 256] ![1024, 256] inb_S1024x2048_S1024x256_0_256))) (View.ld xs (Rect.unit ![1, 0, 0] ![1, 1024, 256] inb_S8x1024x256_S1x1024x256_1_0_0))⟩,
    ⟨Rect.unit ![0, 0, 0] ![1, 1024, 256] inb_S8x1024x256_S1x1024x256_0_0_0, k0_pay14 (k0_pay13 x0 (View.ld x1 (Rect.unit ![0, 0] ![1024, 256] inb_S1024x2048_S1024x256_0_0)) (View.ld xs (Rect.unit ![0, 0, 0] ![1, 1024, 256] inb_S8x1024x256_S1x1024x256_0_0_0)))⟩]

/-- The accumulator after one grid point, from what the point before left. -/
def acc (x0 : Vec Ideal S1024x1024 .bf16) (x1 : Vec Ideal S1024x2048 .bf16) (xs : Vec Ideal S8x1024x256 .f32) : Vec Ideal S8x1024x256 .f32 :=
  View.canon (pieces x0 x1 xs)

/-- The accumulator after one grid point, at an index: what it held plus the block's product. -/
theorem out_apply (a : Vec Ideal S1024x1024 .bf16) (b : Vec Ideal S1024x2048 .bf16) (xs : Vec Ideal S8x1024x256 .f32) (j : S8x1024x256.Idx) :
    acc a b xs j = xs j + part a b j := by
  unfold acc
  unfold pieces
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part]
    refine congrArg₂ (· + ·) (congrArg xs ?_) (Finset.sum_congr rfl fun k _ => congrArg₂ (· * ·) (congrArg a ?_) (congrArg b ?_)) <;> blk_ext

theorem pieces_cover (a : Vec Ideal S1024x1024 .bf16) (b : Vec Ideal S1024x2048 .bf16) (xs : Vec Ideal S8x1024x256 .f32) (j : S8x1024x256.Idx) :
    ∃ p ∈ pieces a b xs, j ∈ p.1.set :=
  View.cover_of_tiledL (pieces a b xs) ![1, 1024, 256] (by sl_kernel_rfl) j

/-- What a grid point after the first leaves in the accumulator. -/
theorem step_later (t : Fin cfg0.N) (h0 : ¬t.val % 8 = 0) (j : S8x1024x256.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 h1]
    frame_out
    rw [read_unread_whole]
    exact out_apply _ _ _ j
  · rw [outsAt0_B m c t h0 h1]
    frame_out
    rw [read_unread_whole]
    exact out_apply _ _ _ j

/-- What the first grid point leaves in the accumulator. -/
theorem step_first (t : Fin cfg0.N) (h0 : t.val % 8 = 0) (j : S8x1024x256.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  have key := (canon_append_of_cover [⟨Rect.unit ![0, 0, 0] ![8, 1024, 256] inb_S8x1024x256_S8x1024x256_0_0_0, k0_pay5 (F := Ideal)⟩] j
    (pieces (iblk m c 0 t) (iblk m c 1 t) (k0_pay5 (F := Ideal))) (pieces_cover _ _ _ j)).trans (out_apply _ _ _ j)
  rw [show (k0_pay5 (F := Ideal)) j = 0 from by idx_vars j; pointwise [k0_pay5]] at key
  unfold pieces at key
  simp only [List.cons_append, List.nil_append] at key
  exact key

/-- What the last grid point writes back is the accumulator. -/
theorem out_last (t : Fin cfg0.N) (h1 : t.val % 8 = 7) (p : Fin 8) (r : Fin 1024) (l : Fin 256) :
    (outsAt0 m c t.val t.isLt).1 (ix4 0 p r l) = (outsAt0 m c t.val t.isLt).2 (ix3 p r l) := by
  rw [outsAt0_C m c t (by omega) h1]
  frame_out
  rw [View.readCov_eq_canon']
  pointwise [k0_pay4]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0, 0] := (by decide +kernel : ∀ t : Fin grid0.N, _)

/-- The reference's gradient at one element, block of tokens by block of tokens. -/
theorem ref_apply (a : Vec Ideal S8192x1024 .bf16) (b : Vec Ideal S8192x2048 .bf16) (p : Fin 8) (r : Fin 1024) (l : Fin 256) :
    Cert.Reference19Ideal.Read.val_main_v9 a b (ix4 0 p r l)
      = ∑ s : Fin 8, ∑ n : Fin 1024, (a (ix2 ⟨1024 * s.val + n.val, by omega⟩ r) : EReal) * b (ix2 ⟨1024 * s.val + n.val, by omega⟩ ⟨256 * p.val + l.val, col_lt p l⟩) := by
  pointwise [Cert.Reference19Ideal.Read.val_main_v0, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9]
  rw [sum_tokens]
  refine Finset.sum_congr rfl fun s _ => Finset.sum_congr rfl fun n _ => ?_
  rw [mul_comm]
  refine congrArg₂ (· * ·) (congrArg _ ?_) (congrArg _ ?_) <;>
  · funext a
    apply Fin.ext
    fin_cases a <;> first | rfl | (simp <;> omega)

def tLast : Fin cfg0.N := ⟨7, lt_of_lt_of_eq (by decide) N_0.symm⟩

/-- The accumulator after the last grid point: every block's product. -/
theorem acc_last (j : S8x1024x256.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S8x1024x256.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference19Ideal.Read.val_main_v9 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  idx_vars y
  obtain rfl : y0 = 0 := Subsingleton.elim _ _
  rw [after0_2, out_last m c tLast (by decide)]
  have e : ((View.whole main_v0).slice (win0_2.rect tLast)).emb (ix4 0 y1 y2 y3) = ix4 0 y1 y2 y3 := by
    blk_ext [idx2]
  rw [e, ref_apply]
  refine (acc_last m c (ix3 y1 y2 y3)).trans ?_
  unfold part
  refine Finset.sum_congr rfl fun s _ => Finset.sum_congr rfl fun n _ => ?_
  congr 1 <;> blk_ext [iblk, V, idx0, idx1, Fin.val_cast]

/-- The kernel and the reference compute the same result. -/
theorem algebraic : algebraic_Kernel19Ideal_Reference19Ideal := by
  intro m g m' g' _ hargs
  refine ⟨fun c => (dats m 0 c).arrAt 2 cfg0.N, Cert.Kernel19Ideal.Value.run_blocks m g, ?_⟩
  refine (θ_run _ _ _).mono (fun r h c => ?_) (Cert.Reference19Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference19Ideal.Read.val_main_v9_eq _ _

end Cert.Proof.GradCols
-- ==== Proof.LnFwd.lean ====
module

public import proofs.«01_k».proof.Defs
public import proofs.«01_k».proof.Proof.LnRow
public import proofs.«01_k».proof.Proof.Gen.Kernel35.Frame
public import proofs.«01_k».proof.Proof.Gen.Kernel35Ideal.Value
public import proofs.«01_k».proof.Proof.Gen.Reference35Ideal.Read
public import Idealize.ShloMosaic.Lib.Pipeline.ValueKit
public import Idealize.ShloMosaic.Lib.Pipeline.ReadBack

/-! The residual sum with its layer norm, and the modulation behind it. -/

@[expose] public section

set_option maxRecDepth 16384

noncomputable section

open Idealize.ShloMosaic Idealize.ShloMosaic.TcCoe Idealize.SL.Sem
open Idealize.ShloMosaic.Pipeline (Dat)

namespace Cert.Proof.LnFwd

open Cert.Kernel35Ideal Cert.Kernel35Ideal.Gen

open Cert.Proof.LnRow

/-- A row of a matrix. -/
def rowOf {n : Nat} (x : Vec Ideal ⟨2, ![n, 1024]⟩ .f32) (r : Fin n) : Fin 1024 → EReal := fun l => x (ix2 r l)

/-- A sequence's row of the gate. -/
def gateOf {n : Nat} (g : Vec Ideal ⟨3, ![n, 1, 1024]⟩ .f32) (p : Fin n) : Fin 1024 → EReal := fun l => g (ix3 p 0 l)

theorem ref_res (x y : Vec Ideal S8192x1024 .f32) (g : Vec Ideal S2x1x1024 .f32) (p : Fin 2) (r : Fin 4096) (l : Fin 1024) :
    Cert.Reference35Ideal.Read.val_main_v8 x y g (ix3 p r l) = res (rowOf x ⟨p.val * 4096 + r.val, by omega⟩) (rowOf y ⟨p.val * 4096 + r.val, by omega⟩) (gateOf g p) l := by
  pointwise [Cert.Reference35Ideal.Read.val_main_v8, Cert.Reference35Ideal.Read.val_main_v7, Cert.Reference35Ideal.Read.val_main_v6, Cert.Reference35Ideal.Read.val_main_v5, Cert.Reference35Ideal.Read.val_main_v4, Cert.Reference35Ideal.Read.val_main_v3, Cert.Reference35Ideal.Read.val_main_v2, Cert.Reference35Ideal.Read.val_main_v1, Cert.Reference35Ideal.Read.val_main_v0, Cert.Reference35Ideal.Read.val_main_cst, Cert.Reference35Ideal.Read.val_main_cst_0]
  rfl

theorem ref_mean (x y : Vec Ideal S8192x1024 .f32) (g : Vec Ideal S2x1x1024 .f32) (p : Fin 2) (r : Fin 4096) (q : Fin 1) :
    Cert.Reference35Ideal.Read.val_main_v12 x y g (ix3 p r q) = mean (res (rowOf x ⟨p.val * 4096 + r.val, by omega⟩) (rowOf y ⟨p.val * 4096 + r.val, by omega⟩) (gateOf g p)) := by
  pointwise [Cert.Reference35Ideal.Read.val_main_v12, Cert.Reference35Ideal.Read.val_main_v11, Cert.Reference35Ideal.Read.val_main_v10, Cert.Reference35Ideal.Read.val_main_v9, Cert.Reference35Ideal.Read.val_main_cst_1, Cert.Reference35Ideal.Read.val_main_cst_2]
  simp only [ref_res]
  rfl

theorem ref_cent (x y : Vec Ideal S8192x1024 .f32) (g : Vec Ideal S2x1x1024 .f32) (p : Fin 2) (r : Fin 4096) (l : Fin 1024) :
    Cert.Reference35Ideal.Read.val_main_v14 x y g (ix3 p r l) = cent (rowOf x ⟨p.val * 4096 + r.val, by omega⟩) (rowOf y ⟨p.val * 4096 + r.val, by omega⟩) (gateOf g p) l := by
  pointwise [Cert.Reference35Ideal.Read.val_main_v14, Cert.Reference35Ideal.Read.val_main_v13]
  rw [ref_res, ref_mean]
  rfl

theorem ref_inv (x y : Vec Ideal S8192x1024 .f32) (g : Vec Ideal S2x1x1024 .f32) (p : Fin 2) (r : Fin 4096) (q : Fin 1) :
    Cert.Reference35Ideal.Read.val_main_v22 x y g (ix3 p r q) = inv (rowOf x ⟨p.val * 4096 + r.val, by omega⟩) (rowOf y ⟨p.val * 4096 + r.val, by omega⟩) (gateOf g p) := by
  pointwise [Cert.Reference35Ideal.Read.val_main_v22, Cert.Reference35Ideal.Read.val_main_v21, Cert.Reference35Ideal.Read.val_main_v20, Cert.Reference35Ideal.Read.val_main_v19, Cert.Reference35Ideal.Read.val_main_v18, Cert.Reference35Ideal.Read.val_main_v17, Cert.Reference35Ideal.Read.val_main_v16, Cert.Reference35Ideal.Read.val_main_v15, Cert.Reference35Ideal.Read.val_main_cst_3, Cert.Reference35Ideal.Read.val_main_cst_4, Cert.Reference35Ideal.Read.val_main_cst_5]
  simp only [ref_cent]
  rfl

theorem ref_norm (x y : Vec Ideal S8192x1024 .f32) (g : Vec Ideal S2x1x1024 .f32) (a b : Vec Ideal S1x1024 .f32) (p : Fin 2) (r : Fin 4096) (l : Fin 1024) :
    Cert.Reference35Ideal.Read.val_main_v30 x y g a b (ix3 p r l) = norm (rowOf x ⟨p.val * 4096 + r.val, by omega⟩) (rowOf y ⟨p.val * 4096 + r.val, by omega⟩) (gateOf g p) (rowOf a 0) (rowOf b 0) l := by
  pointwise [Cert.Reference35Ideal.Read.val_main_v30, Cert.Reference35Ideal.Read.val_main_v29, Cert.Reference35Ideal.Read.val_main_v28, Cert.Reference35Ideal.Read.val_main_v27, Cert.Reference35Ideal.Read.val_main_v26, Cert.Reference35Ideal.Read.val_main_v25, Cert.Reference35Ideal.Read.val_main_v24, Cert.Reference35Ideal.Read.val_main_v23]
  rw [ref_cent, ref_inv]
  rfl

theorem ref_x (x y : Vec Ideal S8192x1024 .f32) (g : Vec Ideal S2x1x1024 .f32) (a b : Vec Ideal S1x1024 .f32) (p : Fin 2) (r : Fin 8192) (l : Fin 1024) (hp : r.val / 4096 = p.val) :
    Cert.Reference35Ideal.Read.val_main_v37 x y g a b (ix2 r l) = norm (rowOf x r) (rowOf y r) (gateOf g p) (rowOf a 0) (rowOf b 0) l := by
  pointwise [Cert.Reference35Ideal.Read.val_main_v37]
  rw [ref_norm]
  have e : (⟨r.val / 4096 * 4096 + r.val % 4096, by omega⟩ : Fin 8192) = r := Fin.ext (by simp only; omega)
  have e' : (⟨r.val / 4096, by omega⟩ : Fin 2) = p := Fin.ext hp
  simp only [e, e']

theorem ref_h (x y : Vec Ideal S8192x1024 .f32) (g : Vec Ideal S2x1x1024 .f32) (a b : Vec Ideal S1x1024 .f32) (u v : Vec Ideal S2x1x1024 .f32) (p : Fin 2) (r : Fin 8192) (l : Fin 1024) (hp : r.val / 4096 = p.val) :
    Cert.Reference35Ideal.Read.val_main_v39 x y g a b u v (ix2 r l) = norm (rowOf x r) (rowOf y r) (gateOf g p) (rowOf a 0) (rowOf b 0) l * (1 + gateOf u p l) + gateOf v p l := by
  pointwise [Cert.Reference35Ideal.Read.val_main_v39, Cert.Reference35Ideal.Read.val_main_v38, Cert.Reference35Ideal.Read.val_main_v36, Cert.Reference35Ideal.Read.val_main_v35, Cert.Reference35Ideal.Read.val_main_v34, Cert.Reference35Ideal.Read.val_main_v33, Cert.Reference35Ideal.Read.val_main_v32, Cert.Reference35Ideal.Read.val_main_v31, Cert.Reference35Ideal.Read.val_main_cst_6]
  rw [ref_norm]
  have e : (⟨r.val / 4096 * 4096 + r.val % 4096, by omega⟩ : Fin 8192) = r := Fin.ext (by simp only; omega)
  have e' : (⟨r.val / 4096, by omega⟩ : Fin 2) = p := Fin.ext hp
  simp only [e, e']
  rfl

theorem out_x (x y : Vec Ideal S512x1024 .f32) (g : Vec Ideal S1x1x1024 .f32) (a b : Vec Ideal S1x1024 .f32) (u v : Vec Ideal S1x1x1024 .f32) (r : Fin 512) (l : Fin 1024) :
    out0_7 x y g a b u v (ix2 r l) = norm (rowOf x r) (rowOf y r) (gateOf g 0) (rowOf a 0) (rowOf b 0) l := by
  unfold out0_7
  rw [View.canon_unit_zero (funext fun a => by fin_cases a <;> rfl)]
  pointwise [k0_pay2]
  rfl

theorem out_h (x y : Vec Ideal S512x1024 .f32) (g : Vec Ideal S1x1x1024 .f32) (a b : Vec Ideal S1x1024 .f32) (u v : Vec Ideal S1x1x1024 .f32) (r : Fin 512) (l : Fin 1024) :
    out0_8 x y g a b u v (ix2 r l) = norm (rowOf x r) (rowOf y r) (gateOf g 0) (rowOf a 0) (rowOf b 0) l * (1 + gateOf u 0 l) + gateOf v 0 l := by
  unfold out0_8
  rw [View.canon_unit_zero (funext fun a => by fin_cases a <;> rfl)]
  pointwise [k0_pay1, k0_pay2]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![t.val / 8, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

/-- The sequence a block of rows belongs to. -/
def seqOf (t : Fin cfg0.N) : Fin 2 := ⟨t.val / 8, by have := step_lt t; omega⟩

/-- The row of the arrays a block's row is. -/
def tokOf (t : Fin cfg0.N) (r : Fin 512) : Fin 8192 := ⟨512 * t.val + r.val, by have := step_lt t; omega⟩

theorem blk_x (t : Fin cfg0.N) (r : Fin 512) : rowOf (iblk m c 0 t) r = rowOf (m ((c.tc : Thread nD τ).loc main_arg0)) (tokOf t r) := by
  funext l; unfold rowOf tokOf; blk_ext [iblk, V, idx0 t]
theorem blk_y (t : Fin cfg0.N) (r : Fin 512) : rowOf (iblk m c 1 t) r = rowOf (m ((c.tc : Thread nD τ).loc main_arg1)) (tokOf t r) := by
  funext l; unfold rowOf tokOf; blk_ext [iblk, V, idx1 t]
theorem blk_g (t : Fin cfg0.N) : gateOf (iblk m c 2 t) 0 = gateOf (m ((c.tc : Thread nD τ).loc main_arg2)) (seqOf t) := by
  funext l; unfold gateOf seqOf; blk_ext [iblk, V, idx2 t]
theorem blk_a (t : Fin cfg0.N) : rowOf (iblk m c 3 t) 0 = rowOf (m ((c.tc : Thread nD τ).loc main_arg3)) 0 := by
  funext l; unfold rowOf; blk_ext [iblk, V, idx3 t]
theorem blk_b (t : Fin cfg0.N) : rowOf (iblk m c 4 t) 0 = rowOf (m ((c.tc : Thread nD τ).loc main_arg4)) 0 := by
  funext l; unfold rowOf; blk_ext [iblk, V, idx4 t]
theorem blk_u (t : Fin cfg0.N) : gateOf (iblk m c 5 t) 0 = gateOf (m ((c.tc : Thread nD τ).loc main_arg5)) (seqOf t) := by
  funext l; unfold gateOf seqOf; blk_ext [iblk, V, idx5 t]
theorem blk_v (t : Fin cfg0.N) : gateOf (iblk m c 6 t) 0 = gateOf (m ((c.tc : Thread nD τ).loc main_arg6)) (seqOf t) := by
  funext l; unfold gateOf seqOf; blk_ext [iblk, V, idx6 t]

theorem seq_tok (t : Fin cfg0.N) (r : Fin 512) : (tokOf t r).val / 4096 = (seqOf t).val := by
  unfold seqOf tokOf; simp only; omega

/-- The kernel's first result: the normalised residual sum. -/
theorem final_x : (dats m 0 c).arrAt 7 cfg0.N = Cert.Reference35Ideal.Read.val_main_v37 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  idx_vars y
  have e : ((View.whole main_v0_0).slice (win0_7.rect t)).emb (ix2 y0 y1) = ix2 (tokOf t y0) y1 := by
    unfold tokOf; blk_ext [idx7 t]
  rw [e, ref_x _ _ _ _ _ (seqOf t) _ _ (seq_tok t y0), out_x, blk_x, blk_y, blk_g, blk_a, blk_b]

/-- The kernel's second result: the next layer's modulated input. -/
theorem final_h : (dats m 0 c).arrAt 8 cfg0.N = Cert.Reference35Ideal.Read.val_main_v39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  idx_vars y
  have e : ((View.whole main_v0_1).slice (win0_8.rect t)).emb (ix2 y0 y1) = ix2 (tokOf t y0) y1 := by
    unfold tokOf; blk_ext [idx8 t]
  rw [e, ref_h _ _ _ _ _ _ _ (seqOf t) _ _ (seq_tok t y0), out_h, blk_x, blk_y, blk_g, blk_a, blk_b, blk_u, blk_v]

/-- The kernel and the reference compute the same results. -/
theorem algebraic : algebraic_Kernel35Ideal_Reference35Ideal := by
  intro m g m' g' _ hargs
  refine ⟨fun c => (dats m 0 c).arrAt 7 cfg0.N, fun c => (dats m 0 c).arrAt 8 cfg0.N, Cert.Kernel35Ideal.Value.run_blocks m g, ?_⟩
  refine (θ_run _ _ _).mono (fun r h c => ?_) (Cert.Reference35Ideal.Value.run (F := Ideal) m' g')
  obtain ⟨h0, h1, h2, h3, h4, h5, h6⟩ := hargs c
  refine ⟨((h c).1.trans ?_), ((h c).2.1.trans ?_), (h c).2.2⟩
  · show _ = (dats m 0 c).arrAt 7 cfg0.N
    rw [final_x m c, Cert.Reference35Ideal.Read.val_main_v37_eq, h0, h1, h2, h3, h4]
  · show _ = (dats m 0 c).arrAt 8 cfg0.N
    rw [final_h m c, Cert.Reference35Ideal.Read.val_main_v39_eq, h0, h1, h2, h3, h4, h5, h6]

end Cert.Proof.LnFwd
-- ==== Proof.LnLoss.lean ====
module

public import proofs.«01_k».proof.Defs
public import proofs.«01_k».proof.Proof.LnRow
public import proofs.«01_k».proof.Proof.Gen.Kernel36.Frame
public import proofs.«01_k».proof.Proof.Gen.Kernel36Ideal.Value
public import proofs.«01_k».proof.Proof.Gen.Reference36Ideal.Read
public import Idealize.ShloMosaic.Lib.Pipeline.ValueKit
public import Idealize.ShloMosaic.Lib.Pipeline.ReadBack

/-! The last residual sum with its layer norm, the gradient of the loss there, and the column sums of the squared error. -/

@[expose] public section

set_option maxRecDepth 16384

noncomputable section

open Idealize.ShloMosaic Idealize.ShloMosaic.TcCoe Idealize.SL.Sem
open Idealize.ShloMosaic.Pipeline (Dat)

namespace Cert.Proof.LnLoss

open Cert.Kernel36Ideal Cert.Kernel36Ideal.Gen

open Cert.Proof.LnRow

/-- A row of a matrix. -/
def rowOf {n : Nat} (x : Vec Ideal ⟨2, ![n, 1024]⟩ .f32) (r : Fin n) : Fin 1024 → EReal := fun l => x (ix2 r l)

/-- A sequence's row of the gate. -/
def gateOf {n : Nat} (g : Vec Ideal ⟨3, ![n, 1, 1024]⟩ .f32) (p : Fin n) : Fin 1024 → EReal := fun l => g (ix3 p 0 l)

theorem ref_res (x y : Vec Ideal S8192x1024 .f32) (g : Vec Ideal S2x1x1024 .f32) (p : Fin 2) (r : Fin 4096) (l : Fin 1024) :
    Cert.Reference36Ideal.Read.val_main_v8 x y g (ix3 p r l) = res (rowOf x ⟨p.val * 4096 + r.val, by omega⟩) (rowOf y ⟨p.val * 4096 + r.val, by omega⟩) (gateOf g p) l := by
  pointwise [Cert.Reference36Ideal.Read.val_main_v8, Cert.Reference36Ideal.Read.val_main_v7, Cert.Reference36Ideal.Read.val_main_v6, Cert.Reference36Ideal.Read.val_main_v5, Cert.Reference36Ideal.Read.val_main_v4, Cert.Reference36Ideal.Read.val_main_v3, Cert.Reference36Ideal.Read.val_main_v2, Cert.Reference36Ideal.Read.val_main_v1, Cert.Reference36Ideal.Read.val_main_v0, Cert.Reference36Ideal.Read.val_main_cst, Cert.Reference36Ideal.Read.val_main_cst_0]
  rfl

theorem ref_mean (x y : Vec Ideal S8192x1024 .f32) (g : Vec Ideal S2x1x1024 .f32) (p : Fin 2) (r : Fin 4096) (q : Fin 1) :
    Cert.Reference36Ideal.Read.val_main_v12 x y g (ix3 p r q) = mean (res (rowOf x ⟨p.val * 4096 + r.val, by omega⟩) (rowOf y ⟨p.val * 4096 + r.val, by omega⟩) (gateOf g p)) := by
  pointwise [Cert.Reference36Ideal.Read.val_main_v12, Cert.Reference36Ideal.Read.val_main_v11, Cert.Reference36Ideal.Read.val_main_v10, Cert.Reference36Ideal.Read.val_main_v9, Cert.Reference36Ideal.Read.val_main_cst_1, Cert.Reference36Ideal.Read.val_main_cst_2]
  simp only [ref_res]
  rfl

theorem ref_cent (x y : Vec Ideal S8192x1024 .f32) (g : Vec Ideal S2x1x1024 .f32) (p : Fin 2) (r : Fin 4096) (l : Fin 1024) :
    Cert.Reference36Ideal.Read.val_main_v14 x y g (ix3 p r l) = cent (rowOf x ⟨p.val * 4096 + r.val, by omega⟩) (rowOf y ⟨p.val * 4096 + r.val, by omega⟩) (gateOf g p) l := by
  pointwise [Cert.Reference36Ideal.Read.val_main_v14, Cert.Reference36Ideal.Read.val_main_v13]
  rw [ref_res, ref_mean]
  rfl

theorem ref_inv (x y : Vec Ideal S8192x1024 .f32) (g : Vec Ideal S2x1x1024 .f32) (p : Fin 2) (r : Fin 4096) (q : Fin 1) :
    Cert.Reference36Ideal.Read.val_main_v22 x y g (ix3 p r q) = inv (rowOf x ⟨p.val * 4096 + r.val, by omega⟩) (rowOf y ⟨p.val * 4096 + r.val, by omega⟩) (gateOf g p) := by
  pointwise [Cert.Reference36Ideal.Read.val_main_v22, Cert.Reference36Ideal.Read.val_main_v21, Cert.Reference36Ideal.Read.val_main_v20, Cert.Reference36Ideal.Read.val_main_v19, Cert.Reference36Ideal.Read.val_main_v18, Cert.Reference36Ideal.Read.val_main_v17, Cert.Reference36Ideal.Read.val_main_v16, Cert.Reference36Ideal.Read.val_main_v15, Cert.Reference36Ideal.Read.val_main_cst_3, Cert.Reference36Ideal.Read.val_main_cst_4, Cert.Reference36Ideal.Read.val_main_cst_5]
  simp only [ref_cent]
  rfl

theorem ref_norm (x y : Vec Ideal S8192x1024 .f32) (g : Vec Ideal S2x1x1024 .f32) (a b : Vec Ideal S1x1024 .f32) (p : Fin 2) (r : Fin 4096) (l : Fin 1024) :
    Cert.Reference36Ideal.Read.val_main_v30 x y g a b (ix3 p r l) = norm (rowOf x ⟨p.val * 4096 + r.val, by omega⟩) (rowOf y ⟨p.val * 4096 + r.val, by omega⟩) (gateOf g p) (rowOf a 0) (rowOf b 0) l := by
  pointwise [Cert.Reference36Ideal.Read.val_main_v30, Cert.Reference36Ideal.Read.val_main_v29, Cert.Reference36Ideal.Read.val_main_v28, Cert.Reference36Ideal.Read.val_main_v27, Cert.Reference36Ideal.Read.val_main_v26, Cert.Reference36Ideal.Read.val_main_v25, Cert.Reference36Ideal.Read.val_main_v24, Cert.Reference36Ideal.Read.val_main_v23]
  rw [ref_cent, ref_inv]
  rfl

/-- The error at one element. -/
def refErr (x y : Vec Ideal S8192x1024 .f32) (g : Vec Ideal S2x1x1024 .f32) (a b : Vec Ideal S1x1024 .f32) (z : Vec Ideal S8192x1024 .f32) (r : Fin 8192) (l : Fin 1024) : EReal :=
  norm (rowOf x r) (rowOf y r) (gateOf g ⟨r.val / 4096, by omega⟩) (rowOf a 0) (rowOf b 0) l - z (ix2 r l)

theorem half_word : Ideal.ofBits .f32 0x3F000000#32 = (((1 : ℝ) / 2 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num
theorem rate_word : Ideal.ofBits .f32 0x3A800000#32 = (((1 : ℝ) / 1024 : ℝ) : EReal) := by
  simp [Ideal.ofBits, Ideal.ieee, -EReal.coe_mul]; norm_num

/-- Half of the square's derivative over the width is the error over the width. -/
theorem rate_eq (e : EReal) :
    Ideal.div (Ideal.ofBits .f32 0x3F000000#32) (Ideal.ofBits .f32 0x44800000#32) * (Ideal.ofBits .f32 0x40000000#32 * e)
      = e * Ideal.ofBits .f32 0x3A800000#32 := by
  rw [half_word, two_word, width_word, rate_word, Ideal.div_coe (by norm_num), ← mul_assoc, ← EReal.coe_mul, ← EReal.coe_mul, mul_comm]
  norm_num

theorem ref_d (x y : Vec Ideal S8192x1024 .f32) (g : Vec Ideal S2x1x1024 .f32) (a b : Vec Ideal S1x1024 .f32) (z : Vec Ideal S8192x1024 .f32) (r : Fin 8192) (l : Fin 1024) :
    Cert.Reference36Ideal.Read.val_main_v47 x y g a b z (ix2 r l) = refErr x y g a b z r l * Ideal.ofBits .f32 0x3A800000#32 := by
  pointwise [Cert.Reference36Ideal.Read.val_main_v47, Cert.Reference36Ideal.Read.val_main_v46, Cert.Reference36Ideal.Read.val_main_v45, Cert.Reference36Ideal.Read.val_main_v44, Cert.Reference36Ideal.Read.val_main_v43, Cert.Reference36Ideal.Read.val_main_v42, Cert.Reference36Ideal.Read.val_main_v41, Cert.Reference36Ideal.Read.val_main_v35, Cert.Reference36Ideal.Read.val_main_v34, Cert.Reference36Ideal.Read.val_main_v32, Cert.Reference36Ideal.Read.val_main_v31, Cert.Reference36Ideal.Read.val_main_cst_6, Cert.Reference36Ideal.Read.val_main_cst_11, Cert.Reference36Ideal.Read.val_main_cst_12, Cert.Reference36Ideal.Read.val_main_cst_13]
  rw [ref_norm]
  have e : (⟨r.val / 4096 * 4096 + r.val % 4096, by omega⟩ : Fin 8192) = r := Fin.ext (by simp only; omega)
  simp only [e]
  exact rate_eq _

theorem ref_s (x y : Vec Ideal S8192x1024 .f32) (g : Vec Ideal S2x1x1024 .f32) (a b : Vec Ideal S1x1024 .f32) (z : Vec Ideal S8192x1024 .f32) (q : Fin 1) (l : Fin 1024) :
    Cert.Reference36Ideal.Read.val_main_v52 x y g a b z (ix2 q l) = ∑ r : Fin 8192, refErr x y g a b z r l * refErr x y g a b z r l := by
  pointwise [Cert.Reference36Ideal.Read.val_main_v52, Cert.Reference36Ideal.Read.val_main_v51, Cert.Reference36Ideal.Read.val_main_v50, Cert.Reference36Ideal.Read.val_main_v49, Cert.Reference36Ideal.Read.val_main_v48, Cert.Reference36Ideal.Read.val_main_v31, Cert.Reference36Ideal.Read.val_main_cst_14]
  refine Finset.sum_congr rfl fun r _ => ?_
  rw [ref_norm]
  have e : (⟨r.val / 4096 * 4096 + r.val % 4096, by omega⟩ : Fin 8192) = r := Fin.ext (by simp only; omega)
  simp only [e]
  rfl

/-- A sum over 8192 tokens is the sum over sixteen blocks of 512. -/
theorem sum_blocks (f : Fin 8192 → EReal) : ∑ k, f k = ∑ p : Fin 16, ∑ n : Fin 512, f ⟨512 * p.val + n.val, by omega⟩ := by
  rw [← Finset.sum_product', Finset.univ_product_univ]
  refine (Fintype.sum_equiv (finProdFinEquiv (m := 16) (n := 512)) _ _ fun x => ?_).symm
  exact congrArg f (Fin.ext (Nat.add_comm _ _))

/-- The error at one element of a block. -/
def errAt (x y : Vec Ideal S512x1024 .f32) (g : Vec Ideal S1x1x1024 .f32) (a b : Vec Ideal S1x1024 .f32) (z : Vec Ideal S512x1024 .f32) (r : Fin 512) (l : Fin 1024) : EReal :=
  norm (rowOf x r) (rowOf y r) (gateOf g 0) (rowOf a 0) (rowOf b 0) l - z (ix2 r l)

theorem pay_e (x y : Vec Ideal S512x1024 .f32) (g : Vec Ideal S1x1x1024 .f32) (a b : Vec Ideal S1x1024 .f32) (z : Vec Ideal S512x1024 .f32) (r : Fin 512) (l : Fin 1024) :
    k0_pay3 x g y a b z (ix2 r l) = errAt x y g a b z r l := by
  pointwise [k0_pay3]
  rfl

theorem pay_d (x y : Vec Ideal S512x1024 .f32) (g : Vec Ideal S1x1x1024 .f32) (a b : Vec Ideal S1x1024 .f32) (z : Vec Ideal S512x1024 .f32) (r : Fin 512) (l : Fin 1024) :
    k0_pay4 x g y a b z (ix2 r l) = errAt x y g a b z r l * Ideal.ofBits .f32 0x3A800000#32 := by
  pointwise [k0_pay4]
  rw [pay_e]

theorem pay_s (x y : Vec Ideal S512x1024 .f32) (g : Vec Ideal S1x1x1024 .f32) (a b : Vec Ideal S1x1024 .f32) (z : Vec Ideal S512x1024 .f32) (s : Vec Ideal S1x1024 .f32) (l : Fin 1024) :
    k0_pay2 (k0_pay3 x g y a b z) s (ix2 0 l) = s (ix2 0 l) + ∑ r : Fin 512, errAt x y g a b z r l * errAt x y g a b z r l := by
  pointwise [k0_pay2]
  simp only [pay_e]

theorem zero_s (q : Fin 1) (l : Fin 1024) : (k0_pay1 (F := Ideal)) (ix2 q l) = 0 := by
  pointwise [k0_pay1]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

/-- The sequence a block of rows belongs to. -/
def seqOf (t : Fin cfg0.N) : Fin 2 := ⟨t.val / 8, by have := step_lt t; omega⟩

/-- The row of the arrays a block's row is. -/
def tokOf (t : Fin cfg0.N) (r : Fin 512) : Fin 8192 := ⟨512 * t.val + r.val, by have := step_lt t; omega⟩

theorem blk_x (t : Fin cfg0.N) (r : Fin 512) : rowOf (iblk m c 0 t) r = rowOf (m ((c.tc : Thread nD τ).loc main_arg0)) (tokOf t r) := by
  funext l; unfold rowOf tokOf; blk_ext [iblk, V, idx0 t]
theorem blk_y (t : Fin cfg0.N) (r : Fin 512) : rowOf (iblk m c 1 t) r = rowOf (m ((c.tc : Thread nD τ).loc main_arg1)) (tokOf t r) := by
  funext l; unfold rowOf tokOf; blk_ext [iblk, V, idx1 t]
theorem blk_g (t : Fin cfg0.N) : gateOf (iblk m c 2 t) 0 = gateOf (m ((c.tc : Thread nD τ).loc main_arg2)) (seqOf t) := by
  funext l; unfold gateOf seqOf; blk_ext [iblk, V, idx2 t]
theorem blk_a (t : Fin cfg0.N) : rowOf (iblk m c 3 t) 0 = rowOf (m ((c.tc : Thread nD τ).loc main_arg3)) 0 := by
  funext l; unfold rowOf; blk_ext [iblk, V, idx3 t]
theorem blk_b (t : Fin cfg0.N) : rowOf (iblk m c 4 t) 0 = rowOf (m ((c.tc : Thread nD τ).loc main_arg4)) 0 := by
  funext l; unfold rowOf; blk_ext [iblk, V, idx4 t]
theorem blk_z (t : Fin cfg0.N) (r : Fin 512) (l : Fin 1024) : (iblk m c 5 t) (ix2 r l) = (m ((c.tc : Thread nD τ).loc main_arg5)) (ix2 (tokOf t r) l) := by
  unfold tokOf; blk_ext [iblk, V, idx5 t]

/-- A block's error is the arrays'. -/
theorem err_blk (t : Fin cfg0.N) (r : Fin 512) (l : Fin 1024) :
    errAt (iblk m c 0 t) (iblk m c 1 t) (iblk m c 2 t) (iblk m c 3 t) (iblk m c 4 t) (iblk m c 5 t) r l
      = refErr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (tokOf t r) l := by
  have e : (⟨(tokOf t r).val / 4096, by omega⟩ : Fin 2) = seqOf t := Fin.ext (by unfold seqOf tokOf; simp only; omega)
  unfold errAt refErr
  rw [e, blk_x, blk_y, blk_g, blk_a, blk_b, blk_z]

/-- The gradient that one grid point writes. -/
theorem step_d (t : Fin cfg0.N) (r : Fin 512) (l : Fin 1024) :
    (outsAt0 m c t.val t.isLt).1 (ix2 r l)
      = errAt (iblk m c 0 t) (iblk m c 1 t) (iblk m c 2 t) (iblk m c 3 t) (iblk m c 4 t) (iblk m c 5 t) r l * Ideal.ofBits .f32 0x3A800000#32 := by
  by_cases h0 : t.val % 16 = 0
  · rw [outsAt0_A m c t h0]
    frame_out
    exact pay_d (iblk m c 0 t) (iblk m c 1 t) (iblk m c 2 t) (iblk m c 3 t) (iblk m c 4 t) (iblk m c 5 t) r l
  · rw [outsAt0_B m c t h0]
    frame_out
    exact pay_d (iblk m c 0 t) (iblk m c 1 t) (iblk m c 2 t) (iblk m c 3 t) (iblk m c 4 t) (iblk m c 5 t) r l

/-- What one block of tokens adds to the squared error. -/
def part (x y : Vec Ideal S512x1024 .f32) (g : Vec Ideal S1x1x1024 .f32) (a b : Vec Ideal S1x1024 .f32) (z : Vec Ideal S512x1024 .f32) (j : S1x1024.Idx) : EReal :=
  ∑ r : Fin 512, errAt x y g a b z r (j 1) * errAt x y g a b z r (j 1)

theorem first_s (t : Fin cfg0.N) (h0 : t.val % 16 = 0) (j : S1x1024.Idx) :
    (outsAt0 m c t.val t.isLt).2 j = 0 + part (iblk m c 0 t) (iblk m c 1 t) (iblk m c 2 t) (iblk m c 3 t) (iblk m c 4 t) (iblk m c 5 t) j := by
  rw [outsAt0_A m c t h0]
  frame_out
  idx_vars j
  obtain rfl : j0 = 0 := Subsingleton.elim _ _
  rw [pay_s, zero_s]
  rfl

theorem later_s (t : Fin cfg0.N) (h0 : ¬t.val % 16 = 0) (j : S1x1024.Idx) :
    (outsAt0 m c t.val t.isLt).2 j
      = (outsAt0 m c (t.val - 1) (Nat.lt_of_le_of_lt (Nat.sub_le _ _) t.isLt)).2 j + part (iblk m c 0 t) (iblk m c 1 t) (iblk m c 2 t) (iblk m c 3 t) (iblk m c 4 t) (iblk m c 5 t) j := by
  rw [outsAt0_B m c t h0]
  frame_out
  idx_vars j
  obtain rfl : j0 = 0 := Subsingleton.elim _ _
  rw [pay_s]
  rfl

def tLast : Fin cfg0.N := ⟨15, lt_of_lt_of_eq (by decide) N_0.symm⟩

/-- The squared error after the last grid point: every block's. -/
theorem acc_last (j : S1x1024.Idx) :
    (outsAt0 m c tLast.val tLast.isLt).2 j
      = ∑ s : Fin 16, part (iblk m c 0 (s.cast N_0.symm)) (iblk m c 1 (s.cast N_0.symm)) (iblk m c 2 (s.cast N_0.symm)) (iblk m c 3 (s.cast N_0.symm)) (iblk m c 4 (s.cast N_0.symm)) (iblk m c 5 (s.cast N_0.symm)) j := by
  have h := Pipeline.eq_sum_fin_of_reset_step_apply_last (fun n h => ((outsAt0 m c n h).2 : S1x1024.Idx → EReal)) 16 (fun _ => (0 : EReal))
    (fun t j => part (iblk m c 0 t) (iblk m c 1 t) (iblk m c 2 t) (iblk m c 3 t) (iblk m c 4 t) (iblk m c 5 t) j)
    (fun t h j => first_s m c t h j) (fun t h j => later_s m c t h j) (le_of_eq N_0) tLast N_0.symm j
  rw [zero_add] at h
  exact h.trans (Fintype.sum_equiv (finCongr N_0.symm) _ _ fun s => rfl).symm

/-- The kernel's first result: the gradient of the loss. -/
theorem final_d : (dats m 0 c).arrAt 6 cfg0.N = Cert.Reference36Ideal.Read.val_main_v47 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  idx_vars y
  have e : ((View.whole main_v0_0).slice (win0_6.rect t)).emb (ix2 y0 y1) = ix2 (tokOf t y0) y1 := by
    unfold tokOf; blk_ext [idx6 t]
  rw [e, ref_d, step_d, err_blk]

/-- The kernel's second result: the column sums of the squared error. -/
theorem final_s : (dats m 0 c).arrAt 7 cfg0.N = Cert.Reference36Ideal.Read.val_main_v52 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  have ht : t = tLast := (by decide +kernel : ∀ t : Fin grid0.N, win0_7.flush t = true → t = tLast) t hf
  subst ht
  blk_simp
  rw [after0_7]
  idx_vars y
  have e : ((View.whole main_v0_1).slice (win0_7.rect tLast)).emb (ix2 y0 y1) = ix2 y0 y1 := by
    blk_ext [idx7]
  rw [e, ref_s, acc_last, sum_blocks]
  change (_ : EReal) = (_ : EReal)
  refine Finset.sum_congr rfl fun s _ => ?_
  refine Finset.sum_congr rfl fun n _ => ?_
  exact congrArg (fun z : EReal => z * z) (err_blk m c (s.cast N_0.symm) n y1)

/-- The kernel and the reference compute the same results. -/
theorem algebraic : algebraic_Kernel36Ideal_Reference36Ideal := by
  intro m g m' g' _ hargs
  refine ⟨fun c => (dats m 0 c).arrAt 6 cfg0.N, fun c => (dats m 0 c).arrAt 7 cfg0.N, Cert.Kernel36Ideal.Value.run_blocks m g, ?_⟩
  refine (θ_run _ _ _).mono (fun r h c => ?_) (Cert.Reference36Ideal.Value.run (F := Ideal) m' g')
  obtain ⟨h0, h1, h2, h3, h4, h5⟩ := hargs c
  refine ⟨((h c).1.trans ?_), ((h c).2.1.trans ?_), (h c).2.2⟩
  · show _ = (dats m 0 c).arrAt 6 cfg0.N
    rw [final_d m c, Cert.Reference36Ideal.Read.val_main_v47_eq, h0, h1, h2, h3, h4, h5]
  · show _ = (dats m 0 c).arrAt 7 cfg0.N
    rw [final_s m c, Cert.Reference36Ideal.Read.val_main_v52_eq, h0, h1, h2, h3, h4, h5]

end Cert.Proof.LnLoss
-- ==== Proof.ModBack.lean ====
module

public import proofs.«01_k».proof.Defs
public import proofs.«01_k».proof.Proof.Gen.Kernel31.Frame
public import proofs.«01_k».proof.Proof.Gen.Kernel31Ideal.Value
public import proofs.«01_k».proof.Proof.Gen.Reference31Ideal.Read
public import Idealize.ShloMosaic.Lib.Pipeline.ValueKit
public import Idealize.ShloMosaic.Lib.Pipeline.ReadBack

/-! The gradient through the modulation of the first layer: of the tokens, and of the scale and the shift, summed over each sequence. -/

@[expose] public section

set_option maxRecDepth 16384

noncomputable section

open Idealize.ShloMosaic Idealize.ShloMosaic.TcCoe Idealize.SL.Sem
open Idealize.ShloMosaic.Pipeline (Dat)

namespace Cert.Proof.ModBack

open Cert.Kernel31Ideal Cert.Kernel31Ideal.Gen

theorem out_dx (a b : Vec Ideal S512x1024 .f32) (s : Vec Ideal S1x1x1024 .f32) (r : Fin 512) (l : Fin 1024) :
    k0_pay3 a b s (ix2 r l) = b (ix2 r l) + a (ix2 r l) * (1 + s (ix3 0 0 l)) := by
  pointwise [k0_pay3]

theorem out_dsc (a x : Vec Ideal S512x1024 .f32) (s : Vec Ideal S1x1x1024 .f32) (p q : Fin 1) (l : Fin 1024) :
    k0_pay1 (k0_pay6 a s x) (ix3 p q l) = s (ix3 p q l) + ∑ k : Fin 512, (a (ix2 k l) : EReal) * x (ix2 k l) := by
  obtain rfl : p = 0 := Subsingleton.elim _ _
  obtain rfl : q = 0 := Subsingleton.elim _ _
  pointwise [k0_pay1, k0_pay6]

theorem out_dsh (a : Vec Ideal S512x1024 .f32) (s : Vec Ideal S1x1x1024 .f32) (p q : Fin 1) (l : Fin 1024) :
    k0_pay2 a s (ix3 p q l) = s (ix3 p q l) + ∑ k : Fin 512, (a (ix2 k l) : EReal) := by
  obtain rfl : p = 0 := Subsingleton.elim _ _
  obtain rfl : q = 0 := Subsingleton.elim _ _
  pointwise [k0_pay2]

theorem zero_dsc (p q : Fin 1) (l : Fin 1024) : (k0_pay4 (F := Ideal)) (ix3 p q l) = 0 := by
  pointwise [k0_pay4]

theorem zero_dsh (p q : Fin 1) (l : Fin 1024) : (k0_pay5 (F := Ideal)) (ix3 p q l) = 0 := by
  pointwise [k0_pay5]

/-- A sum over the 4096 tokens of a sequence is the sum over eight blocks of 512. -/
theorem sum_blocks (f : Fin 4096 → EReal) : ∑ k, f k = ∑ p : Fin 8, ∑ n : Fin 512, f ⟨512 * p.val + n.val, by omega⟩ := by
  rw [← Finset.sum_product', Finset.univ_product_univ]
  refine (Fintype.sum_equiv (finProdFinEquiv (m := 8) (n := 512)) _ _ fun x => ?_).symm
  exact congrArg f (Fin.ext (Nat.add_comm _ _))

theorem ref_dx (a b : Vec Ideal S8192x1024 .f32) (s : Vec Ideal S2x1x1024 .f32) (r : Fin 8192) (l : Fin 1024) :
    Cert.Reference31Ideal.Read.val_main_v17 a b s (ix2 r l) = b (ix2 r l) + a (ix2 r l) * (1 + s (ix3 ⟨r.val / 4096, by omega⟩ 0 l)) := by
  pointwise [Cert.Reference31Ideal.Read.val_main_v17, Cert.Reference31Ideal.Read.val_main_v16, Cert.Reference31Ideal.Read.val_main_v15, Cert.Reference31Ideal.Read.val_main_v14, Cert.Reference31Ideal.Read.val_main_v8, Cert.Reference31Ideal.Read.val_main_v3, Cert.Reference31Ideal.Read.val_main_v2, Cert.Reference31Ideal.Read.val_main_cst_0]

theorem ref_dsc (a x : Vec Ideal S8192x1024 .f32) (p : Fin 2) (q : Fin 1) (l : Fin 1024) :
    Cert.Reference31Ideal.Read.val_main_v13 a x (ix3 p q l) = ∑ s : Fin 8, ∑ n : Fin 512, (a (ix2 ⟨4096 * p.val + (512 * s.val + n.val), by omega⟩ l) : EReal) * x (ix2 ⟨4096 * p.val + (512 * s.val + n.val), by omega⟩ l) := by
  pointwise [Cert.Reference31Ideal.Read.val_main_v13, Cert.Reference31Ideal.Read.val_main_v12, Cert.Reference31Ideal.Read.val_main_v11, Cert.Reference31Ideal.Read.val_main_v8, Cert.Reference31Ideal.Read.val_main_v0, Cert.Reference31Ideal.Read.val_main_cst_2]
  exact (Finset.sum_congr rfl fun k _ => mul_comm _ _).trans ((sum_blocks fun k => (a (ix2 ⟨p.val * 4096 + k.val, by omega⟩ l) : EReal) * x (ix2 ⟨p.val * 4096 + k.val, by omega⟩ l)).trans
    (Finset.sum_congr rfl fun s _ => Finset.sum_congr rfl fun n _ => by simp only [Nat.mul_comm p.val 4096]))

theorem ref_dsh (a : Vec Ideal S8192x1024 .f32) (p : Fin 2) (q : Fin 1) (l : Fin 1024) :
    Cert.Reference31Ideal.Read.val_main_v10 a (ix3 p q l) = ∑ s : Fin 8, ∑ n : Fin 512, (a (ix2 ⟨4096 * p.val + (512 * s.val + n.val), by omega⟩ l) : EReal) := by
  pointwise [Cert.Reference31Ideal.Read.val_main_v10, Cert.Reference31Ideal.Read.val_main_v9, Cert.Reference31Ideal.Read.val_main_v8, Cert.Reference31Ideal.Read.val_main_cst_1]
  exact (sum_blocks fun k => (a (ix2 ⟨p.val * 4096 + k.val, by omega⟩ l) : EReal)).trans
    (Finset.sum_congr rfl fun s _ => Finset.sum_congr rfl fun n _ => by simp only [Nat.mul_comm p.val 4096])

/-- The tokens' gradient of one block. -/
def partX (a b : Vec Ideal S512x1024 .f32) (s : Vec Ideal S1x1x1024 .f32) (r : Fin 512) (l : Fin 1024) : EReal :=
  b (ix2 r l) + a (ix2 r l) * (1 + s (ix3 0 0 l))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![t.val / 8, 0, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

/-- The tokens' gradient that one grid point writes. -/
theorem step_dx (t : Fin cfg0.N) (r : Fin 512) (l : Fin 1024) :
    (outsAt0 m c t.val t.isLt).1 (ix2 r l)
      = partX (iblk m c 0 t) (iblk m c 1 t) (iblk m c 3 t) r l := by
  by_cases h0 : t.val % 8 = 0
  · rw [outsAt0_A m c t h0]
    frame_out
    exact out_dx (iblk m c 0 t) (iblk m c 1 t) (iblk m c 3 t) r l
  · rw [outsAt0_B m c t h0]
    frame_out
    exact out_dx (iblk m c 0 t) (iblk m c 1 t) (iblk m c 3 t) r l

/-- What one block of tokens adds to the scale's gradient, -/
def partSc (a x : Vec Ideal S512x1024 .f32) (j : S1x1x1024.Idx) : EReal := ∑ k : Fin 512, (a (ix2 k (j 2)) : EReal) * x (ix2 k (j 2))
/-- and to the shift's. -/
def partSh (a : Vec Ideal S512x1024 .f32) (j : S1x1x1024.Idx) : EReal := ∑ k : Fin 512, (a (ix2 k (j 2)) : EReal)

theorem first_dsc (t : Fin cfg0.N) (h0 : t.val % 8 = 0) (j : S1x1x1024.Idx) :
    (outsAt0 m c t.val t.isLt).2.1 j = 0 + partSc (iblk m c 0 t) (iblk m c 2 t) j := by
  rw [outsAt0_A m c t h0]
  frame_out
  idx_vars j
  rw [out_dsc, zero_dsc]
  rfl

theorem later_dsc (t : Fin cfg0.N) (h0 : ¬t.val % 8 = 0) (j : S1x1x1024.Idx) :
    (outsAt0 m c t.val t.isLt).2.1 j = (outsAt0 m c (t.val - 1) (Nat.lt_of_le_of_lt (Nat.sub_le _ _) t.isLt)).2.1 j + partSc (iblk m c 0 t) (iblk m c 2 t) j := by
  rw [outsAt0_B m c t h0]
  frame_out
  idx_vars j
  rw [out_dsc]
  rfl

theorem first_dsh (t : Fin cfg0.N) (h0 : t.val % 8 = 0) (j : S1x1x1024.Idx) :
    (outsAt0 m c t.val t.isLt).2.2 j = 0 + partSh (iblk m c 0 t) j := by
  rw [outsAt0_A m c t h0]
  frame_out
  idx_vars j
  rw [out_dsh, zero_dsh]
  rfl

theorem later_dsh (t : Fin cfg0.N) (h0 : ¬t.val % 8 = 0) (j : S1x1x1024.Idx) :
    (outsAt0 m c t.val t.isLt).2.2 j = (outsAt0 m c (t.val - 1) (Nat.lt_of_le_of_lt (Nat.sub_le _ _) t.isLt)).2.2 j + partSh (iblk m c 0 t) j := by
  rw [outsAt0_B m c t h0]
  frame_out
  idx_vars j
  rw [out_dsh]
  rfl

theorem final_dx : (dats m 0 c).arrAt 4 cfg0.N = Cert.Reference31Ideal.Read.val_main_v17 (m ((c.tc : Thread nD τ).loc main_arg0)) (m ((c.tc : Thread nD τ).loc main_arg1)) (m ((c.tc : Thread nD τ).loc main_arg3)) := by
  refine (dats m 0 c).arrAt_eq_of_covers 4 _ (by decide +kernel) fun t hf y => ?_
  blk_simp
  rw [after0_4]
  idx_vars y
  have hh := step_lt t
  have e : ((View.whole main_v0_0).slice (win0_4.rect t)).emb (ix2 y0 y1) = ix2 ⟨512 * t.val + y0.val, by omega⟩ y1 := by
    blk_ext [idx4 t]
  rw [e, ref_dx]
  refine (step_dx m c t y0 y1).trans ?_
  refine congrArg₂ (· + ·) ?_ (congrArg₂ (· * ·) ?_ (congrArg (1 + ·) ?_)) <;> blk_ext [iblk, V, idx0 t, idx1 t, idx3 t]

theorem final_dsc : (dats m 0 c).arrAt 5 cfg0.N = Cert.Reference31Ideal.Read.val_main_v13 (m ((c.tc : Thread nD τ).loc main_arg0)) (m ((c.tc : Thread nD τ).loc main_arg2)) := by
  refine (dats m 0 c).arrAt_eq_of_covers 5 _ (by decide +kernel) fun t hf y => ?_
  blk_simp
  rw [after0_5]
  have hm : t.val % 8 = 7 := (by decide +kernel : ∀ t : Fin grid0.N, win0_5.flush t = true → t.val % 8 = 7) t hf
  have hh := step_lt t
  refine (Pipeline.eq_sum_fin_of_reset_step_apply_of_flush (fun n h => ((outsAt0 m c n h).2.1 : S1x1x1024.Idx → EReal)) 8 (fun _ => (0 : EReal))
    (fun t j => partSc (iblk m c 0 t) (iblk m c 2 t) j) (fun t h j => first_dsc m c t h j) (fun t h j => later_dsc m c t h j) t hm y).trans ?_
  rw [zero_add]
  idx_vars y
  have e : ((View.whole main_v0_1).slice (win0_5.rect t)).emb (ix3 y0 y1 y2) = ix3 ⟨t.val / 8, by omega⟩ 0 y2 := by
    blk_ext [idx5 t]
  rw [e, ref_dsc]
  unfold partSc
  refine Finset.sum_congr rfl fun s _ => Finset.sum_congr rfl fun n _ => ?_
  congr 1 <;> blk_ext [iblk, V, idx0, idx2]

theorem final_dsh : (dats m 0 c).arrAt 6 cfg0.N = Cert.Reference31Ideal.Read.val_main_v10 (m ((c.tc : Thread nD τ).loc main_arg0)) := by
  refine (dats m 0 c).arrAt_eq_of_covers 6 _ (by decide +kernel) fun t hf y => ?_
  blk_simp
  rw [after0_6]
  have hm : t.val % 8 = 7 := (by decide +kernel : ∀ t : Fin grid0.N, win0_6.flush t = true → t.val % 8 = 7) t hf
  have hh := step_lt t
  refine (Pipeline.eq_sum_fin_of_reset_step_apply_of_flush (fun n h => ((outsAt0 m c n h).2.2 : S1x1x1024.Idx → EReal)) 8 (fun _ => (0 : EReal))
    (fun t j => partSh (iblk m c 0 t) j) (fun t h j => first_dsh m c t h j) (fun t h j => later_dsh m c t h j) t hm y).trans ?_
  rw [zero_add]
  idx_vars y
  have e : ((View.whole main_v0_2).slice (win0_6.rect t)).emb (ix3 y0 y1 y2) = ix3 ⟨t.val / 8, by omega⟩ 0 y2 := by
    blk_ext [idx6 t]
  rw [e, ref_dsh]
  unfold partSh
  refine Finset.sum_congr rfl fun s _ => Finset.sum_congr rfl fun n _ => ?_
  blk_ext [iblk, V, idx0]

/-- The kernel and the reference compute the same gradients. -/
theorem algebraic : algebraic_Kernel31Ideal_Reference31Ideal := by
  intro m g m' g' _ hargs
  refine ⟨fun c => (dats m 0 c).arrAt 4 cfg0.N, fun c => (dats m 0 c).arrAt 5 cfg0.N, fun c => (dats m 0 c).arrAt 6 cfg0.N, Cert.Kernel31Ideal.Value.run_blocks m g, ?_⟩
  refine (θ_run _ _ _).mono (fun r h c => ?_) (Cert.Reference31Ideal.Value.run (F := Ideal) m' g')
  obtain ⟨h0, h1, h2, h3⟩ := hargs c
  refine ⟨((h c).1.trans ?_), ((h c).2.1.trans ?_), ((h c).2.2.1.trans ?_), (h c).2.2.2⟩
  · show _ = (dats m 0 c).arrAt 4 cfg0.N
    rw [final_dx m c, h0, h1, h3]
    exact Cert.Reference31Ideal.Read.val_main_v17_eq _ _ _
  · show _ = (dats m 0 c).arrAt 5 cfg0.N
    rw [final_dsc m c, h0, h2]
    exact Cert.Reference31Ideal.Read.val_main_v13_eq _ _
  · show _ = (dats m 0 c).arrAt 6 cfg0.N
    rw [final_dsh m c, h0]
    exact Cert.Reference31Ideal.Read.val_main_v10_eq _

end Cert.Proof.ModBack
-- ==== Proof.ModFwd.lean ====
module

public import proofs.«01_k».proof.Defs
public import proofs.«01_k».proof.Proof.Gen.Kernel34.Frame
public import proofs.«01_k».proof.Proof.Gen.Kernel34Ideal.Value
public import proofs.«01_k».proof.Proof.Gen.Reference34Ideal.Read
public import Idealize.ShloMosaic.Lib.Pipeline.ValueKit
public import Idealize.ShloMosaic.Lib.Pipeline.ReadBack

/-! The modulation parameters of the four layers: the product with the activated condition, and the bias. -/

@[expose] public section

set_option maxRecDepth 16384

noncomputable section

open Idealize.ShloMosaic Idealize.ShloMosaic.TcCoe Idealize.SL.Sem
open Idealize.ShloMosaic.Pipeline (Dat)

namespace Cert.Proof.ModFwd

open Cert.Kernel34Ideal Cert.Kernel34Ideal.Gen

/-- The activation of the condition. -/
def act (a : Vec Ideal S16x1024 .f32) (r : Fin 16) (k : Fin 1024) : EReal := a (ix2 r k) * Ideal.logistic (a (ix2 r k))

/-- One layer's parameters. -/
def part (a : Vec Ideal S16x1024 .f32) (w : Vec Ideal S1x1024x768 .f32) (b : Vec Ideal S1x1x768 .f32) (r : Fin 16) (l : Fin 768) : EReal :=
  (∑ k : Fin 1024, act a r k * w (ix3 0 k l)) + b (ix3 0 0 l)

theorem out_part (a : Vec Ideal S16x1024 .f32) (w : Vec Ideal S1x1024x768 .f32) (b : Vec Ideal S1x1x768 .f32) (p : Fin 1) (r : Fin 16) (l : Fin 768) :
    out0_3 a w b (ix3 p r l) = part a w b r l := by
  obtain rfl : p = 0 := Subsingleton.elim _ _
  unfold out0_3
  rw [View.canon_unit_zero (funext fun a => by fin_cases a <;> rfl)]
  pointwise [k0_pay1]
  rfl

theorem ref_eq (a : Vec Ideal S16x1024 .f32) (w : Vec Ideal S4x1024x768 .f32) (b : Vec Ideal S4x1x768 .f32) (p : Fin 4) (r : Fin 16) (l : Fin 768) :
    Cert.Reference34Ideal.Read.val_main_v4 a w b (ix3 p r l) = (∑ k : Fin 1024, act a r k * w (ix3 p k l)) + b (ix3 p 0 l) := by
  pointwise [Cert.Reference34Ideal.Read.val_main_v4, Cert.Reference34Ideal.Read.val_main_v3, Cert.Reference34Ideal.Read.val_main_v2, Cert.Reference34Ideal.Read.val_main_v1, Cert.Reference34Ideal.Read.val_main_v0, Cert.Reference34Ideal.Read.val_main_call0_v5, Cert.Reference34Ideal.Read.val_main_call0_v4, Cert.Reference34Ideal.Read.val_main_call0_v3, Cert.Reference34Ideal.Read.val_main_call0_v2, Cert.Reference34Ideal.Read.val_main_call0_v1, Cert.Reference34Ideal.Read.val_main_call0_v0, Cert.Reference34Ideal.Read.val_main_call0_cst, Cert.Reference34Ideal.Read.val_main_call0_cst_0]
  exact congrArg (· + _) (Finset.sum_congr rfl fun k _ => mul_comm _ _)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

theorem step_lt (t : Fin cfg0.N) : t.val < 4 := lt_of_lt_of_eq t.isLt N_0

variable (m : (ℓ : Loc nD τ sig) → Buf (Elt Ideal) ℓ) (c : Dev nD)

theorem final_W : (dats m 0 c).arrAt 3 cfg0.N = Cert.Reference34Ideal.Read.val_main_v4 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have hh := step_lt t
  have e : ((View.whole main_v0).slice (win0_3.rect t)).emb (ix3 y0 y1 y2) = ix3 ⟨t.val, by omega⟩ y1 y2 := by
    blk_ext [idx3 t]
  rw [e, ref_eq]
  refine (out_part _ _ _ y0 y1 y2).trans ?_
  refine congrArg₂ (· + ·) (Finset.sum_congr rfl fun k _ => congrArg₂ (· * ·) (congrArg (fun z : EReal => z * Ideal.logistic z) ?_) ?_) ?_ <;> blk_ext [iblk, V, idx0 t, idx1 t, idx2 t]

/-- The kernel and the reference compute the same modulation parameters. -/
theorem algebraic : algebraic_Kernel34Ideal_Reference34Ideal := by
  intro m g m' g' _ hargs
  refine ⟨fun c => (dats m 0 c).arrAt 3 cfg0.N, Cert.Kernel34Ideal.Value.run_blocks m g, ?_⟩
  refine (θ_run _ _ _).mono (fun r h c => ?_) (Cert.Reference34Ideal.Value.run (F := Ideal) m' g')
  obtain ⟨h0, h1, h2⟩ := hargs c
  refine ⟨((h c).1.trans ?_), (h c).2⟩
  show _ = (dats m 0 c).arrAt 3 cfg0.N
  rw [final_W m c, h0, h1, h2]
  exact Cert.Reference34Ideal.Read.val_main_v4_eq _ _ _

end Cert.Proof.ModFwd
-- ==== Proof.ModGrad.lean ====
module

public import proofs.«01_k».proof.Defs
public import proofs.«01_k».proof.Proof.Gen.Kernel32.Frame
public import proofs.«01_k».proof.Proof.Gen.Kernel32Ideal.Value
public import proofs.«01_k».proof.Proof.Gen.Reference32Ideal.Read
public import Idealize.ShloMosaic.Lib.Pipeline.ValueKit
public import Idealize.ShloMosaic.Lib.Pipeline.ReadBack

/-! The gradients of the modulation weights and biases of the four layers. -/

@[expose] public section

set_option maxRecDepth 16384

noncomputable section

open Idealize.ShloMosaic Idealize.ShloMosaic.TcCoe Idealize.SL.Sem
open Idealize.ShloMosaic.Pipeline (Dat)

namespace Cert.Proof.ModGrad

open Cert.Kernel32Ideal Cert.Kernel32Ideal.Gen

/-- The activation of the condition. -/
def act (a : Vec Ideal S16x1024 .f32) (r : Fin 16) (k : Fin 1024) : EReal := a (ix2 r k) * Ideal.logistic (a (ix2 r k))

/-- One layer's weight gradient. -/
def partW (a : Vec Ideal S16x1024 .f32) (d : Vec Ideal S1x16x768 .f32) (k : Fin 1024) (l : Fin 768) : EReal :=
  ∑ r : Fin 16, act a r k * d (ix3 0 r l)

/-- One layer's bias gradient. -/
def partB (d : Vec Ideal S1x16x6144 .f32) (l : Fin 6144) : EReal := ∑ r : Fin 16, (d (ix3 0 r l) : EReal)

theorem out_W (a : Vec Ideal S16x1024 .f32) (d : Vec Ideal S1x16x768 .f32) (e : Vec Ideal S1x16x6144 .f32) (p : Fin 1) (k : Fin 1024) (l : Fin 768) :
    out0_3 a d e (ix3 p k l) = partW a d k l := by
  obtain rfl : p = 0 := Subsingleton.elim _ _
  unfold out0_3
  rw [View.canon_unit_zero (funext fun a => by fin_cases a <;> rfl)]
  pointwise [k0_pay1]
  rfl

theorem out_B (a : Vec Ideal S16x1024 .f32) (d : Vec Ideal S1x16x768 .f32) (e : Vec Ideal S1x16x6144 .f32) (p q : Fin 1) (l : Fin 6144) :
    out0_4 a d e (ix3 p q l) = partB e l := by
  obtain rfl : p = 0 := Subsingleton.elim _ _
  obtain rfl : q = 0 := Subsingleton.elim _ _
  unfold out0_4
  rw [View.canon_unit_zero (funext fun a => by fin_cases a <;> rfl)]
  pointwise [k0_pay2]
  rfl

theorem ref_W (a : Vec Ideal S16x1024 .f32) (d : Vec Ideal S4x16x768 .f32) (p : Fin 4) (k : Fin 1024) (l : Fin 768) :
    Cert.Reference32Ideal.Read.val_main_v6 a d (ix3 p k l) = ∑ r : Fin 16, act a r k * d (ix3 p r l) := by
  pointwise [Cert.Reference32Ideal.Read.val_main_v6, Cert.Reference32Ideal.Read.val_main_v5, Cert.Reference32Ideal.Read.val_main_v4, Cert.Reference32Ideal.Read.val_main_v0, Cert.Reference32Ideal.Read.val_main_call0_v5, Cert.Reference32Ideal.Read.val_main_call0_v4, Cert.Reference32Ideal.Read.val_main_call0_v3, Cert.Reference32Ideal.Read.val_main_call0_v2, Cert.Reference32Ideal.Read.val_main_call0_v1, Cert.Reference32Ideal.Read.val_main_call0_v0, Cert.Reference32Ideal.Read.val_main_call0_cst, Cert.Reference32Ideal.Read.val_main_call0_cst_0]
  exact Finset.sum_congr rfl fun k _ => mul_comm _ _

theorem ref_B (d : Vec Ideal S4x16x6144 .f32) (p : Fin 4) (q : Fin 1) (l : Fin 6144) :
    Cert.Reference32Ideal.Read.val_main_v10 d (ix3 p q l) = ∑ r : Fin 16, (d (ix3 p r l) : EReal) := by
  pointwise [Cert.Reference32Ideal.Read.val_main_v10, Cert.Reference32Ideal.Read.val_main_v9, Cert.Reference32Ideal.Read.val_main_cst_1]

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)

theorem step_lt (t : Fin cfg0.N) : t.val < 4 := lt_of_lt_of_eq t.isLt N_0

variable (m : (ℓ : Loc nD τ sig) → Buf (Elt Ideal) ℓ) (c : Dev nD)

theorem final_W : (dats m 0 c).arrAt 3 cfg0.N = Cert.Reference32Ideal.Read.val_main_v6 (m ((c.tc : Thread nD τ).loc main_arg0)) (m ((c.tc : Thread nD τ).loc main_arg1)) := by
  refine (dats m 0 c).arrAt_eq_of_covers 3 _ (by decide +kernel) fun t hf y => ?_
  blk_simp
  rw [after0_3]
  idx_vars y
  have hh := step_lt t
  have e : ((View.whole main_v0_0).slice (win0_3.rect t)).emb (ix3 y0 y1 y2) = ix3 ⟨t.val, by omega⟩ y1 y2 := by
    blk_ext [idx3 t]
  rw [e, ref_W]
  refine (out_W _ _ _ y0 y1 y2).trans ?_
  refine Finset.sum_congr rfl fun r _ => congrArg₂ (· * ·) (congrArg (fun z : EReal => z * Ideal.logistic z) ?_) ?_ <;> blk_ext [iblk, V, idx0 t, idx1 t]

theorem final_B : (dats m 0 c).arrAt 4 cfg0.N = Cert.Reference32Ideal.Read.val_main_v10 (m ((c.tc : Thread nD τ).loc main_arg2)) := by
  refine (dats m 0 c).arrAt_eq_of_covers 4 _ (by decide +kernel) fun t hf y => ?_
  blk_simp
  rw [after0_4]
  idx_vars y
  have hh := step_lt t
  have e : ((View.whole main_v0_1).slice (win0_4.rect t)).emb (ix3 y0 y1 y2) = ix3 ⟨t.val, by omega⟩ 0 y2 := by
    blk_ext [idx4 t]
  rw [e, ref_B]
  refine (out_B _ _ _ y0 y1 y2).trans ?_
  refine Finset.sum_congr rfl fun r _ => ?_
  blk_ext [iblk, V, idx2 t]

/-- The kernel and the reference compute the same gradients. -/
theorem algebraic : algebraic_Kernel32Ideal_Reference32Ideal := by
  intro m g m' g' _ hargs
  refine ⟨fun c => (dats m 0 c).arrAt 3 cfg0.N, fun c => (dats m 0 c).arrAt 4 cfg0.N, Cert.Kernel32Ideal.Value.run_blocks m g, ?_⟩
  refine (θ_run _ _ _).mono (fun r h c => ?_) (Cert.Reference32Ideal.Value.run (F := Ideal) m' g')
  obtain ⟨h0, h1, h2⟩ := hargs c
  refine ⟨((h c).1.trans ?_), ((h c).2.1.trans ?_), (h c).2.2⟩
  · show _ = (dats m 0 c).arrAt 3 cfg0.N
    rw [final_W m c, h0, h1]
    exact Cert.Reference32Ideal.Read.val_main_v6_eq _ _
  · show _ = (dats m 0 c).arrAt 4 cfg0.N
    rw [final_B m c, h2]
    exact Cert.Reference32Ideal.Read.val_main_v10_eq _

end Cert.Proof.ModGrad
-- ==== Proof.Modulate.lean ====
module

public import proofs.«01_k».proof.Defs
public import proofs.«01_k».proof.Proof.Gen.Kernel33.Frame
public import proofs.«01_k».proof.Proof.Gen.Kernel33Ideal.Value
public import proofs.«01_k».proof.Proof.Gen.Reference33Ideal.Read
public import Idealize.ShloMosaic.Lib.Pipeline.ValueKit
public import Idealize.ShloMosaic.Lib.Pipeline.ReadBack

/-! The modulation of the tokens: scale and shift by sequence. -/

@[expose] public section

set_option maxRecDepth 16384

noncomputable section

open Idealize.ShloMosaic Idealize.ShloMosaic.TcCoe Idealize.SL.Sem
open Idealize.ShloMosaic.Pipeline (Dat)

namespace Cert.Proof.Modulate

open Cert.Kernel33Ideal Cert.Kernel33Ideal.Gen

/-- One block of modulated tokens. -/
def part (a : Vec Ideal S512x1024 .f32) (s u : Vec Ideal S1x1x1024 .f32) (r : Fin 512) (l : Fin 1024) : EReal :=
  a (ix2 r l) * (1 + s (ix3 0 0 l)) + u (ix3 0 0 l)

theorem out_part (a : Vec Ideal S512x1024 .f32) (s u : Vec Ideal S1x1x1024 .f32) (r : Fin 512) (l : Fin 1024) :
    out0_3 a s u (ix2 r l) = part a s u r l := by
  unfold out0_3
  rw [View.canon_unit_zero (funext fun a => by fin_cases a <;> rfl)]
  pointwise [k0_pay1]
  rfl

theorem ref_eq (a : Vec Ideal S8192x1024 .f32) (s u : Vec Ideal S2x1x1024 .f32) (r : Fin 8192) (l : Fin 1024) :
    Cert.Reference33Ideal.Read.val_main_v8 a s u (ix2 r l) = (a (ix2 r l) : EReal) * (1 + s (ix3 ⟨r.val / 4096, by omega⟩ 0 l)) + u (ix3 ⟨r.val / 4096, by omega⟩ 0 l) := by
  pointwise [Cert.Reference33Ideal.Read.val_main_v8, Cert.Reference33Ideal.Read.val_main_v7, Cert.Reference33Ideal.Read.val_main_v6, Cert.Reference33Ideal.Read.val_main_v5, Cert.Reference33Ideal.Read.val_main_v4, Cert.Reference33Ideal.Read.val_main_v3, Cert.Reference33Ideal.Read.val_main_v2, Cert.Reference33Ideal.Read.val_main_v1, Cert.Reference33Ideal.Read.val_main_v0, Cert.Reference33Ideal.Read.val_main_cst]

theorem idx0 : ∀ t : Fin cfg0.N, win0_0.index t = ![t.val, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val, 0] := (by decide +kernel : ∀ t : Fin grid0.N, _)

theorem step_lt (t : Fin cfg0.N) : t.val < 16 := lt_of_lt_of_eq t.isLt N_0

variable (m : (ℓ : Loc nD τ sig) → Buf (Elt Ideal) ℓ) (c : Dev nD)

theorem final_W : (dats m 0 c).arrAt 3 cfg0.N = Cert.Reference33Ideal.Read.val_main_v8 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have hh := step_lt t
  have e : ((View.whole main_v0).slice (win0_3.rect t)).emb (ix2 y0 y1) = ix2 ⟨512 * t.val + y0.val, by omega⟩ y1 := by
    blk_ext [idx3 t]
  rw [e, ref_eq]
  refine (out_part _ _ _ y0 y1).trans ?_
  refine congrArg₂ (· + ·) (congrArg₂ (· * ·) ?_ (congrArg (1 + ·) ?_)) ?_ <;> blk_ext [iblk, V, idx0 t, idx1 t, idx2 t]

/-- The kernel and the reference compute the same modulated tokens. -/
theorem algebraic : algebraic_Kernel33Ideal_Reference33Ideal := by
  intro m g m' g' _ hargs
  refine ⟨fun c => (dats m 0 c).arrAt 3 cfg0.N, Cert.Kernel33Ideal.Value.run_blocks m g, ?_⟩
  refine (θ_run _ _ _).mono (fun r h c => ?_) (Cert.Reference33Ideal.Value.run (F := Ideal) m' g')
  obtain ⟨h0, h1, h2⟩ := hargs c
  refine ⟨((h c).1.trans ?_), (h c).2⟩
  show _ = (dats m 0 c).arrAt 3 cfg0.N
  rw [final_W m c, h0, h1, h2]
  exact Cert.Reference33Ideal.Read.val_main_v8_eq _ _ _

end Cert.Proof.Modulate
-- ==== Proof.OutBwd.lean ====
module

public import proofs.«01_k».proof.Defs
public import proofs.«01_k».proof.Proof.FfnSum
public import proofs.«01_k».proof.Proof.Gen.Kernel15.Frame
public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

/-! The gradient behind a mixer's output weights, per block of 1024 tokens. -/

@[expose] public section

set_option maxRecDepth 16384

noncomputable section

open Idealize.ShloMosaic Idealize.ShloMosaic.TcCoe Idealize.SL.Sem
open Idealize.ShloMosaic.Pipeline (Dat)

namespace Cert.Proof.OutBwd

open Cert.Kernel15Ideal Cert.Kernel15Ideal.Gen Cert.Proof.Ffn

/-- One element of the product. -/
def prod (x0 : Vec Ideal S8192x1024 .bf16) (x1 : Vec Ideal S1024x1024 .bf16) (t : Fin 8192) (l : Fin 1024) : EReal :=
  (∑ n : Fin 1024, (x0 (ix2 t n) : EReal) * x1 (ix2 l n))

theorem out_apply (x0 : Vec Ideal S1024x1024 .bf16) (x1 : Vec Ideal S1024x1024 .bf16) (r : Fin 1024) (l : Fin 1024) :
    out0_2 x0 x1 (ix2 r l) = (∑ n : Fin 1024, (x0 (ix2 r n) : EReal) * x1 (ix2 l n)) := by
  unfold out0_2
  rw [View.canon_unit_zero (funext fun a => by fin_cases a <;> rfl)]
  pointwise [k0_pay1]

theorem ref_apply (x0 : Vec Ideal S8192x1024 .bf16) (x1 : Vec Ideal S1024x1024 .bf16) (t : Fin 8192) (l : Fin 1024) :
    Cert.Reference15Ideal.Read.val_main_v4 x0 x1 (ix2 t l) = prod x0 x1 t l := by
  pointwise [Cert.Reference15Ideal.Read.val_main_v0, Cert.Reference15Ideal.Read.val_main_v2, Cert.Reference15Ideal.Read.val_main_v3, Cert.Reference15Ideal.Read.val_main_v4]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 1024) : 1024 * t.val + y.val < 8192 := by
  have h := t.isLt
  have hN : cfg0.N = 8 := by decide +kernel
  omega

/-- The kernel's whole result. -/
theorem final (m : (ℓ : Loc nD τ sig) → Buf (Elt Ideal) ℓ) (c : Dev nD) : (dats m 0 c).arrAt 2 cfg0.N = Cert.Reference15Ideal.Read.val_main_v4 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨1024 * t.val + y0.val, row t y0⟩ y1 := by
    blk_ext [idx2 t]
  rw [e, ref_apply, out_apply]
  unfold prod
  change (_ : EReal) = (_ : EReal)
  refine Finset.sum_congr rfl fun n _ => ?_
  congr 1 <;> blk_ext [iblk, V, idx0 t, idx1 t]

/-- The kernel and the reference compute the same result. -/
theorem algebraic : algebraic_Kernel15Ideal_Reference15Ideal := by
  intro m g m' g' _ hargs
  refine ⟨fun c => (dats m 0 c).arrAt 2 cfg0.N, Cert.Kernel15Ideal.Value.run_blocks m g, ?_⟩
  refine (θ_run _ _ _).mono (fun r h c => ?_) (Cert.Reference15Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference15Ideal.Read.val_main_v4_eq _ _

end Cert.Proof.OutBwd
-- ==== Proof.OutDwB.lean ====
module

public import proofs.«01_k».proof.Defs
public import proofs.«01_k».proof.Proof.FfnSum
public import proofs.«01_k».proof.Proof.Gen.Kernel16.Frame
public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack

/-! The gradient of a mixer's output weights from its bf16 input: eight products accumulated over the tokens. -/

@[expose] public section

set_option maxRecDepth 16384

noncomputable section

open Idealize.ShloMosaic Idealize.ShloMosaic.TcCoe Idealize.SL.Sem
open Idealize.ShloMosaic.Pipeline (Dat)

namespace Cert.Proof.OutDwB

open Cert.Kernel16Ideal Cert.Kernel16Ideal.Gen Cert.Proof.Ffn

variable (m : (ℓ : Loc nD τ sig) → Buf (Elt Ideal) ℓ) (c : Dev nD)

/-- The product of one block of tokens. -/
def part (x0 : Vec Ideal S1024x1024 .bf16) (x1 : Vec Ideal S1024x1024 .bf16) (j : S1024x1024.Idx) : EReal :=
  ∑ k : Fin 1024, (x0 (ix2 k (j 0)) : EReal) * x1 (ix2 k (j 1))

theorem first_apply (x0 : Vec Ideal S1024x1024 .bf16) (x1 : Vec Ideal S1024x1024 .bf16) (j : S1024x1024.Idx) :
    k0_pay2 x0 x1 j = part x0 x1 j := by
  idx_vars j
  pointwise [k0_pay2, k0_pay1, part]

theorem later_apply (x0 : Vec Ideal S1024x1024 .bf16) (x1 : Vec Ideal S1024x1024 .bf16) (xs : Vec Ideal S1024x1024 .f32) (j : S1024x1024.Idx) :
    k0_pay3 x0 x1 xs j = xs j + part x0 x1 j := by
  idx_vars j
  pointwise [k0_pay3, k0_pay1, part]

/-- What a grid point after the first leaves in the accumulator. -/
theorem step_later (t : Fin cfg0.N) (h0 : ¬t.val % 8 = 0) (j : S1024x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 (by omega) h1]
    frame_out
    rw [read_unread_whole]
    exact later_apply _ _ _ j
  · rw [outsAt0_B m c t h0 (by omega) h1]
    frame_out
    rw [read_unread_whole]
    exact later_apply _ _ _ j

/-- What the first grid point leaves in the accumulator. -/
theorem step_first (t : Fin cfg0.N) (h0 : t.val % 8 = 0) (j : S1024x1024.Idx) :
    (outsAt0 m c t.val t.isLt).2 j = 0 + part (iblk m c 0 t) (iblk m c 1 t) j := by
  have ht := t.isLt
  have hN : cfg0.N = 8 := by decide +kernel
  rw [outsAt0_A m c t h0 (by omega) (by omega), zero_add]
  frame_out
  exact first_apply _ _ j

/-- What the last grid point writes back is the accumulator. -/
theorem out_last (t : Fin cfg0.N) (h1 : t.val % 8 = 7) : (outsAt0 m c t.val t.isLt).1 = (outsAt0 m c t.val t.isLt).2 := by
  rw [outsAt0_C m c t (by omega) (by omega) h1]
  frame_out
  funext j
  idx_vars j
  pointwise [k0_pay4]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The reference's gradient at one element, block of tokens by block of tokens. -/
theorem ref_apply (a : Vec Ideal S8192x1024 .bf16) (b : Vec Ideal S8192x1024 .bf16) (r l : Fin 1024) :
    Cert.Reference16Ideal.Read.val_main_v6 a b (ix2 r l)
      = ∑ s : Fin 8, ∑ n : Fin 1024, (a (ix2 ⟨1024 * s.val + n.val, by omega⟩ r) : EReal) * b (ix2 ⟨1024 * s.val + n.val, by omega⟩ l) := by
  pointwise [Cert.Reference16Ideal.Read.val_main_v0, Cert.Reference16Ideal.Read.val_main_v3, Cert.Reference16Ideal.Read.val_main_v4, Cert.Reference16Ideal.Read.val_main_v5, Cert.Reference16Ideal.Read.val_main_v6]
  rw [sum_tokens]
  refine Finset.sum_congr rfl fun s _ => Finset.sum_congr rfl fun n _ => ?_
  rw [mul_comm]

def tLast : Fin cfg0.N := ⟨7, lt_of_lt_of_eq (by decide) N_0.symm⟩

/-- The accumulator after the last grid point: every block's product. -/
theorem acc_last (j : S1024x1024.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S1024x1024.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference16Ideal.Read.val_main_v6 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  rw [after0_2, out_last m c tLast (by decide)]
  idx_vars y
  have e : ((View.whole main_v0).slice (win0_2.rect tLast)).emb (ix2 y0 y1) = ix2 y0 y1 := by
    blk_ext [idx2]
  rw [e, ref_apply]
  refine (acc_last m c (ix2 y0 y1)).trans ?_
  unfold part
  refine Finset.sum_congr rfl fun s _ => Finset.sum_congr rfl fun n _ => ?_
  congr 1 <;> blk_ext [iblk, V, idx0, idx1, Fin.val_cast]

/-- The kernel and the reference compute the same result. -/
theorem algebraic : algebraic_Kernel16Ideal_Reference16Ideal := by
  intro m g m' g' _ hargs
  refine ⟨fun c => (dats m 0 c).arrAt 2 cfg0.N, Cert.Kernel16Ideal.Value.run_blocks m g, ?_⟩
  refine (θ_run _ _ _).mono (fun r h c => ?_) (Cert.Reference16Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference16Ideal.Read.val_main_v6_eq _ _

end Cert.Proof.OutDwB
-- ==== Proof.OutDwF.lean ====
module

public import proofs.«01_k».proof.Defs
public import proofs.«01_k».proof.Proof.FfnSum
public import proofs.«01_k».proof.Proof.Gen.Kernel17.Frame
public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack

/-! The gradient of the attention's output weights from its f32 input: eight products accumulated over the tokens. -/

@[expose] public section

set_option maxRecDepth 16384

noncomputable section

open Idealize.ShloMosaic Idealize.ShloMosaic.TcCoe Idealize.SL.Sem
open Idealize.ShloMosaic.Pipeline (Dat)

namespace Cert.Proof.OutDwF

open Cert.Kernel17Ideal Cert.Kernel17Ideal.Gen Cert.Proof.Ffn

variable (m : (ℓ : Loc nD τ sig) → Buf (Elt Ideal) ℓ) (c : Dev nD)

/-- The product of one block of tokens. -/
def part (x0 : Vec Ideal S1024x1024 .f32) (x1 : Vec Ideal S1024x1024 .bf16) (j : S1024x1024.Idx) : EReal :=
  ∑ k : Fin 1024, (x0 (ix2 k (j 0)) : EReal) * x1 (ix2 k (j 1))

theorem first_apply (x0 : Vec Ideal S1024x1024 .f32) (x1 : Vec Ideal S1024x1024 .bf16) (j : S1024x1024.Idx) :
    k0_pay2 x0 x1 j = part x0 x1 j := by
  idx_vars j
  pointwise [k0_pay2, k0_pay1, part]

theorem later_apply (x0 : Vec Ideal S1024x1024 .f32) (x1 : Vec Ideal S1024x1024 .bf16) (xs : Vec Ideal S1024x1024 .f32) (j : S1024x1024.Idx) :
    k0_pay3 x0 x1 xs j = xs j + part x0 x1 j := by
  idx_vars j
  pointwise [k0_pay3, k0_pay1, part]

/-- What a grid point after the first leaves in the accumulator. -/
theorem step_later (t : Fin cfg0.N) (h0 : ¬t.val % 8 = 0) (j : S1024x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 (by omega) h1]
    frame_out
    rw [read_unread_whole]
    exact later_apply _ _ _ j
  · rw [outsAt0_B m c t h0 (by omega) h1]
    frame_out
    rw [read_unread_whole]
    exact later_apply _ _ _ j

/-- What the first grid point leaves in the accumulator. -/
theorem step_first (t : Fin cfg0.N) (h0 : t.val % 8 = 0) (j : S1024x1024.Idx) :
    (outsAt0 m c t.val t.isLt).2 j = 0 + part (iblk m c 0 t) (iblk m c 1 t) j := by
  have ht := t.isLt
  have hN : cfg0.N = 8 := by decide +kernel
  rw [outsAt0_A m c t h0 (by omega) (by omega), zero_add]
  frame_out
  exact first_apply _ _ j

/-- What the last grid point writes back is the accumulator. -/
theorem out_last (t : Fin cfg0.N) (h1 : t.val % 8 = 7) : (outsAt0 m c t.val t.isLt).1 = (outsAt0 m c t.val t.isLt).2 := by
  rw [outsAt0_C m c t (by omega) (by omega) h1]
  frame_out
  funext j
  idx_vars j
  pointwise [k0_pay4]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The reference's gradient at one element, block of tokens by block of tokens. -/
theorem ref_apply (a : Vec Ideal S8192x1024 .f32) (b : Vec Ideal S8192x1024 .bf16) (r l : Fin 1024) :
    Cert.Reference17Ideal.Read.val_main_v5 a b (ix2 r l)
      = ∑ s : Fin 8, ∑ n : Fin 1024, (a (ix2 ⟨1024 * s.val + n.val, by omega⟩ r) : EReal) * b (ix2 ⟨1024 * s.val + n.val, by omega⟩ l) := by
  pointwise [Cert.Reference17Ideal.Read.val_main_v2, Cert.Reference17Ideal.Read.val_main_v3, Cert.Reference17Ideal.Read.val_main_v4, Cert.Reference17Ideal.Read.val_main_v5]
  rw [sum_tokens]
  refine Finset.sum_congr rfl fun s _ => Finset.sum_congr rfl fun n _ => ?_
  rw [mul_comm]

def tLast : Fin cfg0.N := ⟨7, lt_of_lt_of_eq (by decide) N_0.symm⟩

/-- The accumulator after the last grid point: every block's product. -/
theorem acc_last (j : S1024x1024.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S1024x1024.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference17Ideal.Read.val_main_v5 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  rw [after0_2, out_last m c tLast (by decide)]
  idx_vars y
  have e : ((View.whole main_v0).slice (win0_2.rect tLast)).emb (ix2 y0 y1) = ix2 y0 y1 := by
    blk_ext [idx2]
  rw [e, ref_apply]
  refine (acc_last m c (ix2 y0 y1)).trans ?_
  unfold part
  refine Finset.sum_congr rfl fun s _ => Finset.sum_congr rfl fun n _ => ?_
  congr 1 <;> blk_ext [iblk, V, idx0, idx1, Fin.val_cast]

/-- The kernel and the reference compute the same result. -/
theorem algebraic : algebraic_Kernel17Ideal_Reference17Ideal := by
  intro m g m' g' _ hargs
  refine ⟨fun c => (dats m 0 c).arrAt 2 cfg0.N, Cert.Kernel17Ideal.Value.run_blocks m g, ?_⟩
  refine (θ_run _ _ _).mono (fun r h c => ?_) (Cert.Reference17Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference17Ideal.Read.val_main_v5_eq _ _

end Cert.Proof.OutDwF
-- ==== Proof.ProjCols.lean ====
module

public import proofs.«01_k».proof.Defs
public import proofs.«01_k».proof.Proof.FfnSum
public import proofs.«01_k».proof.Proof.Gen.Kernel18.Frame
public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack

/-! A mixer's input projection: eight products of 256 columns per block of 512 tokens, with the bias, against the reference's one
product over 2048 columns. -/

@[expose] public section

set_option maxRecDepth 16384

noncomputable section

open Idealize.ShloMosaic Idealize.ShloMosaic.TcCoe Idealize.SL.Sem
open Idealize.ShloMosaic.Pipeline (Dat)

namespace Cert.Proof.ProjCols

open Cert.Kernel18Ideal Cert.Kernel18Ideal.Gen Cert.Proof.Ffn

/-- The column block of a column. -/
def blk (l : Fin 2048) : Fin 8 := ⟨l.val / 256, by omega⟩

/-- The column within its block. -/
def col (l : Fin 2048) : Fin 256 := ⟨l.val % 256, by omega⟩

/-- One element of the projection. -/
def proj (x0 : Vec Ideal S8192x1024 .bf16) (x1 : Vec Ideal S1x8x1024x256 .bf16) (x2 : Vec Ideal S1x2048 .f32) (t : Fin 8192) (l : Fin 2048) : EReal :=
  (∑ n : Fin 1024, (x0 (ix2 t n) : EReal) * x1 (ix4 0 (blk l) n (col l))) + x2 (ix2 0 l)

/-- What the kernel's block holds at an index. -/
def blockProj (x0 : Vec Ideal S512x1024 .bf16) (x1 : Vec Ideal S1x8x1024x256 .bf16) (x2 : Vec Ideal S1x2048 .f32) (j : S512x2048.Idx) : EReal :=
  (∑ n : Fin 1024, (x0 (ix2 (j 0) n) : EReal) * x1 (ix4 0 (blk (j 1)) n (col (j 1)))) + x2 (ix2 0 (j 1))

theorem out_apply (x0 : Vec Ideal S512x1024 .bf16) (x1 : Vec Ideal S1x8x1024x256 .bf16) (x2 : Vec Ideal S1x2048 .f32) (j : S512x2048.Idx) :
    out0_3 x0 x1 x2 j = blockProj x0 x1 x2 j := by
  unfold out0_3
  canon_tiles x h
  all_goals
    idx_vars x
    pointwise [k0_pay1, k0_pay2, k0_pay3, k0_pay4, k0_pay5, k0_pay6, k0_pay7, k0_pay8, blockProj]
    refine congrArg₂ (· + ·) (Finset.sum_congr rfl fun k _ => congrArg₂ (· * ·) (congrArg _ ?_) (congrArg _ ?_)) (congrArg _ ?_) <;> blk_ext [blk, col]

theorem ref_apply (x0 : Vec Ideal S8192x1024 .bf16) (x1 : Vec Ideal S1x8x1024x256 .bf16) (x2 : Vec Ideal S1x2048 .f32) (t : Fin 8192) (l : Fin 2048) :
    Cert.Reference18Ideal.Read.val_main_v7 x0 x1 x2 (ix2 t l) = proj x0 x1 x2 t l := by
  pointwise [Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7]
  unfold proj
  refine congrArg₂ (· + ·) ?_ rfl
  refine Finset.sum_congr rfl fun n _ => congrArg₂ (· * ·) (congrArg _ ?_) (congrArg _ ?_) <;>
  · funext a
    apply Fin.ext
    fin_cases a <;> first | rfl | (simp [blk, col] <;> omega)

theorem idx0 : ∀ t : Fin cfg0.N, win0_0.index t = ![t.val, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem row (t : Fin cfg0.N) (y : Fin 512) : 512 * t.val + y.val < 8192 := by
  have h := t.isLt
  have hN : cfg0.N = 16 := by decide +kernel
  omega

/-- The kernel's whole result. -/
theorem final (m : (ℓ : Loc nD τ sig) → Buf (Elt Ideal) ℓ) (c : Dev nD) : (dats m 0 c).arrAt 3 cfg0.N = Cert.Reference18Ideal.Read.val_main_v7 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : ((View.whole main_v0).slice (win0_3.rect t)).emb (ix2 y0 y1) = ix2 ⟨512 * t.val + y0.val, row t y0⟩ y1 := by
    blk_ext [idx3 t]
  rw [e, ref_apply, out_apply]
  unfold proj blockProj
  refine congrArg₂ (· + ·) (Finset.sum_congr rfl fun n _ => ?_) ?_
  · congr 1 <;> blk_ext [iblk, V, idx0 t, idx1 t, blk, col]
  · blk_ext [iblk, V, idx2 t]

/-- The kernel and the reference compute the same result. -/
theorem algebraic : algebraic_Kernel18Ideal_Reference18Ideal := by
  intro m g m' g' _ hargs
  refine ⟨fun c => (dats m 0 c).arrAt 3 cfg0.N, Cert.Kernel18Ideal.Value.run_blocks m g, ?_⟩
  refine (θ_run _ _ _).mono (fun r h c => ?_) (Cert.Reference18Ideal.Value.run (F := Ideal) m' g')
  obtain ⟨h0, h1, h2⟩ := hargs c
  refine ⟨((h c).1.trans ?_), (h c).2⟩
  show _ = (dats m 0 c).arrAt 3 cfg0.N
  rw [final m c, h0, h1, h2]
  exact Cert.Reference18Ideal.Read.val_main_v7_eq _ _ _

end Cert.Proof.ProjCols
-- ==== Proof.QkvDh.lean ====
module

public import proofs.«01_k».proof.Defs
public import proofs.«01_k».proof.Proof.FfnSum
public import proofs.«01_k».proof.Proof.Gen.Kernel11.Frame
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

/-! The gradient behind the query, key and value projections: three products per block of 512 tokens against the reference's gradient
of one product over 3072 columns. -/

@[expose] public section

set_option maxRecDepth 16384

noncomputable section

open Idealize.ShloMosaic Idealize.ShloMosaic.TcCoe Idealize.SL.Sem
open Idealize.ShloMosaic.Pipeline (Dat)

namespace Cert.Proof.QkvDh

open Cert.Kernel11Ideal Cert.Kernel11Ideal.Gen Cert.Proof.Ffn

/-- One element of the gradient, block of columns by block of columns. -/
def dh (x0 : Vec Ideal S3x8192x1024 .bf16) (x1 : Vec Ideal S1024x3072 .bf16) (t : Fin 8192) (l : Fin 1024) : EReal :=
  ∑ p : Fin 3, ∑ n : Fin 1024, (x0 (ix3 p t n) : EReal) * x1 (ix2 l ⟨1024 * p.val + n.val, by omega⟩)

/-- A sum over 3072 columns is the sum over three blocks of 1024. -/
theorem sum_cols (f : Fin 3072 → EReal) : ∑ k, f k = ∑ p : Fin 3, ∑ n : Fin 1024, f ⟨1024 * p.val + n.val, by omega⟩ := by
  rw [← Finset.sum_product', Finset.univ_product_univ]
  refine (Fintype.sum_equiv (finProdFinEquiv (m := 3) (n := 1024)) _ _ fun x => ?_).symm
  refine congrArg f (Fin.ext ?_)
  show 1024 * x.1.val + x.2.val = x.2.val + 1024 * x.1.val
  omega

theorem out_apply (x0 : Vec Ideal S3x512x1024 .bf16) (x1 : Vec Ideal S1024x3072 .bf16) (r : Fin 512) (l : Fin 1024) :
    out0_2 x0 x1 (ix2 r l) = ∑ p : Fin 3, ∑ n : Fin 1024, (x0 (ix3 p r n) : EReal) * x1 (ix2 l ⟨1024 * p.val + n.val, by omega⟩) := by
  unfold out0_2
  rw [View.canon_unit_zero (funext fun a => by fin_cases a <;> rfl)]
  pointwise [k0_pay1]
  rw [Fin.sum_univ_three]
  refine congrArg₂ (· + ·) (congrArg₂ (· + ·) ?_ ?_) ?_ <;>
  · refine Finset.sum_congr rfl fun n _ => congrArg₂ (· * ·) (congrArg _ ?_) (congrArg _ ?_) <;>
    · funext a
      apply Fin.ext
      fin_cases a <;> first | rfl | (simp <;> omega)

theorem ref_apply (x0 : Vec Ideal S3x8192x1024 .bf16) (x1 : Vec Ideal S1024x3072 .bf16) (t : Fin 8192) (l : Fin 1024) :
    Cert.Reference11Ideal.Read.val_main_v14 x0 x1 (ix2 t l) = dh x0 x1 t l := by
  pointwise [Cert.Reference11Ideal.Read.val_main_v0, Cert.Reference11Ideal.Read.val_main_cst, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14]
  unfold dh
  rw [sum_cols]
  refine Finset.sum_congr rfl fun p _ => ?_
  refine Finset.sum_congr rfl fun n _ => congrArg₂ (· * ·) ?_ (congrArg _ ?_)
  · split_ifs with h1 h2 <;> refine congrArg x0 ?_ <;> blk_ext <;> dsimp only at * <;> omega
  · blk_ext

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem row (t : Fin cfg0.N) (y : Fin 512) : 512 * t.val + y.val < 8192 := by
  have h := t.isLt
  have hN : cfg0.N = 16 := by decide +kernel
  omega

/-- The kernel's whole result. -/
theorem final (m : (ℓ : Loc nD τ sig) → Buf (Elt Ideal) ℓ) (c : Dev nD) : (dats m 0 c).arrAt 2 cfg0.N = Cert.Reference11Ideal.Read.val_main_v14 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix2 y0 y1) = ix2 ⟨512 * t.val + y0.val, row t y0⟩ y1 := by
    blk_ext [idx2 t]
  rw [e, ref_apply, out_apply]
  unfold dh
  change (_ : EReal) = (_ : EReal)
  refine Finset.sum_congr rfl fun p _ => Finset.sum_congr rfl fun n _ => ?_
  congr 1 <;> blk_ext [iblk, V, idx0 t, idx1 t]

/-- The kernel and the reference compute the same result. -/
theorem algebraic : algebraic_Kernel11Ideal_Reference11Ideal := by
  intro m g m' g' _ hargs
  refine ⟨fun c => (dats m 0 c).arrAt 2 cfg0.N, Cert.Kernel11Ideal.Value.run_blocks m g, ?_⟩
  refine (θ_run _ _ _).mono (fun r h c => ?_) (Cert.Reference11Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference11Ideal.Read.val_main_v14_eq _ _

end Cert.Proof.QkvDh
-- ==== Proof.QkvDw.lean ====
module

public import proofs.«01_k».proof.Defs
public import proofs.«01_k».proof.Proof.FfnSum
public import proofs.«01_k».proof.Proof.Gen.Kernel10.Frame
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

/-! The gradient of the query, key and value weights: three products per block of tokens, accumulated over the tokens. -/

@[expose] public section

set_option maxRecDepth 16384

noncomputable section

open Idealize.ShloMosaic Idealize.ShloMosaic.TcCoe Idealize.SL.Sem
open Idealize.ShloMosaic.Pipeline (Dat)

namespace Cert.Proof.QkvDw

open Cert.Kernel10Ideal Cert.Kernel10Ideal.Gen Cert.Proof.Ffn

variable (m : (ℓ : Loc nD τ sig) → Buf (Elt Ideal) ℓ) (c : Dev nD)

/-- The product of one block of tokens. -/
def part (x0 : Vec Ideal S1024x1024 .bf16) (x1 : Vec Ideal S3x1024x1024 .bf16) (j : S3x1024x1024.Idx) : EReal :=
  ∑ k : Fin 1024, (x0 (ix2 k (j 1)) : EReal) * x1 (ix3 (j 0) k (j 2))

/-- The stores of one grid point into the accumulator. -/
def pieces (x0 : Vec Ideal S1024x1024 .bf16) (x1 : Vec Ideal S3x1024x1024 .bf16) (xs : Vec Ideal S3x1024x1024 .f32) : List (View.Piece (Elt Ideal) S3x1024x1024 .f32) :=
  [⟨Rect.unit ![2, 0, 0] ![1, 1024, 1024] inb_S3x1024x1024_S1x1024x1024_2_0_0, k0_pay1 (k0_pay6 x0 (View.ld x1 (Rect.unit ![2, 0, 0] ![1, 1024, 1024] inb_S3x1024x1024_S1x1024x1024_2_0_0))) (View.ld xs (Rect.unit ![2, 0, 0] ![1, 1024, 1024] inb_S3x1024x1024_S1x1024x1024_2_0_0))⟩,
    ⟨Rect.unit ![1, 0, 0] ![1, 1024, 1024] inb_S3x1024x1024_S1x1024x1024_1_0_0, k0_pay8 x0 (View.ld x1 (Rect.unit ![1, 0, 0] ![1, 1024, 1024] inb_S3x1024x1024_S1x1024x1024_1_0_0)) (View.ld xs (Rect.unit ![1, 0, 0] ![1, 1024, 1024] inb_S3x1024x1024_S1x1024x1024_1_0_0))⟩,
    ⟨Rect.unit ![0, 0, 0] ![1, 1024, 1024] inb_S3x1024x1024_S1x1024x1024_0_0_0, k0_pay7 x0 (View.ld x1 (Rect.unit ![0, 0, 0] ![1, 1024, 1024] inb_S3x1024x1024_S1x1024x1024_0_0_0)) (View.ld xs (Rect.unit ![0, 0, 0] ![1, 1024, 1024] inb_S3x1024x1024_S1x1024x1024_0_0_0))⟩]

/-- The accumulator after one grid point, from what the point before left. -/
def acc (x0 : Vec Ideal S1024x1024 .bf16) (x1 : Vec Ideal S3x1024x1024 .bf16) (xs : Vec Ideal S3x1024x1024 .f32) : Vec Ideal S3x1024x1024 .f32 :=
  View.canon (pieces x0 x1 xs)

/-- The accumulator after one grid point, at an index: what it held plus the block's product. -/
theorem out_apply (a : Vec Ideal S1024x1024 .bf16) (b : Vec Ideal S3x1024x1024 .bf16) (xs : Vec Ideal S3x1024x1024 .f32) (j : S3x1024x1024.Idx) :
    acc a b xs j = xs j + part a b j := by
  unfold acc
  unfold pieces
  canon_tiles x h
  all_goals
    idx_vars x
    pointwise [k0_pay1, k0_pay2, k0_pay3, k0_pay4, k0_pay5, k0_pay6, k0_pay7, k0_pay8, part]
    refine congrArg₂ (· + ·) (congrArg xs ?_) (Finset.sum_congr rfl fun k _ => congrArg₂ (· * ·) (congrArg a ?_) (congrArg b ?_)) <;> blk_ext

theorem pieces_cover (a : Vec Ideal S1024x1024 .bf16) (b : Vec Ideal S3x1024x1024 .bf16) (xs : Vec Ideal S3x1024x1024 .f32) (j : S3x1024x1024.Idx) :
    ∃ p ∈ pieces a b xs, j ∈ p.1.set :=
  View.cover_of_tiledL (pieces a b xs) ![1, 1024, 1024] (by sl_kernel_rfl) j

/-- What a grid point after the first leaves in the accumulator. -/
theorem step_later (t : Fin cfg0.N) (h0 : ¬t.val % 8 = 0) (j : S3x1024x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 8 = 7
  · rw [outsAt0_C m c t h0 h1]
    frame_out
    rw [read_unread_whole]
    exact out_apply _ _ _ j
  · rw [outsAt0_B m c t h0 h1]
    frame_out
    rw [read_unread_whole]
    exact out_apply _ _ _ j

/-- What the first grid point leaves in the accumulator. -/
theorem step_first (t : Fin cfg0.N) (h0 : t.val % 8 = 0) (j : S3x1024x1024.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  have key := (canon_append_of_cover [⟨Rect.unit ![0, 0, 0] ![3, 1024, 1024] inb_S3x1024x1024_S3x1024x1024_0_0_0, k0_pay5 (F := Ideal)⟩] j
    (pieces (iblk m c 0 t) (iblk m c 1 t) (k0_pay5 (F := Ideal))) (pieces_cover _ _ _ j)).trans (out_apply _ _ _ j)
  rw [show (k0_pay5 (F := Ideal)) j = 0 from by idx_vars j; pointwise [k0_pay5]] at key
  unfold pieces at key
  simp only [List.cons_append, List.nil_append] at key
  exact key

/-- The block of columns of a column. -/
def blk (l : Fin 3072) : Fin 3 := ⟨l.val / 1024, by omega⟩

/-- The column within its block. -/
def col (l : Fin 3072) : Fin 1024 := ⟨l.val % 1024, by omega⟩

/-- The blocks of the accumulator side by side. -/
theorem side_apply (z : Vec Ideal S3x1024x1024 .f32) (j : S1024x3072.Idx) :
    View.canon ([⟨Rect.unit ![0, 2048] ![1024, 1024] inb_S1024x3072_S1024x1024_0_2048, k0_pay4 (View.ld z (Rect.unit ![2, 0, 0] ![1, 1024, 1024] inb_S3x1024x1024_S1x1024x1024_2_0_0))⟩,
    ⟨Rect.unit ![0, 1024] ![1024, 1024] inb_S1024x3072_S1024x1024_0_1024, k0_pay3 (View.ld z (Rect.unit ![1, 0, 0] ![1, 1024, 1024] inb_S3x1024x1024_S1x1024x1024_1_0_0))⟩,
    ⟨Rect.unit ![0, 0] ![1024, 1024] inb_S1024x3072_S1024x1024_0_0, k0_pay2 (View.ld z (Rect.unit ![0, 0, 0] ![1, 1024, 1024] inb_S3x1024x1024_S1x1024x1024_0_0_0))⟩] : List (View.Piece (Elt Ideal) S1024x3072 .bf16)) j = z (ix3 (blk (j 1)) (j 0) (col (j 1))) := by
  canon_tiles x h
  all_goals
    idx_vars x
    pointwise [k0_pay2, k0_pay3, k0_pay4]
    refine congrArg z ?_
    blk_ext [blk, col]

/-- What the last grid point writes back is the accumulator, its blocks side by side. -/
theorem out_last (t : Fin cfg0.N) (h1 : t.val % 8 = 7) (j : S1024x3072.Idx) :
    (outsAt0 m c t.val t.isLt).1 j = (outsAt0 m c t.val t.isLt).2 (ix3 (blk (j 1)) (j 0) (col (j 1))) := by
  rw [outsAt0_C m c t (by omega) h1]
  frame_out
  simp only [View.readCov_eq_canon']
  exact side_apply _ j

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0] := (by decide +kernel : ∀ t : Fin grid0.N, _)

/-- The reference's gradient at one element, block of tokens by block of tokens. -/
theorem ref_apply (a : Vec Ideal S8192x1024 .bf16) (b : Vec Ideal S3x8192x1024 .bf16) (r : Fin 1024) (l : Fin 3072) :
    Cert.Reference10Ideal.Read.val_main_v16 a b (ix2 r l)
      = ∑ s : Fin 8, ∑ n : Fin 1024, (a (ix2 ⟨1024 * s.val + n.val, by omega⟩ r) : EReal) * b (ix3 (blk l) ⟨1024 * s.val + n.val, by omega⟩ (col l)) := by
  pointwise [Cert.Reference10Ideal.Read.val_main_v0, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16]
  rw [sum_tokens]
  refine Finset.sum_congr rfl fun s _ => Finset.sum_congr rfl fun n _ => ?_
  rw [mul_comm]
  refine congrArg₂ (· * ·) rfl ?_
  split_ifs with h1 h2 <;> refine congrArg b ?_ <;> blk_ext [blk, col]

def tLast : Fin cfg0.N := ⟨7, lt_of_lt_of_eq (by decide) N_0.symm⟩

/-- The accumulator after the last grid point: every block's product. -/
theorem acc_last (j : S3x1024x1024.Idx) :
    (outsAt0 m c tLast.val tLast.isLt).2 j
      = ∑ s : Fin 8, part (iblk m c 0 (s.cast N_0.symm)) (iblk m c 1 (s.cast N_0.symm)) j := by
  have h := Pipeline.eq_sum_fin_of_reset_step_apply_last (fun n h => ((outsAt0 m c n h).2 : S3x1024x1024.Idx → EReal)) 8 (fun _ => (0 : EReal))
    (fun t j => part (iblk m c 0 t) (iblk m c 1 t) j)
    (fun t h j => step_first m c t h j) (fun t h j => step_later m c t h j) (le_of_eq N_0) tLast N_0.symm j
  rw [zero_add] at h
  exact h.trans (Fintype.sum_equiv (finCongr N_0.symm) _ _ fun s => rfl).symm

/-- The kernel's whole result. -/
theorem final : (dats m 0 c).arrAt 2 cfg0.N
    = Cert.Reference10Ideal.Read.val_main_v16 (m ((c.tc : Thread nD τ).loc main_arg0)) (m ((c.tc : Thread nD τ).loc main_arg1)) := by
  refine (dats m 0 c).arrAt_eq_of_covers 2 _ (by decide +kernel) fun t hf y => ?_
  have ht : t = tLast := (by decide +kernel : ∀ t : Fin grid0.N, win0_2.flush t = true → t = tLast) t hf
  subst ht
  blk_simp
  idx_vars y
  rw [after0_2, out_last m c tLast (by decide)]
  have e : ((View.whole main_v0).slice (win0_2.rect tLast)).emb (ix2 y0 y1) = ix2 y0 y1 := by
    blk_ext [idx2]
  rw [e, ref_apply]
  refine (acc_last m c _).trans ?_
  unfold part
  refine Finset.sum_congr rfl fun s _ => Finset.sum_congr rfl fun n _ => ?_
  congr 1 <;> blk_ext [iblk, V, idx0, idx1, Fin.val_cast, blk, col]

/-- The kernel and the reference compute the same result. -/
theorem algebraic : algebraic_Kernel10Ideal_Reference10Ideal := by
  intro m g m' g' _ hargs
  refine ⟨fun c => (dats m 0 c).arrAt 2 cfg0.N, Cert.Kernel10Ideal.Value.run_blocks m g, ?_⟩
  refine (θ_run _ _ _).mono (fun r h c => ?_) (Cert.Reference10Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference10Ideal.Read.val_main_v16_eq _ _

end Cert.Proof.QkvDw
-- ==== Proof.QkvProj.lean ====
module

public import proofs.«01_k».proof.Defs
public import proofs.«01_k».proof.Proof.FfnSum
public import proofs.«01_k».proof.Proof.Gen.Kernel9.Frame
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

/-! The query, key and value projections: the kernel's products per block of 1024 tokens and 1024 columns against the reference's
one product over all 3072 columns. -/

@[expose] public section

set_option maxRecDepth 16384

noncomputable section

open Idealize.ShloMosaic Idealize.ShloMosaic.TcCoe Idealize.SL.Sem
open Idealize.ShloMosaic.Pipeline (Dat)

namespace Cert.Proof.QkvProj

open Cert.Kernel9Ideal Cert.Kernel9Ideal.Gen Cert.Proof.Ffn

/-- One element of projection `s`. -/
def prod (x0 : Vec Ideal S8192x1024 .bf16) (x1 : Vec Ideal S1024x3072 .bf16) (s : Fin 3) (t : Fin 8192) (l : Fin 1024) : EReal :=
  ∑ n : Fin 1024, (x0 (ix2 t n) : EReal) * x1 (ix2 n ⟨1024 * s.val + l.val, by omega⟩)

theorem out_apply (x0 x1 : Vec Ideal S1024x1024 .bf16) (r : Fin 1024) (l : Fin 1024) :
    out0_2 x0 x1 (ix3 0 r l) = ∑ n : Fin 1024, (x0 (ix2 r n) : EReal) * x1 (ix2 n l) := by
  unfold out0_2
  rw [View.canon_unit_zero (funext fun a => by fin_cases a <;> rfl)]
  pointwise [k0_pay1]

theorem ref_apply (x0 : Vec Ideal S8192x1024 .bf16) (x1 : Vec Ideal S1024x3072 .bf16) (s : Fin 3) (t : Fin 8192) (l : Fin 1024) :
    Cert.Reference9Ideal.Read.val_main_v10 x0 x1 (ix3 s t l) = prod x0 x1 s t l := by
  fin_cases s <;>
  · pointwise [Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10]
    unfold prod
    refine Finset.sum_congr rfl fun n _ => congrArg₂ (· * ·) (congrArg _ ?_) (congrArg _ ?_) <;>
    · funext a
      apply Fin.ext
      fin_cases a <;> first | rfl | (simp <;> omega)

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val / 8, t.val % 8, 0] := (by decide +kernel : ∀ t : Fin grid0.N, _)

theorem block (t : Fin cfg0.N) : t.val / 8 < 3 := by
  have h := t.isLt
  have hN : cfg0.N = 24 := by decide +kernel
  omega

/-- The kernel's whole result. -/
theorem final (m : (ℓ : Loc nD τ sig) → Buf (Elt Ideal) ℓ) (c : Dev nD) : (dats m 0 c).arrAt 2 cfg0.N = Cert.Reference9Ideal.Read.val_main_v10 (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : ((View.whole main_v0).slice (win0_2.rect t)).emb (ix3 y0 y1 y2) = ix3 ⟨t.val / 8, block t⟩ ⟨1024 * (t.val % 8) + y1.val, by omega⟩ y2 := by
    blk_ext [idx2 t]
  obtain rfl : y0 = 0 := Subsingleton.elim _ _
  rw [e, ref_apply, out_apply]
  unfold prod
  change (_ : EReal) = (_ : EReal)
  refine Finset.sum_congr rfl fun n _ => ?_
  congr 1 <;> blk_ext [iblk, V, idx0 t, idx1 t]

/-- The kernel and the reference compute the same result. -/
theorem algebraic : algebraic_Kernel9Ideal_Reference9Ideal := by
  intro m g m' g' _ hargs
  refine ⟨fun c => (dats m 0 c).arrAt 2 cfg0.N, Cert.Kernel9Ideal.Value.run_blocks m g, ?_⟩
  refine (θ_run _ _ _).mono (fun r h c => ?_) (Cert.Reference9Ideal.Value.run (F := Ideal) m' g')
  obtain ⟨h0, h1⟩ := hargs c
  refine ⟨((h c).1.trans ?_), (h c).2⟩
  show _ = (dats m 0 c).arrAt 2 cfg0.N
  rw [final m c, h0, h1]
  exact Cert.Reference9Ideal.Read.val_main_v10_eq _ _

end Cert.Proof.QkvProj
-- ==== Proof.lean ====
/- The claims about the backward calls: the frames, and the equalities with the references' gradients. -/
module

public import proofs.«01_k».proof.Defs
public import proofs.«01_k».proof.Proof.AdConv
public import proofs.«01_k».proof.Proof.AdFfnIn
public import proofs.«01_k».proof.Proof.AdFfnOut
public import proofs.«01_k».proof.Proof.AdFoxIn
public import proofs.«01_k».proof.Proof.AdGmIn
public import proofs.«01_k».proof.Proof.AdGmOut
public import proofs.«01_k».proof.Proof.AdModB
public import proofs.«01_k».proof.Proof.AdModW
public import proofs.«01_k».proof.Proof.AdSbIn
public import proofs.«01_k».proof.Proof.AdWhole
public import proofs.«01_k».proof.Proof.AttnOut
public import proofs.«01_k».proof.Proof.BackCols
public import proofs.«01_k».proof.Proof.CvNorm
public import proofs.«01_k».proof.Proof.CvOut
public import proofs.«01_k».proof.Proof.Dact
public import proofs.«01_k».proof.Proof.Dh
public import proofs.«01_k».proof.Proof.DwGate
public import proofs.«01_k».proof.Proof.DwOut
public import proofs.«01_k».proof.Proof.DwUp
public import proofs.«01_k».proof.Proof.FfnIn
public import proofs.«01_k».proof.Proof.FfnOut
public import proofs.«01_k».proof.Proof.FoxFrame
public import proofs.«01_k».proof.Proof.FoxKFrame
public import proofs.«01_k».proof.Proof.GateBack
public import proofs.«01_k».proof.Proof.GateDw
public import proofs.«01_k».proof.Proof.GateProj
public import proofs.«01_k».proof.Proof.Gen.Kernel
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel2.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel2Ideal.Frame
public import proofs.«01_k».proof.Proof.Gen.Kernel3.Frame
public import proofs.«01_k».proof.Proof.Gen.Kernel30.Frame
public import proofs.«01_k».proof.Proof.Gen.Kernel30Ideal.Frame
public import proofs.«01_k».proof.Proof.Gen.Kernel31.Frame
public import proofs.«01_k».proof.Proof.Gen.Kernel31Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel34.Frame
public import proofs.«01_k».proof.Proof.Gen.Kernel34Ideal.Frame
public import proofs.«01_k».proof.Proof.Gen.Kernel35.Frame
public import proofs.«01_k».proof.Proof.Gen.Kernel35Ideal.Frame
public import proofs.«01_k».proof.Proof.Gen.Kernel36.Frame
public import proofs.«01_k».proof.Proof.Gen.Kernel36Ideal.Frame
public import proofs.«01_k».proof.Proof.Gen.Kernel37.Frame
public import proofs.«01_k».proof.Proof.Gen.Kernel37Ideal.Frame
public import proofs.«01_k».proof.Proof.Gen.Kernel38.Frame
public import proofs.«01_k».proof.Proof.Gen.Kernel38Ideal.Frame
public import proofs.«01_k».proof.Proof.Gen.Kernel39.Frame
public import proofs.«01_k».proof.Proof.Gen.Kernel39Ideal.Frame
public import proofs.«01_k».proof.Proof.Gen.Kernel3Ideal.Frame
public import proofs.«01_k».proof.Proof.Gen.Kernel4.Frame
public import proofs.«01_k».proof.Proof.Gen.Kernel40.Frame
public import proofs.«01_k».proof.Proof.Gen.Kernel40Ideal.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.KernelIdeal
public import proofs.«01_k».proof.Proof.Gen.Pre_finite_gradient
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference2Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Proof.Gen.Reference33Ideal.Run
public import proofs.«01_k».proof.Proof.Gen.Reference34Ideal.Run
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Proof.Gen.Reference39Ideal.Run
public import proofs.«01_k».proof.Proof.Gen.Reference3Ideal.Run
public import proofs.«01_k».proof.Proof.Gen.Reference40Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.GmOut
public import proofs.«01_k».proof.Proof.GradCols
public import proofs.«01_k».proof.Proof.LnFwd
public import proofs.«01_k».proof.Proof.LnLoss
public import proofs.«01_k».proof.Proof.ModBack
public import proofs.«01_k».proof.Proof.ModFwd
public import proofs.«01_k».proof.Proof.ModGrad
public import proofs.«01_k».proof.Proof.Modulate
public import proofs.«01_k».proof.Proof.OutBwd
public import proofs.«01_k».proof.Proof.OutDwB
public import proofs.«01_k».proof.Proof.OutDwF
public import proofs.«01_k».proof.Proof.ProjCols
public import proofs.«01_k».proof.Proof.QkvDh
public import proofs.«01_k».proof.Proof.QkvDw
public import proofs.«01_k».proof.Proof.QkvProj
public import proofs.«01_k».proof.Proof.Gen.On_gate_blocks
public import Idealize.ShloMosaic.Adequacy
public import Idealize.ShloMosaic.Init

@[expose] public section

namespace Cert.Proof

open Idealize.ShloMosaic Idealize.SL.Sem

theorem frame_KernelIdeal : Cert.quiescent_KernelIdeal := fun m ρ _ => FoxFrame.frame m ρ

theorem frame_Kernel : Cert.quiescent_Kernel := fun m ρ _ => FoxKFrame.frame m ρ

/-- The reference of program 2 runs and leaves its arguments. -/
theorem frame_Reference2Ideal : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

/-- The reference of program 3 runs and leaves its arguments. -/
theorem frame_Reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference of program 4 runs and leaves its arguments. -/
theorem frame_Reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The reference of program 5 runs and leaves its arguments. -/
theorem frame_Reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The reference of program 6 runs and leaves its arguments. -/
theorem frame_Reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The reference of program 7 runs and leaves its arguments. -/
theorem frame_Reference7Ideal : Cert.quiescent_Reference7Ideal := fun m ρ _ =>
  (θ_run Cert.Reference7Ideal.defs _ _).mono (fun r h => ⟨fun c => (h c).2.2.2, sem_eq_zero_of_no_sems (by decide) r.2⟩) (Cert.Reference7Ideal.Value.run (F := Ideal) m ρ)

/-- The reference of program 8 runs and leaves its arguments. -/
theorem frame_Reference8Ideal : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- The reference of program 9 runs and leaves its arguments. -/
theorem frame_Reference9Ideal : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The reference of program 10 runs and leaves its arguments. -/
theorem frame_Reference10Ideal : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- The reference of program 11 runs and leaves its arguments. -/
theorem frame_Reference11Ideal : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- The reference of program 12 runs and leaves its arguments. -/
theorem frame_Reference12Ideal : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- The reference of program 13 runs and leaves its arguments. -/
theorem frame_Reference13Ideal : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

/-- The reference of program 14 runs and leaves its arguments. -/
theorem frame_Reference14Ideal : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

/-- The reference of program 15 runs and leaves its arguments. -/
theorem frame_Reference15Ideal : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)

/-- The reference of program 16 runs and leaves its arguments. -/
theorem frame_Reference16Ideal : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

/-- The reference of program 17 runs and leaves its arguments. -/
theorem frame_Reference17Ideal : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)

/-- The reference of program 18 runs and leaves its arguments. -/
theorem frame_Reference18Ideal : Cert.quiescent_Reference18Ideal := fun m ρ _ =>
  (θ_run Cert.Reference18Ideal.defs _ _).mono (fun r h => ⟨fun c => (h c).2, sem_eq_zero_of_no_sems (by decide) r.2⟩) (Cert.Reference18Ideal.Value.run (F := Ideal) m ρ)

/-- The reference of program 19 runs and leaves its arguments. -/
theorem frame_Reference19Ideal : Cert.quiescent_Reference19Ideal := fun m ρ _ =>
  (θ_run Cert.Reference19Ideal.defs _ _).mono (fun r h => ⟨fun c => (h c).2, sem_eq_zero_of_no_sems (by decide) r.2⟩) (Cert.Reference19Ideal.Value.run (F := Ideal) m ρ)

/-- The reference of program 20 runs and leaves its arguments. -/
theorem frame_Reference20Ideal : Cert.quiescent_Reference20Ideal := fun m ρ _ =>
  (θ_run Cert.Reference20Ideal.defs _ _).mono (fun r h => ⟨fun c => (h c).2, sem_eq_zero_of_no_sems (by decide) r.2⟩) (Cert.Reference20Ideal.Value.run (F := Ideal) m ρ)

/-- The reference of program 21 runs and leaves its arguments. -/
theorem frame_Reference21Ideal : Cert.quiescent_Reference21Ideal := fun m ρ _ =>
  (θ_run Cert.Reference21Ideal.defs _ _).mono (fun r h => ⟨fun c => (h c).2.2.2.2, sem_eq_zero_of_no_sems (by decide) r.2⟩) (Cert.Reference21Ideal.Value.run (F := Ideal) m ρ)

/-- The reference of program 22 runs and leaves its arguments. -/
theorem frame_Reference22Ideal : Cert.quiescent_Reference22Ideal := fun m ρ _ =>
  (θ_run Cert.Reference22Ideal.defs _ _).mono (fun r h => ⟨fun c => (h c).2.2.2.2, sem_eq_zero_of_no_sems (by decide) r.2⟩) (Cert.Reference22Ideal.Value.run (F := Ideal) m ρ)

/-- The reference of program 23 runs and leaves its arguments. -/
theorem frame_Reference23Ideal : Cert.quiescent_Reference23Ideal := fun m ρ _ =>
  (θ_run Cert.Reference23Ideal.defs _ _).mono (fun r h => ⟨fun c => (h c).2.2.2.2, sem_eq_zero_of_no_sems (by decide) r.2⟩) (Cert.Reference23Ideal.Value.run (F := Ideal) m ρ)

/-- The reference of program 24 runs and leaves its arguments. -/
theorem frame_Reference24Ideal : Cert.quiescent_Reference24Ideal := fun m ρ _ =>
  (θ_run Cert.Reference24Ideal.defs _ _).mono (fun r h => ⟨fun c => (h c).2.2.2.2, sem_eq_zero_of_no_sems (by decide) r.2⟩) (Cert.Reference24Ideal.Value.run (F := Ideal) m ρ)

/-- The reference of program 25 runs and leaves its arguments. -/
theorem frame_Reference25Ideal : Cert.quiescent_Reference25Ideal := fun m ρ _ =>
  (θ_run Cert.Reference25Ideal.defs _ _).mono (fun r h => ⟨fun c => (h c).2.2.2.2, sem_eq_zero_of_no_sems (by decide) r.2⟩) (Cert.Reference25Ideal.Value.run (F := Ideal) m ρ)

/-- The reference of program 26 runs and leaves its arguments. -/
theorem frame_Reference26Ideal : Cert.quiescent_Reference26Ideal := fun m ρ _ =>
  (θ_run Cert.Reference26Ideal.defs _ _).mono (fun r h => ⟨fun c => (h c).2.2.2.2, sem_eq_zero_of_no_sems (by decide) r.2⟩) (Cert.Reference26Ideal.Value.run (F := Ideal) m ρ)

/-- The reference of program 27 runs and leaves its arguments. -/
theorem frame_Reference27Ideal : Cert.quiescent_Reference27Ideal := fun m ρ _ =>
  (θ_run Cert.Reference27Ideal.defs _ _).mono (fun r h => ⟨fun c => (h c).2.2.2.2, sem_eq_zero_of_no_sems (by decide) r.2⟩) (Cert.Reference27Ideal.Value.run (F := Ideal) m ρ)

/-- The reference of program 28 runs and leaves its arguments. -/
theorem frame_Reference28Ideal : Cert.quiescent_Reference28Ideal := fun m ρ _ =>
  (θ_run Cert.Reference28Ideal.defs _ _).mono (fun r h => ⟨fun c => (h c).2.2.2.2, sem_eq_zero_of_no_sems (by decide) r.2⟩) (Cert.Reference28Ideal.Value.run (F := Ideal) m ρ)

/-- The reference of program 29 runs and leaves its arguments. -/
theorem frame_Reference29Ideal : Cert.quiescent_Reference29Ideal := fun m ρ _ =>
  (θ_run Cert.Reference29Ideal.defs _ _).mono (fun r h => ⟨fun c => (h c).2.2.2.2, sem_eq_zero_of_no_sems (by decide) r.2⟩) (Cert.Reference29Ideal.Value.run (F := Ideal) m ρ)

/-- The reference of program 30 runs and leaves its arguments. -/
theorem frame_Reference30Ideal : Cert.quiescent_Reference30Ideal := fun m ρ _ =>
  (θ_run Cert.Reference30Ideal.defs _ _).mono (fun r h => ⟨fun c => (h c).2.2.2.2, sem_eq_zero_of_no_sems (by decide) r.2⟩) (Cert.Reference30Ideal.Value.run (F := Ideal) m ρ)

/-- The reference of program 31 runs and leaves its arguments. -/
theorem frame_Reference31Ideal : Cert.quiescent_Reference31Ideal := fun m ρ _ =>
  (θ_run Cert.Reference31Ideal.defs _ _).mono (fun r h => ⟨fun c => (h c).2.2.2, sem_eq_zero_of_no_sems (by decide) r.2⟩) (Cert.Reference31Ideal.Value.run (F := Ideal) m ρ)

/-- The reference of program 32 runs and leaves its arguments. -/
theorem frame_Reference32Ideal : Cert.quiescent_Reference32Ideal := fun m ρ _ =>
  (θ_run Cert.Reference32Ideal.defs _ _).mono (fun r h => ⟨fun c => (h c).2.2, sem_eq_zero_of_no_sems (by decide) r.2⟩) (Cert.Reference32Ideal.Value.run (F := Ideal) m ρ)

/-- The reference of program 33 runs and leaves its arguments. -/
theorem frame_Reference33Ideal : Cert.quiescent_Reference33Ideal := fun m ρ _ =>
  (θ_run Cert.Reference33Ideal.defs _ _).mono (fun r h => ⟨fun c => (h c).2, sem_eq_zero_of_no_sems (by decide) r.2⟩) (Cert.Reference33Ideal.Value.run (F := Ideal) m ρ)

/-- The reference of program 34 runs and leaves its arguments. -/
theorem frame_Reference34Ideal : Cert.quiescent_Reference34Ideal := fun m ρ _ =>
  (θ_run Cert.Reference34Ideal.defs _ _).mono (fun r h => ⟨fun c => (h c).2, sem_eq_zero_of_no_sems (by decide) r.2⟩) (Cert.Reference34Ideal.Value.run (F := Ideal) m ρ)

/-- The reference of program 35 runs and leaves its arguments. -/
theorem frame_Reference35Ideal : Cert.quiescent_Reference35Ideal := fun m ρ _ =>
  (θ_run Cert.Reference35Ideal.defs _ _).mono (fun r h => ⟨fun c => (h c).2.2, sem_eq_zero_of_no_sems (by decide) r.2⟩) (Cert.Reference35Ideal.Value.run (F := Ideal) m ρ)

/-- The reference of program 36 runs and leaves its arguments. -/
theorem frame_Reference36Ideal : Cert.quiescent_Reference36Ideal := fun m ρ _ =>
  (θ_run Cert.Reference36Ideal.defs _ _).mono (fun r h => ⟨fun c => (h c).2.2, sem_eq_zero_of_no_sems (by decide) r.2⟩) (Cert.Reference36Ideal.Value.run (F := Ideal) m ρ)

/-- The reference of program 37 runs and leaves its arguments. -/
theorem frame_Reference37Ideal : Cert.quiescent_Reference37Ideal := fun m ρ _ =>
  (θ_run Cert.Reference37Ideal.defs _ _).mono (fun r h => ⟨fun c => (h c).2, sem_eq_zero_of_no_sems (by decide) r.2⟩) (Cert.Reference37Ideal.Value.run (F := Ideal) m ρ)

/-- The reference of program 38 runs and leaves its arguments. -/
theorem frame_Reference38Ideal : Cert.quiescent_Reference38Ideal := fun m ρ _ =>
  (θ_run Cert.Reference38Ideal.defs _ _).mono (fun r h => ⟨fun c => (h c).2, sem_eq_zero_of_no_sems (by decide) r.2⟩) (Cert.Reference38Ideal.Value.run (F := Ideal) m ρ)

/-- The reference of program 39 runs and leaves its arguments. -/
theorem frame_Reference39Ideal : Cert.quiescent_Reference39Ideal := fun m ρ _ =>
  (θ_run Cert.Reference39Ideal.defs _ _).mono (fun r h => ⟨fun c => (h c).2, sem_eq_zero_of_no_sems (by decide) r.2⟩) (Cert.Reference39Ideal.Value.run (F := Ideal) m ρ)

/-- The reference of program 40 runs and leaves its arguments. -/
theorem frame_Reference40Ideal : Cert.quiescent_Reference40Ideal := fun m ρ _ =>
  (θ_run Cert.Reference40Ideal.defs _ _).mono (fun r h => ⟨fun c => (h c).2.2.2.2, sem_eq_zero_of_no_sems (by decide) r.2⟩) (Cert.Reference40Ideal.Value.run (F := Ideal) m ρ)

theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Kernel39.Gen.facts,
    Cert.Kernel39Ideal.Gen.facts,
    Cert.Reference39Ideal.Gen.facts,
    Cert.Kernel40.Gen.facts,
    Cert.Kernel40Ideal.Gen.facts,
    Cert.Reference40Ideal.Gen.facts,
    Cert.Pre_finite_parts.Gen.facts,
    Cert.Pre_finite_gradient.Gen.facts,
    Cert.On_gate_blocks.Gen.facts,
    frame_Kernel,
    frame_KernelIdeal,
    fun m ρ _ => Cert.Kernel2.Gen.frame m ρ,
    fun m ρ _ => Cert.Kernel2Ideal.Gen.frame m ρ,
    fun m ρ _ => Cert.Kernel2Ideal.Gen.frame m ρ,
    frame_Reference2Ideal,
    fun m ρ _ => frame_Reference2Ideal m ρ trivial,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ _ => Cert.Kernel9.Gen.frame m ρ,
    fun m ρ _ => Cert.Kernel9Ideal.Gen.frame m ρ,
    frame_Reference9Ideal,
    fun m ρ _ => Cert.Kernel10.Gen.frame m ρ,
    fun m ρ _ => Cert.Kernel10Ideal.Gen.frame m ρ,
    frame_Reference10Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15.Gen.frame m ρ,
    fun m ρ _ => Cert.Kernel15Ideal.Gen.frame m ρ,
    frame_Reference15Ideal,
    fun m ρ _ => Cert.Kernel16.Gen.frame m ρ,
    fun m ρ _ => Cert.Kernel16Ideal.Gen.frame m ρ,
    frame_Reference16Ideal,
    fun m ρ _ => Cert.Kernel17.Gen.frame m ρ,
    fun m ρ _ => Cert.Kernel17Ideal.Gen.frame m ρ,
    frame_Reference17Ideal,
    fun m ρ _ => Cert.Kernel18.Gen.frame m ρ,
    fun m ρ _ => Cert.Kernel18Ideal.Gen.frame m ρ,
    frame_Reference18Ideal,
    fun m ρ _ => Cert.Kernel19.Gen.frame m ρ,
    fun m ρ _ => Cert.Kernel19Ideal.Gen.frame m ρ,
    frame_Reference19Ideal,
    fun m ρ _ => Cert.Kernel20.Gen.frame m ρ,
    fun m ρ _ => Cert.Kernel20Ideal.Gen.frame m ρ,
    frame_Reference20Ideal,
    fun m ρ _ => Cert.Kernel21.Gen.frame m ρ,
    fun m ρ _ => Cert.Kernel21Ideal.Gen.frame m ρ,
    frame_Reference21Ideal,
    fun m ρ _ => Cert.Kernel22.Gen.frame m ρ,
    fun m ρ _ => Cert.Kernel22Ideal.Gen.frame m ρ,
    frame_Reference22Ideal,
    fun m ρ _ => Cert.Kernel23.Gen.frame m ρ,
    fun m ρ _ => Cert.Kernel23Ideal.Gen.frame m ρ,
    frame_Reference23Ideal,
    fun m ρ _ => Cert.Kernel24.Gen.frame m ρ,
    fun m ρ _ => Cert.Kernel24Ideal.Gen.frame m ρ,
    frame_Reference24Ideal,
    fun m ρ _ => Cert.Kernel25.Gen.frame m ρ,
    fun m ρ _ => Cert.Kernel25Ideal.Gen.frame m ρ,
    frame_Reference25Ideal,
    fun m ρ _ => Cert.Kernel26.Gen.frame m ρ,
    fun m ρ _ => Cert.Kernel26Ideal.Gen.frame m ρ,
    frame_Reference26Ideal,
    fun m ρ _ => Cert.Kernel27.Gen.frame m ρ,
    fun m ρ _ => Cert.Kernel27Ideal.Gen.frame m ρ,
    frame_Reference27Ideal,
    fun m ρ _ => Cert.Kernel28.Gen.frame m ρ,
    fun m ρ _ => Cert.Kernel28Ideal.Gen.frame m ρ,
    frame_Reference28Ideal,
    fun m ρ _ => Cert.Kernel29.Gen.frame m ρ,
    fun m ρ _ => Cert.Kernel29Ideal.Gen.frame m ρ,
    frame_Reference29Ideal,
    fun m ρ _ => Cert.Kernel30.Gen.frame m ρ,
    fun m ρ _ => Cert.Kernel30Ideal.Gen.frame m ρ,
    frame_Reference30Ideal,
    fun m ρ _ => Cert.Kernel31.Gen.frame m ρ,
    fun m ρ _ => Cert.Kernel31Ideal.Gen.frame m ρ,
    frame_Reference31Ideal,
    fun m ρ _ => Cert.Kernel32.Gen.frame m ρ,
    fun m ρ _ => Cert.Kernel32Ideal.Gen.frame m ρ,
    frame_Reference32Ideal,
    fun m ρ _ => Cert.Kernel33.Gen.frame m ρ,
    fun m ρ _ => Cert.Kernel33Ideal.Gen.frame m ρ,
    frame_Reference33Ideal,
    fun m ρ _ => Cert.Kernel34.Gen.frame m ρ,
    fun m ρ _ => Cert.Kernel34Ideal.Gen.frame m ρ,
    frame_Reference34Ideal,
    fun m ρ _ => Cert.Kernel35.Gen.frame m ρ,
    fun m ρ _ => Cert.Kernel35Ideal.Gen.frame m ρ,
    frame_Reference35Ideal,
    fun m ρ _ => Cert.Kernel36.Gen.frame m ρ,
    fun m ρ _ => Cert.Kernel36Ideal.Gen.frame m ρ,
    frame_Reference36Ideal,
    fun m ρ _ => Cert.Kernel37.Gen.frame m ρ,
    fun m ρ _ => Cert.Kernel37Ideal.Gen.frame m ρ,
    frame_Reference37Ideal,
    fun m ρ _ => Cert.Kernel38.Gen.frame m ρ,
    fun m ρ _ => Cert.Kernel38Ideal.Gen.frame m ρ,
    frame_Reference38Ideal,
    fun m ρ _ => Cert.Kernel39.Gen.frame m ρ,
    fun m ρ _ => Cert.Kernel39Ideal.Gen.frame m ρ,
    frame_Reference39Ideal,
    fun m ρ _ => Cert.Kernel40.Gen.frame m ρ,
    fun m ρ _ => Cert.Kernel40Ideal.Gen.frame m ρ,
    fun m ρ _ => Cert.Kernel40Ideal.Gen.frame m ρ,
    frame_Reference40Ideal,
    fun m ρ _ => frame_Reference40Ideal m ρ trivial,
    trivial,
    trivial,
    Dact.algebraic,
    trivial,
    Dh.algebraic,
    trivial,
    DwOut.algebraic,
    trivial,
    DwUp.algebraic,
    trivial,
    DwGate.algebraic,
    trivial,
    FfnIn.algebraic,
    trivial,
    FfnOut.algebraic,
    trivial,
    QkvProj.algebraic,
    trivial,
    QkvDw.algebraic,
    trivial,
    QkvDh.algebraic,
    trivial,
    GmOut.algebraic,
    trivial,
    AttnOut.algebraic,
    trivial,
    CvOut.algebraic,
    trivial,
    OutBwd.algebraic,
    trivial,
    OutDwB.algebraic,
    trivial,
    OutDwF.algebraic,
    trivial,
    ProjCols.algebraic,
    trivial,
    GradCols.algebraic,
    trivial,
    BackCols.algebraic,
    trivial,
    AdFfnIn.algebraic,
    trivial,
    AdFfnOut.algebraic,
    trivial,
    AdGmIn.algebraic,
    trivial,
    AdGmOut.algebraic,
    trivial,
    AdFoxIn.algebraic,
    trivial,
    AdSbIn.algebraic,
    trivial,
    AdModW.algebraic,
    trivial,
    AdWhole.algebraic,
    trivial,
    AdConv.algebraic,
    trivial,
    AdModB.algebraic,
    trivial,
    ModBack.algebraic,
    trivial,
    ModGrad.algebraic,
    trivial,
    Modulate.algebraic,
    trivial,
    ModFwd.algebraic,
    trivial,
    LnFwd.algebraic,
    trivial,
    LnLoss.algebraic,
    trivial,
    GateProj.algebraic,
    trivial,
    GateDw.algebraic,
    trivial,
    GateBack.algebraic,
    trivial,
    CvNorm.algebraic⟩

end Cert.Proof

end
